-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v9_0)) (v1 : (c : Dev Cert.Kernel2Ideal.nD) → Buf (Elt Ideal) ((c.tc : Thread Cert.Kernel2Ideal.nD Cert.Kernel2Ideal.τ).loc Cert.Kernel2Ideal.main_v9_1)) (v2 : (c : Dev Cert.Kernel2Ideal.nD) → Buf (Elt Ideal) ((c.tc : Thread Cert.Kernel2Ideal.nD Cert.Kernel2Ideal.τ).loc Cert.Kernel2Ideal.main_v9_2)) (v3 : (c : Dev Cert.Kernel2Ideal.nD) → Buf (Elt Ideal) ((c.tc : Thread Cert.Kernel2Ideal.nD Cert.Kernel2Ideal.τ).loc Cert.Kernel2Ideal.main_v9_3)) (v4 : (c : Dev Cert.Kernel2Ideal.nD) → Buf (Elt Ideal) ((c.tc : Thread Cert.Kernel2Ideal.nD Cert.Kernel2Ideal.τ).loc Cert.Kernel2Ideal.main_v9_4)) (v5 : (c : Dev Cert.Kernel2Ideal.nD) → Buf (Elt Ideal) ((c.tc : Thread Cert.Kernel2Ideal.nD Cert.Kernel2Ideal.τ).loc Cert.Kernel2Ideal.main_v9_5)) (v6 : (c : Dev Cert.Kernel2Ideal.nD) → Buf (Elt Ideal) ((c.tc : Thread Cert.Kernel2Ideal.nD Cert.Kernel2Ideal.τ).loc Cert.Kernel2Ideal.main_v9_6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v9_0) = v0 c
          ∧ r.2.mem ((c.tc : Thread Cert.Kernel2Ideal.nD Cert.Kernel2Ideal.τ).loc Cert.Kernel2Ideal.main_v9_1) = v1 c
          ∧ r.2.mem ((c.tc : Thread Cert.Kernel2Ideal.nD Cert.Kernel2Ideal.τ).loc Cert.Kernel2Ideal.main_v9_2) = v2 c
          ∧ r.2.mem ((c.tc : Thread Cert.Kernel2Ideal.nD Cert.Kernel2Ideal.τ).loc Cert.Kernel2Ideal.main_v9_3) = v3 c
          ∧ r.2.mem ((c.tc : Thread Cert.Kernel2Ideal.nD Cert.Kernel2Ideal.τ).loc Cert.Kernel2Ideal.main_v9_4) = v4 c
          ∧ r.2.mem ((c.tc : Thread Cert.Kernel2Ideal.nD Cert.Kernel2Ideal.τ).loc Cert.Kernel2Ideal.main_v9_5) = v5 c
          ∧ r.2.mem ((c.tc : Thread Cert.Kernel2Ideal.nD Cert.Kernel2Ideal.τ).loc Cert.Kernel2Ideal.main_v9_6) = v6 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v53) = v0 c
          ∧ r.2.mem ((c.tc : Thread Cert.Reference2Ideal.nD Cert.Reference2Ideal.τ).loc Cert.Reference2Ideal.main_v55) = v1 c
          ∧ r.2.mem ((c.tc : Thread Cert.Reference2Ideal.nD Cert.Reference2Ideal.τ).loc Cert.Reference2Ideal.main_v59) = v2 c
          ∧ r.2.mem ((c.tc : Thread Cert.Reference2Ideal.nD Cert.Reference2Ideal.τ).loc Cert.Reference2Ideal.main_v61) = v3 c
          ∧ r.2.mem ((c.tc : Thread Cert.Reference2Ideal.nD Cert.Reference2Ideal.τ).loc Cert.Reference2Ideal.main_v52) = v4 c
          ∧ r.2.mem ((c.tc : Thread Cert.Reference2Ideal.nD Cert.Reference2Ideal.τ).loc Cert.Reference2Ideal.main_v69) = v5 c
          ∧ r.2.mem ((c.tc : Thread Cert.Reference2Ideal.nD Cert.Reference2Ideal.τ).loc Cert.Reference2Ideal.main_v77) = v6 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)) →
    ∃ (v0 : (c : Dev Cert.Kernel3Ideal.nD) → Buf (Elt Ideal) ((c.tc : Thread Cert.Kernel3Ideal.nD Cert.Kernel3Ideal.τ).loc Cert.Kernel3Ideal.main_v13)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v13) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v50) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_finite.lean ====
abbrev S8x2048x512 : Shape := ⟨3, ![8, 2048, 512]⟩
abbrev S1x512x1024 : Shape := ⟨3, ![1, 512, 1024]⟩
abbrev S_ : Shape := ⟨0, ![]⟩

class Facts : Prop where
  bcast_S_S8x2048x512 : S_.BroadcastsInDim S8x2048x512 (![] : Fin 0 → Fin S8x2048x512.rank)

variable [Facts]

def fn {F : FTy → Type} [FloatOps F] (main_arg0 : FVec F S8x2048x512 .f32) (main_arg1 : FVec F S1x512x1024 .f32) : IVec S8x2048x512 1 :=
  let main_v0 : FVec F S8x2048x512 .f32 := Host.absf main_arg0
  let main_cst : FVec F S_ .f32 := constant S_ .f32 0x7F800000#32
  let main_v1 : FVec F S8x2048x512 .f32 := broadcastInDim S8x2048x512 ![] bcast_S_S8x2048x512 main_cst
  let main_v2 : IVec S8x2048x512 1 := cmpf .olt main_v0 main_v1
  main_v2
-- ==== Kernel.lean ====
abbrev S8x2048x512 : Shape := ⟨3, ![8, 2048, 512]⟩
abbrev S1x512x1024 : Shape := ⟨3, ![1, 512, 1024]⟩
abbrev S1040x2048 : Shape := ⟨2, ![1040, 2048]⟩
abbrev S_ : Shape := ⟨0, ![]⟩
abbrev S1040x4096 : Shape := ⟨2, ![1040, 4096]⟩
abbrev S512x512 : Shape := ⟨2, ![512, 512]⟩
abbrev S512x1024 : Shape := ⟨2, ![512, 1024]⟩
abbrev S16384x512 : Shape := ⟨2, ![16384, 512]⟩
abbrev S16384x1024 : Shape := ⟨2, ![16384, 1024]⟩
abbrev S2048x512 : Shape := ⟨2, ![2048, 512]⟩
abbrev S2048x1024 : Shape := ⟨2, ![2048, 1024]⟩
abbrev S4096x512 : Shape := ⟨2, ![4096, 512]⟩
abbrev S1040x512 : Shape := ⟨2, ![1040, 512]⟩
abbrev S2048x128 : Shape := ⟨2, ![2048, 128]⟩
abbrev S128x128 : Shape := ⟨2, ![128, 128]⟩
abbrev S1024x512 : Shape := ⟨2, ![1024, 512]⟩
abbrev S8x512 : Shape := ⟨2, ![8, 512]⟩
abbrev S8x512x1 : Shape := ⟨3, ![8, 512, 1]⟩
abbrev S1024x1024 : Shape := ⟨2, ![1024, 1024]⟩

abbrev nBuf : Space → Nat
  | .hbm => 83
  | .vmem => 10
  | .smem => 0
  | _ => 0

abbrev bufTy : (tb : Table) → Fin (tcTables nBuf tb) → BufTy
  | .hbm, ⟨0, _⟩ => ⟨S8x2048x512, .f32⟩
  | .hbm, ⟨1, _⟩ => ⟨S1x512x1024, .f32⟩
  | .hbm, ⟨2, _⟩ => ⟨S1040x2048, .i32⟩
  | .hbm, ⟨3, _⟩ => ⟨S1040x2048, .i32⟩
  | .hbm, ⟨4, _⟩ => ⟨S1040x2048, .i32⟩
  | .hbm, ⟨5, _⟩ => ⟨S_, .i32⟩
  | .hbm, ⟨6, _⟩ => ⟨S1040x2048, .i32⟩
  | .hbm, ⟨7, _⟩ => ⟨S1040x2048, .i32⟩
  | .hbm, ⟨8, _⟩ => ⟨S_, .i32⟩
  | .hbm, ⟨9, _⟩ => ⟨S1040x2048, .i32⟩
  | .hbm, ⟨10, _⟩ => ⟨S1040x2048, .i1⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S1040x2048, .f32⟩
  | .hbm, ⟨17, _⟩ => ⟨S1040x2048, .f32⟩
  | .hbm, ⟨18, _⟩ => ⟨S1040x2048, .f32⟩
  | .hbm, ⟨19, _⟩ => ⟨S_, .f32⟩
  | .hbm, ⟨20, _⟩ => ⟨S1040x2048, .f32⟩
  | .hbm, ⟨21, _⟩ => ⟨S1040x2048, .f32⟩
  | .hbm, ⟨22, _⟩ => ⟨S_, .f32⟩
  | .hbm, ⟨23, _⟩ => ⟨S1040x2048, .f32⟩
  | .hbm, ⟨24, _⟩ => ⟨S1040x2048, .f32⟩
  | .hbm, ⟨25, _⟩ => ⟨S1040x2048, .f32⟩
  | .hbm, ⟨26, _⟩ => ⟨S_, .i32⟩
  | .hbm, ⟨27, _⟩ => ⟨S1040x2048, .i32⟩
  | .hbm, ⟨28, _⟩ => ⟨S1040x2048, .i32⟩
  | .hbm, ⟨29, _⟩ => ⟨S_, .i32⟩
  | .hbm, ⟨30, _⟩ => ⟨S1040x2048, .i32⟩
  | .hbm, ⟨31, _⟩ => ⟨S1040x2048, .i1⟩
  | .hbm, ⟨32, _⟩ => ⟨S1040x2048, .i1⟩
  | .hbm, ⟨33, _⟩ => ⟨S1040x2048, .f32⟩
  | .hbm, ⟨34, _⟩ => ⟨S1040x2048, .f32⟩
  | .hbm, ⟨35, _⟩ => ⟨S1040x4096, .f32⟩
  | .hbm, ⟨36, _⟩ => ⟨S512x512, .i32⟩
  | .hbm, ⟨37, _⟩ => ⟨S512x512, .i32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .i32⟩
  | .hbm, ⟨44, _⟩ => ⟨S512x512, .i32⟩
  | .hbm, ⟨45, _⟩ => ⟨S512x512, .i32⟩
  | .hbm, ⟨46, _⟩ => ⟨S_, .i32⟩
  | .hbm, ⟨47, _⟩ => ⟨S512x512, .i32⟩
  | .hbm, ⟨48, _⟩ => ⟨S512x512, .i32⟩
  | .hbm, ⟨49, _⟩ => ⟨S512x512, .i32⟩
  | .hbm, ⟨50, _⟩ => ⟨S_, .i32⟩
  | .hbm, ⟨51, _⟩ => ⟨S512x512, .i32⟩
  | .hbm, ⟨52, _⟩ => ⟨S512x512, .i32⟩
  | .hbm, ⟨53, _⟩ => ⟨S512x512, .f32⟩
  | .hbm, ⟨54, _⟩ => ⟨S512x512, .f32⟩
  | .hbm, ⟨55, _⟩ => ⟨S512x512, .f32⟩
  | .hbm, ⟨56, _⟩ => ⟨S_, .f32⟩
  | .hbm, ⟨57, _⟩ => ⟨S512x512, .f32⟩
  | .hbm, ⟨58, _⟩ => ⟨S512x512, .f32⟩
  | .hbm, ⟨59, _⟩ => ⟨S_, .i32⟩
  | .hbm, ⟨60, _⟩ => ⟨S512x512, .i32⟩
  | .hbm, ⟨61, _⟩ => ⟨S512x512, .i32⟩
  | .hbm, ⟨62, _⟩ => ⟨S_, .i32⟩
  | .hbm, ⟨63, _⟩ => ⟨S512x512, .i32⟩
  | .hbm, ⟨64, _⟩ => ⟨S512x512, .i32⟩
  | .hbm, ⟨65, _⟩ => ⟨S512x512, .i1⟩
  | .hbm, ⟨66, _⟩ => ⟨S_, .f32⟩
  | .hbm, ⟨67, _⟩ => ⟨S512x512, .f32⟩
  | .hbm, ⟨68, _⟩ => ⟨S512x512, .f32⟩
  | .hbm, ⟨69, _⟩ => ⟨S512x512, .f32⟩
  | .hbm, ⟨70, _⟩ => ⟨S512x512, .f32⟩
  | .hbm, ⟨71, _⟩ => ⟨S512x512, .f32⟩
  | .hbm, ⟨72, _⟩ => ⟨S512x512, .f32⟩
  | .hbm, ⟨73, _⟩ => ⟨S512x1024, .f32⟩
  | .hbm, ⟨74, _⟩ => ⟨S_, .f32⟩
  | .hbm, ⟨75, _⟩ => ⟨S512x1024, .f32⟩
  | .hbm, ⟨76, _⟩ => ⟨S512x1024, .f32⟩
  | .hbm, ⟨77, _⟩ => ⟨S1040x4096, .bf16⟩
  | .hbm, ⟨78, _⟩ => ⟨S512x1024, .bf16⟩
  | .hbm, ⟨79, _⟩ => ⟨S16384x512, .f32⟩
  | .hbm, ⟨80, _⟩ => ⟨S16384x512, .bf16⟩
  | .hbm, ⟨81, _⟩ => ⟨S512x1024, .f32⟩
  | .hbm, ⟨82, _⟩ => ⟨S16384x1024, .bf16⟩
  | .local _ .vmem, ⟨0, _⟩ => ⟨S2048x512, .bf16⟩
  | .local _ .vmem, ⟨1, _⟩ => ⟨S2048x512, .bf16⟩
  | .local _ .vmem, ⟨2, _⟩ => ⟨S1040x4096, .bf16⟩
  | .local _ .vmem, ⟨3, _⟩ => ⟨S512x1024, .bf16⟩
  | .local _ .vmem, ⟨4, _⟩ => ⟨S512x1024, .f32⟩
  | .local _ .vmem, ⟨5, _⟩ => ⟨S2048x1024, .bf16⟩
  | .local _ .vmem, ⟨6, _⟩ => ⟨S2048x1024, .bf16⟩
  | .local _ .vmem, ⟨7, _⟩ => ⟨S4096x512, .bf16⟩
  | .local _ .vmem, ⟨8, _⟩ => ⟨S1040x512, .f32⟩
  | .local _ .vmem, ⟨9, _⟩ => ⟨S512x1024, .bf16⟩
  | _, _ => ⟨S8x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_v3 : Ref sig .tc := ⟨.hbm, 6, rfl⟩
abbrev main_v4 : Ref sig .tc := ⟨.hbm, 7, rfl⟩
abbrev main_c_0 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_cst_1 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_3 : Ref sig .tc := ⟨.hbm, 19, rfl⟩
abbrev main_v12 : Ref sig .tc := ⟨.hbm, 20, rfl⟩
abbrev main_v13 : Ref sig .tc := ⟨.hbm, 21, rfl⟩
abbrev main_cst_4 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_c_5 : Ref sig .tc := ⟨.hbm, 26, rfl⟩
abbrev main_v17 : Ref sig .tc := ⟨.hbm, 27, rfl⟩
abbrev main_v18 : Ref sig .tc := ⟨.hbm, 28, rfl⟩
abbrev main_c_6 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_7 : Ref sig .tc := ⟨.hbm, 38, rfl⟩
abbrev main_cst_8 : Ref sig .tc := ⟨.hbm, 39, rfl⟩
abbrev main_v27 : Ref sig .tc := ⟨.hbm, 40, rfl⟩
abbrev main_cst_9 : Ref sig .tc := ⟨.hbm, 41, rfl⟩
abbrev main_v28 : Ref sig .tc := ⟨.hbm, 42, rfl⟩
abbrev main_c_10 : Ref sig .tc := ⟨.hbm, 43, rfl⟩
abbrev main_v29 : Ref sig .tc := ⟨.hbm, 44, rfl⟩
abbrev main_v30 : Ref sig .tc := ⟨.hbm, 45, rfl⟩
abbrev main_c_11 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_c_12 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_13 : Ref sig .tc := ⟨.hbm, 56, rfl⟩
abbrev main_v39 : Ref sig .tc := ⟨.hbm, 57, rfl⟩
abbrev main_v40 : Ref sig .tc := ⟨.hbm, 58, rfl⟩
abbrev main_c_14 : Ref sig .tc := ⟨.hbm, 59, rfl⟩
abbrev main_v41 : Ref sig .tc := ⟨.hbm, 60, rfl⟩
abbrev main_v42 : Ref sig .tc := ⟨.hbm, 61, rfl⟩
abbrev main_c_15 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_16 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_17 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1040x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S8x2048x512 : Shape := ⟨3, ![8, 2048, 512]⟩
abbrev S1x512x1024 : Shape := ⟨3, ![1, 512, 1024]⟩
abbrev S2048x2048 : Shape := ⟨2, ![2048, 2048]⟩
abbrev S_ : Shape := ⟨0, ![]⟩
abbrev S128x128 : Shape := ⟨2, ![128, 128]⟩
abbrev S8x2048x4x128 : Shape := ⟨4, ![8, 2048, 4, 128]⟩
abbrev S8x4x128x2048 : Shape := ⟨4, ![8, 4, 128, 2048]⟩
abbrev S512x1024 : Shape := ⟨2, ![512, 1024]⟩
abbrev S8x2048x1024 : Shape := ⟨3, ![8, 2048, 1024]⟩
abbrev S16384x1024 : Shape := ⟨2, ![16384, 1024]⟩

abbrev nBuf : Space → Nat
  | .hbm => 52
  | .vmem => 0
  | .smem => 0
  | _ => 0

abbrev bufTy : (tb : Table) → Fin (tcTables nBuf tb) → BufTy
  | .hbm, ⟨0, _⟩ => ⟨S8x2048x512, .f32⟩
  | .hbm, ⟨1, _⟩ => ⟨S1x512x1024, .f32⟩
  | .hbm, ⟨2, _⟩ => ⟨S2048x2048, .i32⟩
  | .hbm, ⟨3, _⟩ => ⟨S2048x2048, .i32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S2048x2048, .i32⟩
  | .hbm, ⟨10, _⟩ => ⟨S2048x2048, .f32⟩
  | .hbm, ⟨11, _⟩ => ⟨S2048x2048, .f32⟩
  | .hbm, ⟨12, _⟩ => ⟨S2048x2048, .f32⟩
  | .hbm, ⟨13, _⟩ => ⟨S_, .f32⟩
  | .hbm, ⟨14, _⟩ => ⟨S2048x2048, .f32⟩
  | .hbm, ⟨15, _⟩ => ⟨S2048x2048, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S128x128, .i32⟩
  | .hbm, ⟨20, _⟩ => ⟨S128x128, .i32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S128x128, .i32⟩
  | .hbm, ⟨27, _⟩ => ⟨S128x128, .f32⟩
  | .hbm, ⟨28, _⟩ => ⟨S128x128, .f32⟩
  | .hbm, ⟨29, _⟩ => ⟨S128x128, .f32⟩
  | .hbm, ⟨30, _⟩ => ⟨S_, .f32⟩
  | .hbm, ⟨31, _⟩ => ⟨S128x128, .f32⟩
  | .hbm, ⟨32, _⟩ => ⟨S128x128, .f32⟩
  | .hbm, ⟨33, _⟩ => ⟨S128x128, .f32⟩
  | .hbm, ⟨34, _⟩ => ⟨S128x128, .f32⟩
  | .hbm, ⟨35, _⟩ => ⟨S128x128, .f32⟩
  | .hbm, ⟨36, _⟩ => ⟨S8x2048x4x128, .f32⟩
  | .hbm, ⟨37, _⟩ => ⟨S8x2048x4x128, .f32⟩
  | .hbm, ⟨38, _⟩ => ⟨S8x2048x4x128, .f32⟩
  | .hbm, ⟨39, _⟩ => ⟨S8x4x128x2048, .f32⟩
  | .hbm, ⟨40, _⟩ => ⟨S8x2048x4x128, .f32⟩
  | .hbm, ⟨41, _⟩ => ⟨S8x4x128x2048, .f32⟩
  | .hbm, ⟨42, _⟩ => ⟨S8x2048x4x128, .f32⟩
  | .hbm, ⟨43, _⟩ => ⟨S8x2048x4x128, .f32⟩
  | .hbm, ⟨44, _⟩ => ⟨S_, .f32⟩
  | .hbm, ⟨45, _⟩ => ⟨S8x2048x4x128, .f32⟩
  | .hbm, ⟨46, _⟩ => ⟨S8x2048x4x128, .f32⟩
  | .hbm, ⟨47, _⟩ => ⟨S8x2048x512, .f32⟩
  | .hbm, ⟨48, _⟩ => ⟨S512x1024, .f32⟩
  | .hbm, ⟨49, _⟩ => ⟨S8x2048x1024, .f32⟩
  | .hbm, ⟨50, _⟩ => ⟨S16384x1024, .f32⟩
  | .hbm, ⟨51, _⟩ => ⟨S16384x1024, .bf16⟩
  | _, _ => ⟨S8x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_cst_0 : Ref sig .tc := ⟨.hbm, 5, rfl⟩
abbrev main_v2 : Ref sig .tc := ⟨.hbm, 6, rfl⟩
abbrev main_cst_1 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_cst_4 : Ref sig .tc := ⟨.hbm, 22, rfl⟩
abbrev main_v15 : Ref sig .tc := ⟨.hbm, 23, rfl⟩
abbrev main_cst_5 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_6 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_7 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩

abbrev nD : Nat := 1
abbrev τ : Topo := Topo.v7x

variable {F : FTy → Type} [FloatOps F]
-- ==== Kernel2.lean ====
abbrev S8x2048x1024 : Shape := ⟨3, ![8, 2048, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1x1024x4096 : Shape := ⟨3, ![1, 1024, 4096]⟩
abbrev S16384x1024 : Shape := ⟨2, ![16384, 1024]⟩
abbrev S1024 : Shape := ⟨1, ![1024]⟩
abbrev S1024x2816 : Shape := ⟨2, ![1024, 2816]⟩
abbrev S2816x1024 : Shape := ⟨2, ![2816, 1024]⟩
abbrev S1024x4096 : Shape := ⟨2, ![1024, 4096]⟩
abbrev S16384x512 : Shape := ⟨2, ![16384, 512]⟩
abbrev S576x16384 : Shape := ⟨2, ![576, 16384]⟩
abbrev S512x1024 : Shape := ⟨2, ![512, 1024]⟩
abbrev S64x2816 : Shape := ⟨2, ![64, 2816]⟩
abbrev S176x1024 : Shape := ⟨2, ![176, 1024]⟩
abbrev S64x4096 : Shape := ⟨2, ![64, 4096]⟩
abbrev S512x512 : Shape := ⟨2, ![512, 512]⟩
abbrev S576x512 : Shape := ⟨2, ![576, 512]⟩
abbrev S256x1024 : Shape := ⟨2, ![256, 1024]⟩
abbrev S256 : Shape := ⟨1, ![256]⟩
abbrev S256x1 : Shape := ⟨2, ![256, 1]⟩
abbrev S256x2816 : Shape := ⟨2, ![256, 2816]⟩
abbrev S256x4096 : Shape := ⟨2, ![256, 4096]⟩
abbrev S256x512 : Shape := ⟨2, ![256, 512]⟩
abbrev S256x128 : Shape := ⟨2, ![256, 128]⟩
abbrev S128x256 : Shape := ⟨2, ![128, 256]⟩
abbrev S16x256 : Shape := ⟨2, ![16, 256]⟩

abbrev nBuf : Space → Nat
  | .hbm => 23
  | .vmem => 30
  | .smem => 0
  | _ => 0

abbrev bufTy : (tb : Table) → Fin (tcTables nBuf tb) → BufTy
  | .hbm, ⟨0, _⟩ => ⟨S8x2048x1024, .f32⟩
  | .hbm, ⟨1, _⟩ => ⟨S1x1024, .f32⟩
  | .hbm, ⟨2, _⟩ => ⟨S1x1024x2816, .f32⟩
  | .hbm, ⟨3, _⟩ => ⟨S1x1024x2816, .f32⟩
  | .hbm, ⟨4, _⟩ => ⟨S1x2816x1024, .f32⟩
  | .hbm, ⟨5, _⟩ => ⟨S1x1024, .f32⟩
  | .hbm, ⟨6, _⟩ => ⟨S1x1024x4096, .f32⟩
  | .hbm, ⟨7, _⟩ => ⟨S16384x1024, .f32⟩
  | .hbm, ⟨8, _⟩ => ⟨S1024, .f32⟩
  | .hbm, ⟨9, _⟩ => ⟨S1x1024, .f32⟩
  | .hbm, ⟨10, _⟩ => ⟨S1024x2816, .f32⟩
  | .hbm, ⟨11, _⟩ => ⟨S1024x2816, .f32⟩
  | .hbm, ⟨12, _⟩ => ⟨S2816x1024, .f32⟩
  | .hbm, ⟨13, _⟩ => ⟨S1024, .f32⟩
  | .hbm, ⟨14, _⟩ => ⟨S1x1024, .f32⟩
  | .hbm, ⟨15, _⟩ => ⟨S1024x4096, .f32⟩
  | .hbm, ⟨16, _⟩ => ⟨S16384x1024, .f32⟩
  | .hbm, ⟨17, _⟩ => ⟨S16384x512, .bf16⟩
  | .hbm, ⟨18, _⟩ => ⟨S16384x512, .bf16⟩
  | .hbm, ⟨19, _⟩ => ⟨S16384x512, .bf16⟩
  | .hbm, ⟨20, _⟩ => ⟨S576x16384, .bf16⟩
  | .hbm, ⟨21, _⟩ => ⟨S16384x1024, .bf16⟩
  | .hbm, ⟨22, _⟩ => ⟨S16384x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S64x2816, .f32⟩
  | .local _ .vmem, ⟨4, _⟩ => ⟨S64x2816, .f32⟩
  | .local _ .vmem, ⟨5, _⟩ => ⟨S64x2816, .f32⟩
  | .local _ .vmem, ⟨6, _⟩ => ⟨S64x2816, .f32⟩
  | .local _ .vmem, ⟨7, _⟩ => ⟨S176x1024, .f32⟩
  | .local _ .vmem, ⟨8, _⟩ => ⟨S176x1024, .f32⟩
  | .local _ .vmem, ⟨9, _⟩ => ⟨S1x1024, .f32⟩
  | .local _ .vmem, ⟨10, _⟩ => ⟨S64x4096, .f32⟩
  | .local _ .vmem, ⟨11, _⟩ => ⟨S64x4096, .f32⟩
  | .local _ .vmem, ⟨12, _⟩ => ⟨S512x1024, .f32⟩
  | .local _ .vmem, ⟨13, _⟩ => ⟨S512x1024, .f32⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | .local _ .vmem, ⟨18, _⟩ => ⟨S512x512, .bf16⟩
  | .local _ .vmem, ⟨19, _⟩ => ⟨S512x512, .bf16⟩
  | .local _ .vmem, ⟨20, _⟩ => ⟨S576x512, .bf16⟩
  | .local _ .vmem, ⟨21, _⟩ => ⟨S576x512, .bf16⟩
  | .local _ .vmem, ⟨22, _⟩ => ⟨S512x1024, .bf16⟩
  | .local _ .vmem, ⟨23, _⟩ => ⟨S512x1024, .bf16⟩
  | .local _ .vmem, ⟨24, _⟩ => ⟨S512x1024, .bf16⟩
  | .local _ .vmem, ⟨25, _⟩ => ⟨S512x1024, .bf16⟩
  | .local _ .vmem, ⟨26, _⟩ => ⟨S1024x2816, .bf16⟩
  | .local _ .vmem, ⟨27, _⟩ => ⟨S1024x2816, .bf16⟩
  | .local _ .vmem, ⟨28, _⟩ => ⟨S2816x1024, .bf16⟩
  | .local _ .vmem, ⟨29, _⟩ => ⟨S1024x4096, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9_0 : Ref sig .tc := ⟨.hbm, 16, rfl⟩
abbrev main_v9_1 : Ref sig .tc := ⟨.hbm, 17, rfl⟩
abbrev main_v9_2 : Ref sig .tc := ⟨.hbm, 18, rfl⟩
abbrev main_v9_3 : Ref sig .tc := ⟨.hbm, 19, rfl⟩
abbrev main_v9_4 : Ref sig .tc := ⟨.hbm, 20, rfl⟩
abbrev main_v9_5 : Ref sig .tc := ⟨.hbm, 21, rfl⟩
abbrev main_v9_6 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_scratch0 : Ref sig .tc := ⟨.vmem, 26, rfl⟩
abbrev cc0_scratch1 : Ref sig .tc := ⟨.vmem, 27, rfl⟩
abbrev cc0_scratch2 : Ref sig .tc := ⟨.vmem, 28, rfl⟩
abbrev cc0_scratch3 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25

abbrev nD : Nat := 1
abbrev τ : Topo := Topo.v7x

variable {F : FTy → Type} [FloatOps F]

abbrev grid0 : Pipeline.Grid := ⟨1, ![48], ![false]⟩

def k0_cond1 (i : grid0.Coords) : BitVec 1 :=
  let arg0 : BitVec 32 := BitVec.ofNat 32 (i 0).val
  let c16_i32 : BitVec 32 := 16#32
  let v0 : BitVec 1 := Scalar.cmpi .slt arg0 c16_i32
  let v1 : BitVec 32 := Scalar.extui v0
  let c0_i32 : BitVec 32 := 0#32
  let v2 : BitVec 1 := Scalar.cmpi .ne v1 c0_i32
  v2

def k0_mult1 (i : grid0.Coords) : BitVec 32 :=
  let arg0 : BitVec 32 := BitVec.ofNat 32 (i 0).val
  let c64_i32 : BitVec 32 := 64#32
  let v9 : BitVec 32 := Scalar.muli arg0 c64_i32
  v9
def k0_off1 (i : grid0.Coords) : Fin 2 → Nat :=
  let arg0 : BitVec 32 := BitVec.ofNat 32 (i 0).val
  let c64_i32 : BitVec 32 := 64#32
  let v9 : BitVec 32 := Scalar.muli arg0 c64_i32
  let v10 : BitVec 32 := v9
  let v11 : Index := Scalar.indexCast v10
  let c0_3 : Index := 0#32
  ![v11.toNat, 0]
def k0_mult2 (i : grid0.Coords) : BitVec 32 :=
  let arg0 : BitVec 32 := BitVec.ofNat 32 (i 0).val
  let c64_i32_6 : BitVec 32 := 64#32
  let v18 : BitVec 32 := Scalar.muli arg0 c64_i32_6
  v18
def k0_mult3 (i : grid0.Coords) : BitVec 32 :=
  let arg0 : BitVec 32 := BitVec.ofNat 32 (i 0).val
  let c176_i32 : BitVec 32 := 176#32
  let v27 : BitVec 32 := Scalar.muli arg0 c176_i32
  v27
def k0_off2 (i : grid0.Coords) : Fin 2 → Nat :=
  let arg0 : BitVec 32 := BitVec.ofNat 32 (i 0).val
  let c176_i32 : BitVec 32 := 176#32
  let v27 : BitVec 32 := Scalar.muli arg0 c176_i32
  let v28 : BitVec 32 := v27
  let v29 : Index := Scalar.indexCast v28
  let c0_10 : Index := 0#32
  ![v29.toNat, 0]
def k0_mult4 (i : grid0.Coords) : BitVec 32 :=
  let arg0 : BitVec 32 := BitVec.ofNat 32 (i 0).val
  let c64_i32_13 : BitVec 32 := 64#32
  let v36 : BitVec 32 := Scalar.muli arg0 c64_i32_13
  v36
def k0_off3 (i : grid0.Coords) : Fin 2 → Nat :=
  let arg0 : BitVec 32 := BitVec.ofNat 32 (i 0).val
  let c64_i32_13 : BitVec 32 := 64#32
  let v36 : BitVec 32 := Scalar.muli arg0 c64_i32_13
  let v37 : BitVec 32 := v36
  let v38 : Index := Scalar.indexCast v37
  let c0_14 : Index := 0#32
  ![v38.toNat, 0]
def k0_cond2 (i : grid0.Coords) : BitVec 1 :=
  let arg0 : BitVec 32 := BitVec.ofNat 32 (i 0).val
  let c16_i32_0 : BitVec 32 := 16#32
  let v3 : BitVec 1 := Scalar.cmpi .sge arg0 c16_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_8 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_9 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_10 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_11 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_12 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_13 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S64x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x2816 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S64x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S576x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference2Ideal.lean ====
abbrev S8x2048x1024 : Shape := ⟨3, ![8, 2048, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1x1024x4096 : Shape := ⟨3, ![1, 1024, 4096]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S1024x2816 : Shape := ⟨2, ![1024, 2816]⟩
abbrev S2816x1024 : Shape := ⟨2, ![2816, 1024]⟩
abbrev S8x2048x2816 : Shape := ⟨3, ![8, 2048, 2816]⟩
abbrev S1024x4096 : Shape := ⟨2, ![1024, 4096]⟩
abbrev S8x2048x4096 : Shape := ⟨3, ![8, 2048, 4096]⟩
abbrev S8x2048x512 : Shape := ⟨3, ![8, 2048, 512]⟩
abbrev S16384x4x128 : Shape := ⟨3, ![16384, 4, 128]⟩
abbrev S4x128x16384 : Shape := ⟨3, ![4, 128, 16384]⟩
abbrev S4x16x16384 : Shape := ⟨3, ![4, 16, 16384]⟩
abbrev S4x144x16384 : Shape := ⟨3, ![4, 144, 16384]⟩
abbrev S576x16384 : Shape := ⟨2, ![576, 16384]⟩
abbrev S16384x1024 : Shape := ⟨2, ![16384, 1024]⟩
abbrev S16384x512 : Shape := ⟨2, ![16384, 512]⟩

abbrev nBuf : Space → Nat
  | .hbm => 106
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1x1024, .f32⟩
  | .hbm, ⟨2, _⟩ => ⟨S1x1024x2816, .f32⟩
  | .hbm, ⟨3, _⟩ => ⟨S1x1024x2816, .f32⟩
  | .hbm, ⟨4, _⟩ => ⟨S1x2816x1024, .f32⟩
  | .hbm, ⟨5, _⟩ => ⟨S1x1024, .f32⟩
  | .hbm, ⟨6, _⟩ => ⟨S1x1024x4096, .f32⟩
  | .hbm, ⟨7, _⟩ => ⟨S1024, .f32⟩
  | .hbm, ⟨8, _⟩ => ⟨S8x2048x1024, .f32⟩
  | .hbm, ⟨9, _⟩ => ⟨S_, .f32⟩
  | .hbm, ⟨10, _⟩ => ⟨S8x2048, .f32⟩
  | .hbm, ⟨11, _⟩ => ⟨S8x2048x1, .f32⟩
  | .hbm, ⟨12, _⟩ => ⟨S_, .f32⟩
  | .hbm, ⟨13, _⟩ => ⟨S8x2048x1, .f32⟩
  | .hbm, ⟨14, _⟩ => ⟨S8x2048x1, .f32⟩
  | .hbm, ⟨15, _⟩ => ⟨S_, .f32⟩
  | .hbm, ⟨16, _⟩ => ⟨S8x2048x1, .f32⟩
  | .hbm, ⟨17, _⟩ => ⟨S8x2048x1, .f32⟩
  | .hbm, ⟨18, _⟩ => ⟨S8x2048x1, .f32⟩
  | .hbm, ⟨19, _⟩ => ⟨S8x2048x1024, .f32⟩
  | .hbm, ⟨20, _⟩ => ⟨S8x2048x1024, .f32⟩
  | .hbm, ⟨21, _⟩ => ⟨S1x1x1024, .f32⟩
  | .hbm, ⟨22, _⟩ => ⟨S8x2048x1024, .f32⟩
  | .hbm, ⟨23, _⟩ => ⟨S8x2048x1024, .f32⟩
  | .hbm, ⟨24, _⟩ => ⟨S1024x2816, .f32⟩
  | .hbm, ⟨25, _⟩ => ⟨S1024x2816, .f32⟩
  | .hbm, ⟨26, _⟩ => ⟨S2816x1024, .f32⟩
  | .hbm, ⟨27, _⟩ => ⟨S8x2048x2816, .f32⟩
  | .hbm, ⟨28, _⟩ => ⟨S8x2048x2816, .f32⟩
  | .hbm, ⟨29, _⟩ => ⟨S8x2048x2816, .f32⟩
  | .hbm, ⟨30, _⟩ => ⟨S_, .f32⟩
  | .hbm, ⟨31, _⟩ => ⟨S8x2048x2816, .f32⟩
  | .hbm, ⟨32, _⟩ => ⟨S8x2048x2816, .f32⟩
  | .hbm, ⟨33, _⟩ => ⟨S_, .f32⟩
  | .hbm, ⟨34, _⟩ => ⟨S8x2048x2816, .f32⟩
  | .hbm, ⟨35, _⟩ => ⟨S8x2048x2816, .f32⟩
  | .hbm, ⟨36, _⟩ => ⟨S8x2048x2816, .f32⟩
  | .hbm, ⟨37, _⟩ => ⟨S8x2048x2816, .f32⟩
  | .hbm, ⟨38, _⟩ => ⟨S8x2048x2816, .f32⟩
  | .hbm, ⟨39, _⟩ => ⟨S8x2048x1024, .f32⟩
  | .hbm, ⟨40, _⟩ => ⟨S_, .f32⟩
  | .hbm, ⟨41, _⟩ => ⟨S8x2048x1024, .f32⟩
  | .hbm, ⟨42, _⟩ => ⟨S8x2048x1024, .f32⟩
  | .hbm, ⟨43, _⟩ => ⟨S8x2048x1024, .f32⟩
  | .hbm, ⟨44, _⟩ => ⟨S1024, .f32⟩
  | .hbm, ⟨45, _⟩ => ⟨S8x2048x1024, .f32⟩
  | .hbm, ⟨46, _⟩ => ⟨S_, .f32⟩
  | .hbm, ⟨47, _⟩ => ⟨S8x2048, .f32⟩
  | .hbm, ⟨48, _⟩ => ⟨S8x2048x1, .f32⟩
  | .hbm, ⟨49, _⟩ => ⟨S_, .f32⟩
  | .hbm, ⟨50, _⟩ => ⟨S8x2048x1, .f32⟩
  | .hbm, ⟨51, _⟩ => ⟨S8x2048x1, .f32⟩
  | .hbm, ⟨52, _⟩ => ⟨S_, .f32⟩
  | .hbm, ⟨53, _⟩ => ⟨S8x2048x1, .f32⟩
  | .hbm, ⟨54, _⟩ => ⟨S8x2048x1, .f32⟩
  | .hbm, ⟨55, _⟩ => ⟨S8x2048x1, .f32⟩
  | .hbm, ⟨56, _⟩ => ⟨S8x2048x1024, .f32⟩
  | .hbm, ⟨57, _⟩ => ⟨S8x2048x1024, .f32⟩
  | .hbm, ⟨58, _⟩ => ⟨S1x1x1024, .f32⟩
  | .hbm, ⟨59, _⟩ => ⟨S8x2048x1024, .f32⟩
  | .hbm, ⟨60, _⟩ => ⟨S8x2048x1024, .f32⟩
  | .hbm, ⟨61, _⟩ => ⟨S1024x4096, .f32⟩
  | .hbm, ⟨62, _⟩ => ⟨S8x2048x4096, .f32⟩
  | .hbm, ⟨63, _⟩ => ⟨S8x2048x512, .f32⟩
  | .hbm, ⟨64, _⟩ => ⟨S8x2048x512, .f32⟩
  | .hbm, ⟨65, _⟩ => ⟨S8x2048x512, .f32⟩
  | .hbm, ⟨66, _⟩ => ⟨S8x2048x512, .f32⟩
  | .hbm, ⟨67, _⟩ => ⟨S8x2048x1024, .f32⟩
  | .hbm, ⟨68, _⟩ => ⟨S8x2048x1024, .f32⟩
  | .hbm, ⟨69, _⟩ => ⟨S16384x4x128, .f32⟩
  | .hbm, ⟨70, _⟩ => ⟨S4x128x16384, .f32⟩
  | .hbm, ⟨71, _⟩ => ⟨S_, .f32⟩
  | .hbm, ⟨72, _⟩ => ⟨S4x16x16384, .f32⟩
  | .hbm, ⟨73, _⟩ => ⟨S4x144x16384, .f32⟩
  | .hbm, ⟨74, _⟩ => ⟨S576x16384, .f32⟩
  | .hbm, ⟨75, _⟩ => ⟨S576x16384, .bf16⟩
  | .hbm, ⟨76, _⟩ => ⟨S16384x1024, .f32⟩
  | .hbm, ⟨77, _⟩ => ⟨S16384x512, .f32⟩
  | .hbm, ⟨78, _⟩ => ⟨S16384x512, .bf16⟩
  | .hbm, ⟨79, _⟩ => ⟨S_, .f32⟩
  | .hbm, ⟨80, _⟩ => ⟨S8x2048x512, .f32⟩
  | .hbm, ⟨81, _⟩ => ⟨S8x2048x512, .f32⟩
  | .hbm, ⟨82, _⟩ => ⟨S16384x512, .f32⟩
  | .hbm, ⟨83, _⟩ => ⟨S16384x512, .bf16⟩
  | .hbm, ⟨84, _⟩ => ⟨S16384x512, .f32⟩
  | .hbm, ⟨85, _⟩ => ⟨S16384x512, .bf16⟩
  | .hbm, ⟨86, _⟩ => ⟨S8x2048x1024, .f32⟩
  | .hbm, ⟨87, _⟩ => ⟨S8x2048x1024, .f32⟩
  | .hbm, ⟨88, _⟩ => ⟨S_, .f32⟩
  | .hbm, ⟨89, _⟩ => ⟨S8x2048x1024, .f32⟩
  | .hbm, ⟨90, _⟩ => ⟨S8x2048x1024, .f32⟩
  | .hbm, ⟨91, _⟩ => ⟨S_, .f32⟩
  | .hbm, ⟨92, _⟩ => ⟨S8x2048x1024, .f32⟩
  | .hbm, ⟨93, _⟩ => ⟨S8x2048x1024, .f32⟩
  | .hbm, ⟨94, _⟩ => ⟨S16384x1024, .f32⟩
  | .hbm, ⟨95, _⟩ => ⟨S16384x1024, .bf16⟩
  | .hbm, ⟨96, _⟩ => ⟨S8x2048x1024, .f32⟩
  | .hbm, ⟨97, _⟩ => ⟨S8x2048x1024, .f32⟩
  | .hbm, ⟨98, _⟩ => ⟨S_, .f32⟩
  | .hbm, ⟨99, _⟩ => ⟨S8x2048x1024, .f32⟩
  | .hbm, ⟨100, _⟩ => ⟨S8x2048x1024, .f32⟩
  | .hbm, ⟨101, _⟩ => ⟨S_, .f32⟩
  | .hbm, ⟨102, _⟩ => ⟨S8x2048x1024, .f32⟩
  | .hbm, ⟨103, _⟩ => ⟨S8x2048x1024, .f32⟩
  | .hbm, ⟨104, _⟩ => ⟨S16384x1024, .f32⟩
  | .hbm, ⟨105, _⟩ => ⟨S16384x1024, .bf16⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_call0_v5 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_2 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst_3 : Ref sig .tc := ⟨.hbm, 46, rfl⟩
abbrev main_v27 : Ref sig .tc := ⟨.hbm, 47, rfl⟩
abbrev main_v28 : Ref sig .tc := ⟨.hbm, 48, rfl⟩
abbrev main_cst_4 : Ref sig .tc := ⟨.hbm, 49, rfl⟩
abbrev main_v29 : Ref sig .tc := ⟨.hbm, 50, rfl⟩
abbrev main_v30 : Ref sig .tc := ⟨.hbm, 51, rfl⟩
abbrev main_cst_5 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_6 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_7 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_cst_8 : Ref sig .tc := ⟨.hbm, 88, rfl⟩
abbrev main_v64 : Ref sig .tc := ⟨.hbm, 89, rfl⟩
abbrev main_v65 : Ref sig .tc := ⟨.hbm, 90, rfl⟩
abbrev main_cst_9 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_cst_10 : Ref sig .tc := ⟨.hbm, 98, rfl⟩
abbrev main_v72 : Ref sig .tc := ⟨.hbm, 99, rfl⟩
abbrev main_v73 : Ref sig .tc := ⟨.hbm, 100, rfl⟩
abbrev main_cst_11 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩

abbrev nD : Nat := 1
abbrev τ : Topo := Topo.v7x

variable {F : FTy → Type} [FloatOps F]
-- ==== Kernel3.lean ====
abbrev S16384x1024 : Shape := ⟨2, ![16384, 1024]⟩
abbrev S512x16384 : Shape := ⟨2, ![512, 16384]⟩
abbrev S1x512x1024 : Shape := ⟨3, ![1, 512, 1024]⟩
abbrev S1x1024x1024 : Shape := ⟨3, ![1, 1024, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S512x1024 : Shape := ⟨2, ![512, 1024]⟩
abbrev S1024x1024 : Shape := ⟨2, ![1024, 1024]⟩
abbrev S1024x2816 : Shape := ⟨2, ![1024, 2816]⟩
abbrev S2816x1024 : Shape := ⟨2, ![2816, 1024]⟩
abbrev S512x512 : Shape := ⟨2, ![512, 512]⟩
abbrev S512x256 : Shape := ⟨2, ![512, 256]⟩
abbrev S256x1024 : Shape := ⟨2, ![256, 1024]⟩
abbrev S256 : Shape := ⟨1, ![256]⟩
abbrev S256x1 : Shape := ⟨2, ![256, 1]⟩
abbrev S256x2816 : Shape := ⟨2, ![256, 2816]⟩

abbrev nBuf : Space → Nat
  | .hbm => 26
  | .vmem => 19
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S512x16384, .bf16⟩
  | .hbm, ⟨3, _⟩ => ⟨S16384x1024, .bf16⟩
  | .hbm, ⟨4, _⟩ => ⟨S16384x1024, .bf16⟩
  | .hbm, ⟨5, _⟩ => ⟨S1x512x1024, .f32⟩
  | .hbm, ⟨6, _⟩ => ⟨S1x1024x1024, .f32⟩
  | .hbm, ⟨7, _⟩ => ⟨S1x1024, .f32⟩
  | .hbm, ⟨8, _⟩ => ⟨S1x1024x2816, .f32⟩
  | .hbm, ⟨9, _⟩ => ⟨S1x1024x2816, .f32⟩
  | .hbm, ⟨10, _⟩ => ⟨S1x2816x1024, .f32⟩
  | .hbm, ⟨11, _⟩ => ⟨S1024, .f32⟩
  | .hbm, ⟨12, _⟩ => ⟨S512x1024, .f32⟩
  | .hbm, ⟨13, _⟩ => ⟨S512x1024, .bf16⟩
  | .hbm, ⟨14, _⟩ => ⟨S1024x1024, .f32⟩
  | .hbm, ⟨15, _⟩ => ⟨S1024x1024, .bf16⟩
  | .hbm, ⟨16, _⟩ => ⟨S1024, .f32⟩
  | .hbm, ⟨17, _⟩ => ⟨S1x1024, .f32⟩
  | .hbm, ⟨18, _⟩ => ⟨S1024x2816, .f32⟩
  | .hbm, ⟨19, _⟩ => ⟨S1024x2816, .bf16⟩
  | .hbm, ⟨20, _⟩ => ⟨S1024x2816, .f32⟩
  | .hbm, ⟨21, _⟩ => ⟨S1024x2816, .bf16⟩
  | .hbm, ⟨22, _⟩ => ⟨S2816x1024, .f32⟩
  | .hbm, ⟨23, _⟩ => ⟨S2816x1024, .bf16⟩
  | .hbm, ⟨24, _⟩ => ⟨S1x1024, .f32⟩
  | .hbm, ⟨25, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x512, .bf16⟩
  | .local _ .vmem, ⟨5, _⟩ => ⟨S512x512, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S1024x1024, .bf16⟩
  | .local _ .vmem, ⟨12, _⟩ => ⟨S1x1024, .f32⟩
  | .local _ .vmem, ⟨13, _⟩ => ⟨S1024x2816, .bf16⟩
  | .local _ .vmem, ⟨14, _⟩ => ⟨S1024x2816, .bf16⟩
  | .local _ .vmem, ⟨15, _⟩ => ⟨S2816x1024, .bf16⟩
  | .local _ .vmem, ⟨16, _⟩ => ⟨S1x1024, .f32⟩
  | .local _ .vmem, ⟨17, _⟩ => ⟨S512x1024, .f32⟩
  | .local _ .vmem, ⟨18, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg12_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem12_1 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x2816 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x2816 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2816x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference3Ideal.lean ====
abbrev S16384x1024 : Shape := ⟨2, ![16384, 1024]⟩
abbrev S512x16384 : Shape := ⟨2, ![512, 16384]⟩
abbrev S1x512x1024 : Shape := ⟨3, ![1, 512, 1024]⟩
abbrev S1x1024x1024 : Shape := ⟨3, ![1, 1024, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S16384x512 : Shape := ⟨2, ![16384, 512]⟩
abbrev S512x1024 : Shape := ⟨2, ![512, 1024]⟩
abbrev S1024x1024 : Shape := ⟨2, ![1024, 1024]⟩
abbrev S_ : Shape := ⟨0, ![]⟩
abbrev S16384 : Shape := ⟨1, ![16384]⟩
abbrev S16384x1 : Shape := ⟨2, ![16384, 1]⟩
abbrev S1024x2816 : Shape := ⟨2, ![1024, 2816]⟩
abbrev S2816x1024 : Shape := ⟨2, ![2816, 1024]⟩
abbrev S16384x2816 : Shape := ⟨2, ![16384, 2816]⟩

abbrev nBuf : Space → Nat
  | .hbm => 78
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S512x16384, .bf16⟩
  | .hbm, ⟨3, _⟩ => ⟨S16384x1024, .bf16⟩
  | .hbm, ⟨4, _⟩ => ⟨S16384x1024, .bf16⟩
  | .hbm, ⟨5, _⟩ => ⟨S1x512x1024, .f32⟩
  | .hbm, ⟨6, _⟩ => ⟨S1x1024x1024, .f32⟩
  | .hbm, ⟨7, _⟩ => ⟨S1x1024, .f32⟩
  | .hbm, ⟨8, _⟩ => ⟨S1x1024x2816, .f32⟩
  | .hbm, ⟨9, _⟩ => ⟨S1x1024x2816, .f32⟩
  | .hbm, ⟨10, _⟩ => ⟨S1x2816x1024, .f32⟩
  | .hbm, ⟨11, _⟩ => ⟨S1024, .f32⟩
  | .hbm, ⟨12, _⟩ => ⟨S512x16384, .f32⟩
  | .hbm, ⟨13, _⟩ => ⟨S16384x512, .f32⟩
  | .hbm, ⟨14, _⟩ => ⟨S512x1024, .f32⟩
  | .hbm, ⟨15, _⟩ => ⟨S16384x1024, .f32⟩
  | .hbm, ⟨16, _⟩ => ⟨S16384x1024, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S1024x1024, .f32⟩
  | .hbm, ⟨23, _⟩ => ⟨S16384x1024, .f32⟩
  | .hbm, ⟨24, _⟩ => ⟨S16384x1024, .f32⟩
  | .hbm, ⟨25, _⟩ => ⟨S1024, .f32⟩
  | .hbm, ⟨26, _⟩ => ⟨S16384x1024, .f32⟩
  | .hbm, ⟨27, _⟩ => ⟨S_, .f32⟩
  | .hbm, ⟨28, _⟩ => ⟨S16384, .f32⟩
  | .hbm, ⟨29, _⟩ => ⟨S16384x1, .f32⟩
  | .hbm, ⟨30, _⟩ => ⟨S_, .f32⟩
  | .hbm, ⟨31, _⟩ => ⟨S16384x1, .f32⟩
  | .hbm, ⟨32, _⟩ => ⟨S16384x1, .f32⟩
  | .hbm, ⟨33, _⟩ => ⟨S_, .f32⟩
  | .hbm, ⟨34, _⟩ => ⟨S16384x1, .f32⟩
  | .hbm, ⟨35, _⟩ => ⟨S16384x1, .f32⟩
  | .hbm, ⟨36, _⟩ => ⟨S16384x1, .f32⟩
  | .hbm, ⟨37, _⟩ => ⟨S16384x1024, .f32⟩
  | .hbm, ⟨38, _⟩ => ⟨S16384x1024, .f32⟩
  | .hbm, ⟨39, _⟩ => ⟨S1x1024, .f32⟩
  | .hbm, ⟨40, _⟩ => ⟨S16384x1024, .f32⟩
  | .hbm, ⟨41, _⟩ => ⟨S16384x1024, .f32⟩
  | .hbm, ⟨42, _⟩ => ⟨S1024x2816, .f32⟩
  | .hbm, ⟨43, _⟩ => ⟨S1024x2816, .f32⟩
  | .hbm, ⟨44, _⟩ => ⟨S2816x1024, .f32⟩
  | .hbm, ⟨45, _⟩ => ⟨S16384x2816, .f32⟩
  | .hbm, ⟨46, _⟩ => ⟨S16384x2816, .f32⟩
  | .hbm, ⟨47, _⟩ => ⟨S16384x2816, .f32⟩
  | .hbm, ⟨48, _⟩ => ⟨S_, .f32⟩
  | .hbm, ⟨49, _⟩ => ⟨S16384x2816, .f32⟩
  | .hbm, ⟨50, _⟩ => ⟨S16384x2816, .f32⟩
  | .hbm, ⟨51, _⟩ => ⟨S_, .f32⟩
  | .hbm, ⟨52, _⟩ => ⟨S16384x2816, .f32⟩
  | .hbm, ⟨53, _⟩ => ⟨S16384x2816, .f32⟩
  | .hbm, ⟨54, _⟩ => ⟨S16384x2816, .f32⟩
  | .hbm, ⟨55, _⟩ => ⟨S16384x2816, .f32⟩
  | .hbm, ⟨56, _⟩ => ⟨S16384x2816, .f32⟩
  | .hbm, ⟨57, _⟩ => ⟨S16384x1024, .f32⟩
  | .hbm, ⟨58, _⟩ => ⟨S_, .f32⟩
  | .hbm, ⟨59, _⟩ => ⟨S16384x1024, .f32⟩
  | .hbm, ⟨60, _⟩ => ⟨S16384x1024, .f32⟩
  | .hbm, ⟨61, _⟩ => ⟨S16384x1024, .f32⟩
  | .hbm, ⟨62, _⟩ => ⟨S16384x1024, .f32⟩
  | .hbm, ⟨63, _⟩ => ⟨S_, .f32⟩
  | .hbm, ⟨64, _⟩ => ⟨S16384, .f32⟩
  | .hbm, ⟨65, _⟩ => ⟨S16384x1, .f32⟩
  | .hbm, ⟨66, _⟩ => ⟨S_, .f32⟩
  | .hbm, ⟨67, _⟩ => ⟨S16384x1, .f32⟩
  | .hbm, ⟨68, _⟩ => ⟨S16384x1, .f32⟩
  | .hbm, ⟨69, _⟩ => ⟨S_, .f32⟩
  | .hbm, ⟨70, _⟩ => ⟨S16384x1, .f32⟩
  | .hbm, ⟨71, _⟩ => ⟨S16384x1, .f32⟩
  | .hbm, ⟨72, _⟩ => ⟨S16384x1, .f32⟩
  | .hbm, ⟨73, _⟩ => ⟨S16384x1024, .f32⟩
  | .hbm, ⟨74, _⟩ => ⟨S16384x1024, .f32⟩
  | .hbm, ⟨75, _⟩ => ⟨S1x1024, .f32⟩
  | .hbm, ⟨76, _⟩ => ⟨S16384x1024, .f32⟩
  | .hbm, ⟨77, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst : Ref sig .tc := ⟨.hbm, 27, rfl⟩
abbrev main_v15 : Ref sig .tc := ⟨.hbm, 28, rfl⟩
abbrev main_v16 : Ref sig .tc := ⟨.hbm, 29, rfl⟩
abbrev main_cst_0 : Ref sig .tc := ⟨.hbm, 30, rfl⟩
abbrev main_v17 : Ref sig .tc := ⟨.hbm, 31, rfl⟩
abbrev main_v18 : Ref sig .tc := ⟨.hbm, 32, rfl⟩
abbrev main_cst_1 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_call0_v0 : Ref sig .tc := ⟨.hbm, 46, rfl⟩
abbrev main_call0_v1 : Ref sig .tc := ⟨.hbm, 47, rfl⟩
abbrev main_call0_cst : Ref sig .tc := ⟨.hbm, 48, rfl⟩
abbrev main_call0_v2 : Ref sig .tc := ⟨.hbm, 49, rfl⟩
abbrev main_call0_v3 : Ref sig .tc := ⟨.hbm, 50, rfl⟩
abbrev main_call0_cst_0 : Ref sig .tc := ⟨.hbm, 51, rfl⟩
abbrev main_call0_v4 : Ref sig .tc := ⟨.hbm, 52, rfl⟩
abbrev main_call0_v5 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_cst_2 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_cst_3 : Ref sig .tc := ⟨.hbm, 63, rfl⟩
abbrev main_v39 : Ref sig .tc := ⟨.hbm, 64, rfl⟩
abbrev main_v40 : Ref sig .tc := ⟨.hbm, 65, rfl⟩
abbrev main_cst_4 : Ref sig .tc := ⟨.hbm, 66, rfl⟩
abbrev main_v41 : Ref sig .tc := ⟨.hbm, 67, rfl⟩
abbrev main_v42 : Ref sig .tc := ⟨.hbm, 68, rfl⟩
abbrev main_cst_5 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩

abbrev nD : Nat := 1
abbrev τ : Topo := Topo.v7x

variable {F : FTy → Type} [FloatOps F]
-- ==== Proof.FourierBlock.lean ====
/- What one grid point of the Fourier mixing stores, index by index: the channel transforms, the token transforms of the
   half spectrum, and the mirrored lower half, times the output projection. -/
module

public import proofs.«01_k».proof.Proof.Gen.KernelIdeal.Frame
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.KernelIdeal.Fourier

open Cert.KernelIdeal Cert.KernelIdeal.Gen

/-- The eight stores that fill the scratch of channel transforms, latest first. -/
abbrev zPieces (x0 : FVec Ideal S2048x512 .bf16) (x2 : FVec Ideal S512x1024 .bf16) : List (View.Piece (Elt Ideal) S4096x512 .bf16) :=
          [⟨Rect.unit ![2048, 384] ![2048, 128] inb_S4096x512_S2048x128_2048_384,
              k0_pay15 (F := Ideal)
                (k0_pay14 (F := Ideal) (k0_pay5 (F := Ideal) x0)
                  (View.ld (Val := Elt Ideal) (e' := .bf16) (S := S512x1024) x2 (Rect.unit ![384, 896] ![128, 128] inb_S512x1024_S128x128_384_896)))⟩,
            ⟨Rect.unit ![0, 384] ![2048, 128] inb_S4096x512_S2048x128_0_384,
              k0_pay13 (F := Ideal) (k0_pay5 (F := Ideal) x0) (View.ld (Val := Elt Ideal) (e' := .bf16) (S := S512x1024) x2 (Rect.unit ![384, 384] ![128, 128] inb_S512x1024_S128x128_384_384))⟩,
            ⟨Rect.unit ![2048, 256] ![2048, 128] inb_S4096x512_S2048x128_2048_256,
              k0_pay12 (F := Ideal) (k0_pay5 (F := Ideal) x0) (View.ld (Val := Elt Ideal) (e' := .bf16) (S := S512x1024) x2 (Rect.unit ![256, 768] ![128, 128] inb_S512x1024_S128x128_256_768))⟩,
            ⟨Rect.unit ![0, 256] ![2048, 128] inb_S4096x512_S2048x128_0_256,
              k0_pay11 (F := Ideal) (k0_pay5 (F := Ideal) x0) (View.ld (Val := Elt Ideal) (e' := .bf16) (S := S512x1024) x2 (Rect.unit ![256, 256] ![128, 128] inb_S512x1024_S128x128_256_256))⟩,
            ⟨Rect.unit ![2048, 128] ![2048, 128] inb_S4096x512_S2048x128_2048_128,
              k0_pay10 (F := Ideal) (k0_pay9 (F := Ideal) x0 (View.ld (Val := Elt Ideal) (e' := .bf16) (S := S512x1024) x2 (Rect.unit ![128, 640] ![128, 128] inb_S512x1024_S128x128_128_640)))⟩,
            ⟨Rect.unit ![0, 128] ![2048, 128] inb_S4096x512_S2048x128_0_128,
              k0_pay8 (F := Ideal) x0 (View.ld (Val := Elt Ideal) (e' := .bf16) (S := S512x1024) x2 (Rect.unit ![128, 128] ![128, 128] inb_S512x1024_S128x128_128_128))⟩,
            ⟨Rect.unit ![2048, 0] ![2048, 128] inb_S4096x512_S2048x128_2048_0,
              k0_pay7 (F := Ideal) x0 (View.ld (Val := Elt Ideal) (e' := .bf16) (S := S512x1024) x2 (Rect.unit ![0, 512] ![128, 128] inb_S512x1024_S128x128_0_512))⟩,
            ⟨Rect.unit ![0, 0] ![2048, 128] inb_S4096x512_S2048x128_0_0,
              k0_pay6 (F := Ideal) x0 (View.ld (Val := Elt Ideal) (e' := .bf16) (S := S512x1024) x2 (Rect.unit ![0, 0] ![128, 128] inb_S512x1024_S128x128_0_0))⟩]

/-- The channel transforms of a block of rows: rows below 2048 the cosine products, the others the sine products;
    each column block of 128 meets its own 128 rows of the table. -/
def zAt (x0 : FVec Ideal S2048x512 .bf16) (x2 : FVec Ideal S512x1024 .bf16) (y : S4096x512.Idx) : EReal :=
  ∑ d : Fin 128, x0 (ix2 ⟨(y 0).val % 2048, by omega⟩ ⟨128 * ((y 1).val / 128) + d, by have : (y 1).val < 512 := (y 1).isLt; omega⟩)
    * x2 (ix2 ⟨128 * ((y 1).val / 128) + d, by have : (y 1).val < 512 := (y 1).isLt; omega⟩
        ⟨512 * ((y 0).val / 2048) + (y 1).val, by have : (y 1).val < 512 := (y 1).isLt; have : (y 0).val < 4096 := (y 0).isLt; omega⟩)

set_option maxHeartbeats 3200000 in
/-- The scratch of channel transforms, read at an index. -/
theorem z_canon (x0 : FVec Ideal S2048x512 .bf16) (x2 : FVec Ideal S512x1024 .bf16) (y : S4096x512.Idx) :
    View.canon (zPieces x0 x2) y = zAt x0 x2 y := by
  unfold zPieces
  canon_tiles x h
  all_goals (open_payloads; unfold zAt; pointwise)
  all_goals blk_point []

/-- Row numbers counted down in a group of eight: `7 - r`, wrapped by eight where negative (nowhere). -/
abbrev downRows : IVec S8x512 32 :=
  shapeCast S8x512 (shapeCast S8x512x1 (select (cmpi .slt k0_pay20 (broadcast S8x512 0#32)) (addi k0_pay20 (broadcast S8x512 8#32)) k0_pay20)
    shapeCasts_S8x512_S8x512x1) shapeCasts_S8x512x1_S8x512

/-- Group `g` of eight rows of the reversed array: the rows `1016 - 8 g …` gathered in reverse. -/
def revGroup (d : FVec Ideal S1024x512 .f32) (g : Fin 128) : FVec Ideal S8x512 .f32 :=
  dynamicGather 0 (extractStridedSlice S8x512 ![1016 - 8 * g.val, 0] d
    ⟨rfl, fun a => by fin_cases a <;> simp [S8x512, S1024x512] <;> omega⟩) downRows

/-- Row `r` of a group is gathered from row `7 - r`. -/
theorem downRows_at (r : Fin 8) (q : Fin 512) : (downRows (ix2 r q)).toNat % 8 = 7 - r.val := by
  unfold downRows
  pointwise [k0_pay20]
  revert r
  decide

/-- A group of the reversed array at an index. -/
theorem revGroup_at (d : FVec Ideal S1024x512 .f32) (g : Fin 128) (r : Fin 8) (q : Fin 512) :
    revGroup d g (ix2 r q) = d (ix2 ⟨1023 - (8 * g.val + r.val), by omega⟩ q) := by
  rw [revGroup, dynamicGather_apply]
  refine extractStridedSlice_apply (t := S8x512) _ d _ _ _ fun a => ?_
  have hg := g.isLt
  have hr := downRows_at r q
  match a with
  | ⟨0, _⟩ =>
    show 1023 - (8 * g.val + r.val) = 1016 - 8 * g.val + (downRows (ix2 r q)).toNat % 8
    omega
  | ⟨1, _⟩ =>
    show q.val = 0 + q.val
    omega

/-- The rows of an array in reverse, as the concatenation of the reversed groups. -/
def reversed (d : FVec Ideal S1024x512 .f32) : FVec Ideal S1024x512 .f32 :=
  concatenate S1024x512 0 (List.ofFn fun g : Fin 128 => (⟨S8x512, revGroup d g⟩ : (s : Shape) × (s.Idx → Ideal .f32)))
    (by rw [List.map_ofFn]; exact (by decide +kernel : Shape.Concatenates (List.ofFn fun _ : Fin 128 => S8x512) S1024x512 0))

/-- The reversed array at an index. -/
theorem reversed_at (d : FVec Ideal S1024x512 .f32) (r : Fin 1024) (q : Fin 512) :
    reversed d (ix2 r q) = d (ix2 ⟨1023 - r.val, by omega⟩ q) := by
  unfold reversed
  rw [concatenate_ofFn_apply (0 : Fin S1024x512.rank) (revGroup d) _ rfl 8 rfl (ix2 r q) ⟨r.val / 8, by omega⟩ rfl
    (ix2 ⟨r.val % 8, by omega⟩ q) rfl (fun b hb => by fin_cases b <;> first | rfl | exact absurd rfl hb)]
  rw [revGroup_at]
  congr 2
  exact Fin.ext (by show 1023 - (8 * (r.val / 8) + r.val % 8) = 1023 - r.val; omega)

end Cert.KernelIdeal.Fourier

end
-- ==== Proof.FourierOut.lean ====
/- What the kernel body leaves in the output block of the Fourier mixing, at an index. -/
module

public import proofs.«01_k».proof.Proof.FourierBlock

@[expose] public section

set_option maxRecDepth 16384

noncomputable section

open Idealize.ShloMosaic Idealize.ShloMosaic.TcCoe Idealize.SL.Sem
open Idealize.ShloMosaic.Pipeline (Dat)
open scoped BigOperators

namespace Cert.KernelIdeal.Fourier

open Cert.KernelIdeal Cert.KernelIdeal.Gen

/-- Frequency row `r` of the token transform, with the cosine half of the table. -/
def pcAt (x0 : FVec Ideal S2048x512 .bf16) (x1 : FVec Ideal S1040x4096 .bf16) (x2 : FVec Ideal S512x1024 .bf16)
    (r : Fin 1040) (q : Fin 512) : EReal :=
  ∑ n : Fin 2048, x1 (ix2 r ⟨n.val, by omega⟩) * zAt x0 x2 (ix2 ⟨n.val, by omega⟩ q)

/-- Frequency row `r` of the token transform, with the sine half of the table. -/
def psAt (x0 : FVec Ideal S2048x512 .bf16) (x1 : FVec Ideal S1040x4096 .bf16) (x2 : FVec Ideal S512x1024 .bf16)
    (r : Fin 1040) (q : Fin 512) : EReal :=
  ∑ n : Fin 2048, x1 (ix2 r ⟨2048 + n.val, by omega⟩) * zAt x0 x2 (ix2 ⟨2048 + n.val, by omega⟩ q)

/-- The mixed row: the sum of the two transforms in the upper half, their difference at the mirrored frequency in the
    lower half. -/
def midAt (x0 : FVec Ideal S2048x512 .bf16) (x1 : FVec Ideal S1040x4096 .bf16) (x2 : FVec Ideal S512x1024 .bf16)
    (r : Fin 2048) (q : Fin 512) : EReal :=
  if r.val < 1024 then pcAt x0 x1 x2 ⟨r.val % 1024, by omega⟩ q + psAt x0 x1 x2 ⟨r.val % 1024, by omega⟩ q
  else pcAt x0 x1 x2 ⟨(2048 - r.val) % 1040, by omega⟩ q - psAt x0 x1 x2 ⟨(2048 - r.val) % 1040, by omega⟩ q

/-- The first product's rows. -/
theorem pay16_at (x0 : FVec Ideal S2048x512 .bf16) (x1 : FVec Ideal S1040x4096 .bf16) (x2 : FVec Ideal S512x1024 .bf16)
    (r : Fin 1040) (q : Fin 512) :
    k0_pay16 (F := Ideal) (View.ld (Val := Elt Ideal) (e' := .bf16) (S := S1040x4096) x1 (Rect.unit ![0, 0] ![1040, 2048] inb_S1040x4096_S1040x2048_0_0))
      (View.readCov (Val := Elt Ideal) (View.whole cc0_scratch0) (zPieces x0 x2) (Rect.unit (s := S4096x512) ![0, 0] ![2048, 512] inb_S4096x512_S2048x512_0_0).toLoadRect)
      (ix2 r q) = pcAt x0 x1 x2 r q := by
  have hz : View.canon (zPieces x0 x2) = zAt x0 x2 := funext (z_canon x0 x2)
  rw [View.readCov_eq_canon', hz]
  unfold pcAt
  pointwise [k0_pay16]

/-- The second product's rows. -/
theorem pay17_at (x0 : FVec Ideal S2048x512 .bf16) (x1 : FVec Ideal S1040x4096 .bf16) (x2 : FVec Ideal S512x1024 .bf16)
    (r : Fin 1040) (q : Fin 512) :
    k0_pay17 (F := Ideal) (View.ld (Val := Elt Ideal) (e' := .bf16) (S := S1040x4096) x1 (Rect.unit ![0, 2048] ![1040, 2048] inb_S1040x4096_S1040x2048_0_2048))
      (View.readCov (Val := Elt Ideal) (View.whole cc0_scratch0) (zPieces x0 x2) (Rect.unit (s := S4096x512) ![2048, 0] ![2048, 512] inb_S4096x512_S2048x512_2048_0).toLoadRect)
      (ix2 r q) = psAt x0 x1 x2 r q := by
  have hz : View.canon (zPieces x0 x2) = zAt x0 x2 := funext (z_canon x0 x2)
  rw [View.readCov_eq_canon', hz]
  unfold psAt
  pointwise [k0_pay17]

/-- The difference of the two products, row by row. -/
theorem pay19_at (x0 : FVec Ideal S2048x512 .bf16) (x1 : FVec Ideal S1040x4096 .bf16) (x2 : FVec Ideal S512x1024 .bf16)
    (r : Fin 1040) (q : Fin 512) :
    k0_pay19 (F := Ideal) (View.ld (Val := Elt Ideal) (e' := .bf16) (S := S1040x4096) x1 (Rect.unit ![0, 0] ![1040, 2048] inb_S1040x4096_S1040x2048_0_0))
      (View.readCov (Val := Elt Ideal) (View.whole cc0_scratch0) (zPieces x0 x2) (Rect.unit (s := S4096x512) ![0, 0] ![2048, 512] inb_S4096x512_S2048x512_0_0).toLoadRect)
      (View.ld (Val := Elt Ideal) (e' := .bf16) (S := S1040x4096) x1 (Rect.unit ![0, 2048] ![1040, 2048] inb_S1040x4096_S1040x2048_0_2048))
      (View.readCov (Val := Elt Ideal) (View.whole cc0_scratch0) (zPieces x0 x2) (Rect.unit (s := S4096x512) ![2048, 0] ![2048, 512] inb_S4096x512_S2048x512_2048_0).toLoadRect)
      (ix2 r q) = pcAt x0 x1 x2 r q - psAt x0 x1 x2 r q := by
  rw [← pay16_at, ← pay17_at]
  pointwise [k0_pay19]

/-- The upper half: the sum of the two products, times the projection. -/
theorem upper_at (x0 : FVec Ideal S2048x512 .bf16) (x1 : FVec Ideal S1040x4096 .bf16) (x2 : FVec Ideal S512x1024 .bf16) (w : FVec Ideal S512x1024 .bf16)
    (r : Fin 1024) (o : Fin 1024) :
    k0_pay2 (F := Ideal) (k0_pay18 (F := Ideal) (View.ld (Val := Elt Ideal) (e' := .bf16) (S := S1040x4096) x1 (Rect.unit ![0, 0] ![1040, 2048] inb_S1040x4096_S1040x2048_0_0))
      (View.readCov (Val := Elt Ideal) (View.whole cc0_scratch0) (zPieces x0 x2) (Rect.unit (s := S4096x512) ![0, 0] ![2048, 512] inb_S4096x512_S2048x512_0_0).toLoadRect)
      (View.ld (Val := Elt Ideal) (e' := .bf16) (S := S1040x4096) x1 (Rect.unit ![0, 2048] ![1040, 2048] inb_S1040x4096_S1040x2048_0_2048))
      (View.readCov (Val := Elt Ideal) (View.whole cc0_scratch0) (zPieces x0 x2) (Rect.unit (s := S4096x512) ![2048, 0] ![2048, 512] inb_S4096x512_S2048x512_2048_0).toLoadRect)) w
      (ix2 r o) = ∑ q : Fin 512, midAt x0 x1 x2 ⟨r.val, by omega⟩ q * w (ix2 q o) := by
  have hm : ∀ q : Fin 512, k0_pay18 (F := Ideal) (View.ld (Val := Elt Ideal) (e' := .bf16) (S := S1040x4096) x1 (Rect.unit ![0, 0] ![1040, 2048] inb_S1040x4096_S1040x2048_0_0))
      (View.readCov (Val := Elt Ideal) (View.whole cc0_scratch0) (zPieces x0 x2) (Rect.unit (s := S4096x512) ![0, 0] ![2048, 512] inb_S4096x512_S2048x512_0_0).toLoadRect)
      (View.ld (Val := Elt Ideal) (e' := .bf16) (S := S1040x4096) x1 (Rect.unit ![0, 2048] ![1040, 2048] inb_S1040x4096_S1040x2048_0_2048))
      (View.readCov (Val := Elt Ideal) (View.whole cc0_scratch0) (zPieces x0 x2) (Rect.unit (s := S4096x512) ![2048, 0] ![2048, 512] inb_S4096x512_S2048x512_2048_0).toLoadRect)
      (ix2 r q) = midAt x0 x1 x2 ⟨r.val, by omega⟩ q := by
    intro q
    have e : (⟨r.val % 1024, by omega⟩ : Fin 1040) = ⟨r.val, by omega⟩ := Fin.ext (by show r.val % 1024 = r.val; omega)
    rw [midAt, if_pos (show r.val < 1024 from r.isLt), e, ← pay16_at, ← pay17_at]
    pointwise [k0_pay18]
  generalize k0_pay18 (F := Ideal) (View.ld (Val := Elt Ideal) (e' := .bf16) (S := S1040x4096) x1 (Rect.unit ![0, 0] ![1040, 2048] inb_S1040x4096_S1040x2048_0_0))
      (View.readCov (Val := Elt Ideal) (View.whole cc0_scratch0) (zPieces x0 x2) (Rect.unit (s := S4096x512) ![0, 0] ![2048, 512] inb_S4096x512_S2048x512_0_0).toLoadRect)
      (View.ld (Val := Elt Ideal) (e' := .bf16) (S := S1040x4096) x1 (Rect.unit ![0, 2048] ![1040, 2048] inb_S1040x4096_S1040x2048_0_2048))
      (View.readCov (Val := Elt Ideal) (View.whole cc0_scratch0) (zPieces x0 x2) (Rect.unit (s := S4096x512) ![2048, 0] ![2048, 512] inb_S4096x512_S2048x512_2048_0).toLoadRect) = z at hm
  simp only [← hm]
  pointwise [k0_pay2]

/-- The lower half: an array whose row `r` holds the difference at frequency row `1 + r`, reversed, times the projection. -/
theorem lower_at (x0 : FVec Ideal S2048x512 .bf16) (x1 : FVec Ideal S1040x4096 .bf16) (x2 : FVec Ideal S512x1024 .bf16) (w : FVec Ideal S512x1024 .bf16)
    (d : FVec Ideal S1024x512 .f32)
    (hd : ∀ (r : Fin 1024) (q : Fin 512), d (ix2 r q) = pcAt x0 x1 x2 ⟨1 + r.val, by omega⟩ q - psAt x0 x1 x2 ⟨1 + r.val, by omega⟩ q)
    (r : Fin 1024) (o : Fin 1024) :
    k0_pay3 (F := Ideal) (reversed d) w (ix2 r o) = ∑ q : Fin 512, midAt x0 x1 x2 ⟨1024 + r.val, by omega⟩ q * w (ix2 q o) := by
  have hm : ∀ q : Fin 512, reversed d (ix2 r q) = midAt x0 x1 x2 ⟨1024 + r.val, by omega⟩ q := by
    intro q
    have e : (⟨(2048 - (1024 + r.val)) % 1040, by omega⟩ : Fin 1040) = ⟨1 + (1023 - r.val), by omega⟩ :=
      Fin.ext (by show (2048 - (1024 + r.val)) % 1040 = 1 + (1023 - r.val); omega)
    rw [midAt, if_neg (show ¬ 1024 + r.val < 1024 by omega), reversed_at, hd, e]
  generalize reversed d = z at hm
  simp only [← hm]
  pointwise [k0_pay3]

/-- What the scratch of differences holds, loaded from its second row on. -/
theorem diff_at (x0 : FVec Ideal S2048x512 .bf16) (x1 : FVec Ideal S1040x4096 .bf16) (x2 : FVec Ideal S512x1024 .bf16)
    (r : Fin 1024) (q : Fin 512) :
    (View.canon (Val := Elt Ideal) ([⟨Rect.unit (s := S1040x512) ![0, 0] ![1040, 512] inb_S1040x512_S1040x512_0_0,
      k0_pay19 (F := Ideal) (View.ld (Val := Elt Ideal) (e' := .bf16) (S := S1040x4096) x1 (Rect.unit ![0, 0] ![1040, 2048] inb_S1040x4096_S1040x2048_0_0))
      (View.readCov (Val := Elt Ideal) (View.whole cc0_scratch0) (zPieces x0 x2) (Rect.unit (s := S4096x512) ![0, 0] ![2048, 512] inb_S4096x512_S2048x512_0_0).toLoadRect)
      (View.ld (Val := Elt Ideal) (e' := .bf16) (S := S1040x4096) x1 (Rect.unit ![0, 2048] ![1040, 2048] inb_S1040x4096_S1040x2048_0_2048))
      (View.readCov (Val := Elt Ideal) (View.whole cc0_scratch0) (zPieces x0 x2) (Rect.unit (s := S4096x512) ![2048, 0] ![2048, 512] inb_S4096x512_S2048x512_2048_0).toLoadRect)⟩] : List (View.Piece (Elt Ideal) S1040x512 .f32))
      ((Rect.unit (s := S1040x512) ![1, 0] ![1024, 512] inb_S1040x512_S1024x512_1_0).idx (ix2 r q)) : EReal)
      = pcAt x0 x1 x2 ⟨1 + r.val, by omega⟩ q - psAt x0 x1 x2 ⟨1 + r.val, by omega⟩ q := by
  rw [View.canon_cons_unit_zero (S := S1040x512) (by funext a; fin_cases a <;> rfl)]
  rw [← pay19_at]
  refine congrArg _ (funext fun a => Fin.ext ?_)
  match a with
  | ⟨0, _⟩ => show 1 + 1 * r.val = 1 + r.val; omega
  | ⟨1, _⟩ => show 0 + 1 * q.val = q.val; omega

set_option maxHeartbeats 3200000 in
/-- The block left at a later point, with the projection carried in the scratch. -/
theorem core_B (c : Dev nD) (t : Fin cfg0.N) (hc : ¬t.val % 8 = 0) (x0 : FVec Ideal S2048x512 .bf16) (x1 : FVec Ideal S1040x4096 .bf16)
    (x2 : FVec Ideal S512x1024 .bf16) (x3 : FVec Ideal S512x1024 .f32) (xs : FVec Ideal S512x1024 .bf16) (a : Fin 2048) (b : Fin 1024) :
    (out0_B_4 (F := Ideal) c (grid0.coords t) (ms0_0 t) (hs0_0 t) (ms0_1 t) (hs0_1 t) (ms0_2 t) (hs0_2 t) (ms0_3 t) (hs0_3 t)
      (ms0_4 t) (hs0_4 t) scM0_0 (Memref.isWhole_whole _) scM0_1 (Memref.isWhole_whole _) scM0_2 (Memref.isWhole_whole
      _) (fun h => hc ((hcond0_0 t).mp h)) x0 x1 x2 x3 xs (ix2 a b) : EReal)
      = ∑ q : Fin 512, midAt x0 x1 x2 a q * xs (ix2 q b) := by
  generalize hy : (ix2 a b : S2048x1024.Idx) = y
  frame_out
  canon_tiles x h
  · generalize hd : View.readCov (Val := Elt Ideal) (View.whole cc0_scratch1) _ _ = d
    change k0_pay3 (F := Ideal) (reversed d) _ x = _
    have hd' : ∀ (r : Fin 1024) (q : Fin 512), d (ix2 r q) = pcAt x0 x1 x2 ⟨1 + r.val, by omega⟩ q - psAt x0 x1 x2 ⟨1 + r.val, by omega⟩ q := by
      intro r q
      rw [← hd, View.readCov_eq_canon']
      simp only [Memref.IsWhole.read_unread]
      rw [View.ld_unit_zero (S := S2048x512) (by funext a; fin_cases a <;> rfl)]
      exact diff_at x0 x1 x2 r q
    clear hd
    obtain ⟨r, o, rfl⟩ : ∃ (r : Fin 1024) (o : Fin 1024), x = ix2 r o := ⟨x 0, x 1, by funext a; fin_cases a <;> rfl⟩
    subst hy
    refine (lower_at x0 x1 x2 _ d hd' r o).trans ?_
    have e0 : (⟨1024 + r.val, by omega⟩ : Fin 2048) = a := Fin.ext (by simpa using h0.symm)
    have e1 : o = b := Fin.ext (by simpa using h1.symm)
    rw [e0, e1]
    refine Finset.sum_congr rfl fun q _ => ?_
    exact congrArg (fun z : FVec Ideal S512x1024 .bf16 => midAt x0 x1 x2 a q * z (ix2 q b)) (Memref.IsWhole.read_unread _ _)
  · obtain ⟨r, o, rfl⟩ : ∃ (r : Fin 1024) (o : Fin 1024), x = ix2 r o := ⟨x 0, x 1, by funext a; fin_cases a <;> rfl⟩
    subst hy
    refine (upper_at x0 x1 x2 _ r o).trans ?_
    have e0 : (⟨r.val, by omega⟩ : Fin 2048) = a := Fin.ext (by simpa using h0.symm)
    have e1 : o = b := Fin.ext (by simpa using h1.symm)
    rw [e0, e1]
    refine Finset.sum_congr rfl fun q _ => ?_
    exact congrArg (fun z : FVec Ideal S512x1024 .bf16 => midAt x0 x1 x2 a q * z (ix2 q b)) (Memref.IsWhole.read_unread _ _)

set_option maxHeartbeats 3200000 in
/-- The block left at the first point, which casts the projection into the scratch first. -/
theorem core_A (c : Dev nD) (t : Fin cfg0.N) (hc : t.val % 8 = 0) (x0 : FVec Ideal S2048x512 .bf16) (x1 : FVec Ideal S1040x4096 .bf16)
    (x2 : FVec Ideal S512x1024 .bf16) (x3 : FVec Ideal S512x1024 .f32) (a : Fin 2048) (b : Fin 1024) :
    (out0_A_4 (F := Ideal) c (grid0.coords t) (ms0_0 t) (hs0_0 t) (ms0_1 t) (hs0_1 t) (ms0_2 t) (hs0_2 t) (ms0_3 t) (hs0_3 t)
      (ms0_4 t) (hs0_4 t) scM0_0 (Memref.isWhole_whole _) scM0_1 (Memref.isWhole_whole _) scM0_2 (Memref.isWhole_whole
      _) ((hcond0_0 t).mpr hc) x0 x1 x2 x3 (ix2 a b) : EReal)
      = ∑ q : Fin 512, midAt x0 x1 x2 a q * x3 (ix2 q b) := by
  generalize hy : (ix2 a b : S2048x1024.Idx) = y
  frame_out
  canon_tiles x h
  · generalize hd : View.readCov (Val := Elt Ideal) (View.whole cc0_scratch1) _ _ = d
    change k0_pay3 (F := Ideal) (reversed d) _ x = _
    have hd' : ∀ (r : Fin 1024) (q : Fin 512), d (ix2 r q) = pcAt x0 x1 x2 ⟨1 + r.val, by omega⟩ q - psAt x0 x1 x2 ⟨1 + r.val, by omega⟩ q := by
      intro r q
      rw [← hd, View.readCov_eq_canon']
      simp only [Memref.IsWhole.read_unread]
      rw [View.ld_unit_zero (S := S2048x512) (by funext a; fin_cases a <;> rfl)]
      exact diff_at x0 x1 x2 r q
    clear hd
    obtain ⟨r, o, rfl⟩ : ∃ (r : Fin 1024) (o : Fin 1024), x = ix2 r o := ⟨x 0, x 1, by funext a; fin_cases a <;> rfl⟩
    subst hy
    refine (lower_at x0 x1 x2 _ d hd' r o).trans ?_
    have e0 : (⟨1024 + r.val, by omega⟩ : Fin 2048) = a := Fin.ext (by simpa using h0.symm)
    have e1 : o = b := Fin.ext (by simpa using h1.symm)
    rw [e0, e1]
    refine Finset.sum_congr rfl fun q _ => ?_
    pointwise [k0_pay4]
  · obtain ⟨r, o, rfl⟩ : ∃ (r : Fin 1024) (o : Fin 1024), x = ix2 r o := ⟨x 0, x 1, by funext a; fin_cases a <;> rfl⟩
    subst hy
    refine (upper_at x0 x1 x2 _ r o).trans ?_
    have e0 : (⟨r.val, by omega⟩ : Fin 2048) = a := Fin.ext (by simpa using h0.symm)
    have e1 : o = b := Fin.ext (by simpa using h1.symm)
    rw [e0, e1]
    refine Finset.sum_congr rfl fun q _ => ?_
    pointwise [k0_pay4]

end Cert.KernelIdeal.Fourier

end
-- ==== Proof.FourierMath.lean ====
/- The arithmetic of the discrete Fourier transform by half-spectrum tables. -/
module

public import Idealize.ShloMosaic.Lib.Pointwise
public import Idealize.ShloMosaic.PureOps.Ideal.Laws

@[expose] public section

set_option maxRecDepth 16384

noncomputable section

open Idealize.ShloMosaic
open scoped BigOperators

namespace Cert.FourierMath

/-- A finite sum of reals, read in the extended reals, is the sum of the summands read there. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The angle `2π k / N`. -/
def ang (N k : ℕ) : ℝ := 2 * Real.pi * k / N

/-- Reducing `k` modulo `N` turns the angle by whole turns: the cosine does not change. -/
theorem cos_mod (N k : ℕ) (hN : 0 < N) : Real.cos (ang N (k % N)) = Real.cos (ang N k) := by
  have h : ang N k = ang N (k % N) + (((k / N : ℕ) : ℤ) : ℝ) * (2 * Real.pi) := by
    have hk : (k : ℝ) = N * (k / N : ℕ) + (k % N : ℕ) := by exact_mod_cast (Nat.div_add_mod k N).symm
    have hN' : (N : ℝ) ≠ 0 := by positivity
    unfold ang
    rw [div_add' _ _ _ hN']
    congr 1
    rw [hk]
    rw [Int.cast_natCast]
    ring
  rw [h, Real.cos_add_int_mul_two_pi]

/-- Reducing `k` modulo `N` turns the angle by whole turns: the sine does not change. -/
theorem sin_mod (N k : ℕ) (hN : 0 < N) : Real.sin (ang N (k % N)) = Real.sin (ang N k) := by
  have h : ang N k = ang N (k % N) + (((k / N : ℕ) : ℤ) : ℝ) * (2 * Real.pi) := by
    have hk : (k : ℝ) = N * (k / N : ℕ) + (k % N : ℕ) := by exact_mod_cast (Nat.div_add_mod k N).symm
    have hN' : (N : ℝ) ≠ 0 := by positivity
    unfold ang
    rw [div_add' _ _ _ hN']
    congr 1
    rw [hk]
    rw [Int.cast_natCast]
    ring
  rw [h, Real.sin_add_int_mul_two_pi]

/-- The sine of a multiple of the half turn is zero: `k` a multiple of 1024, of 2048 to the turn. -/
theorem sin_half (k : ℕ) (h : k % 1024 = 0) : Real.sin (ang 2048 k) = 0 := by
  obtain ⟨q, rfl⟩ := Nat.dvd_of_mod_eq_zero h
  have : ang 2048 (1024 * q) = (q : ℤ) * Real.pi := by unfold ang; push_cast; ring
  rw [this, Real.sin_int_mul_pi]

/-- The cosine at the mirrored frequency `2048 - r` is the cosine at `r`. -/
theorem cos_mirror (r n : ℕ) (h : r ≤ 2048) : Real.cos (ang 2048 ((2048 - r) * n)) = Real.cos (ang 2048 (n * r)) := by
  have : ang 2048 ((2048 - r) * n) = (n : ℤ) * (2 * Real.pi) - ang 2048 (n * r) := by
    unfold ang; push_cast [Nat.cast_sub h]; ring
  rw [this, Real.cos_int_mul_two_pi_sub]

/-- The sine at the mirrored frequency `2048 - r` is the negated sine at `r`. -/
theorem sin_mirror (r n : ℕ) (h : r ≤ 2048) : Real.sin (ang 2048 ((2048 - r) * n)) = -Real.sin (ang 2048 (n * r)) := by
  have : ang 2048 ((2048 - r) * n) = (n : ℤ) * (2 * Real.pi) - ang 2048 (n * r) := by
    unfold ang; push_cast [Nat.cast_sub h]; ring
  rw [this, Real.sin_int_mul_two_pi_sub]

/-- The upper half of the rows: the cosine product plus the sine product, of the channel transforms scaled by `1/512`,
    is the real part of the transform, divided by 512. -/
theorem mid_add (u : Fin 2048 → Fin 128 → ℝ) (cc ss : Fin 128 → ℝ) (C S : Fin 2048 → ℝ) :
    (∑ n, (C n : EReal) * ∑ d, (u n d : EReal) * ((cc d : EReal) * ((1 / 512 : ℝ) : EReal)))
      + (∑ n, (S n : EReal) * ∑ d, (u n d : EReal) * (-(ss d : EReal) * ((1 / 512 : ℝ) : EReal)))
      = Ideal.div ((∑ n, (∑ d, (u n d : EReal) * (cc d : EReal)) * (C n : EReal))
          - ∑ n, (∑ d, (u n d : EReal) * -(ss d : EReal)) * -(S n : EReal)) ((512 : ℝ) : EReal) := by
  simp only [← EReal.coe_mul, ← EReal.coe_neg, ← coe_sum, ← EReal.coe_add, ← EReal.coe_sub]
  rw [Ideal.div_coe (by norm_num : (512 : ℝ) ≠ 0), ← EReal.coe_mul]
  congr 1
  simp only [Finset.mul_sum, Finset.sum_mul, sub_mul, ← Finset.sum_add_distrib, ← Finset.sum_sub_distrib]
  refine Finset.sum_congr rfl fun n _ => ?_
  refine Finset.sum_congr rfl fun d _ => ?_
  ring

/-- The lower half of the rows: the same with the sine's sign turned, as a difference. -/
theorem mid_sub (u : Fin 2048 → Fin 128 → ℝ) (cc ss : Fin 128 → ℝ) (C S : Fin 2048 → ℝ) :
    (∑ n, (C n : EReal) * ∑ d, (u n d : EReal) * ((cc d : EReal) * ((1 / 512 : ℝ) : EReal)))
      - (∑ n, ((-S n : ℝ) : EReal) * ∑ d, (u n d : EReal) * (-(ss d : EReal) * ((1 / 512 : ℝ) : EReal)))
      = Ideal.div ((∑ n, (∑ d, (u n d : EReal) * (cc d : EReal)) * (C n : EReal))
          - ∑ n, (∑ d, (u n d : EReal) * -(ss d : EReal)) * -(S n : EReal)) ((512 : ℝ) : EReal) := by
  simp only [← EReal.coe_mul, ← EReal.coe_neg, ← coe_sum, ← EReal.coe_add, ← EReal.coe_sub]
  rw [Ideal.div_coe (by norm_num : (512 : ℝ) ≠ 0), ← EReal.coe_mul]
  congr 1
  simp only [Finset.mul_sum, Finset.sum_mul, sub_mul, ← Finset.sum_add_distrib, ← Finset.sum_sub_distrib]
  refine Finset.sum_congr rfl fun n _ => ?_
  refine Finset.sum_congr rfl fun d _ => ?_
  ring

end Cert.FourierMath

end
-- ==== Proof.FourierMid.lean ====
/- The mixed entries the kernel body computes, from the tables' entries: the reference's. -/
module

public import proofs.«01_k».proof.Proof.FourierOut
public import proofs.«01_k».proof.Proof.FourierMath

@[expose] public section

set_option maxRecDepth 16384

noncomputable section

open Idealize.ShloMosaic Idealize.ShloMosaic.TcCoe Idealize.SL.Sem
open Idealize.ShloMosaic.Pipeline (Dat)
open scoped BigOperators

namespace Cert.KernelIdeal.Fourier

open Cert.KernelIdeal Cert.KernelIdeal.Gen Cert.FourierMath

/-- What the tables hold: cosines and sines of the angles, the channel tables on their diagonal blocks only. -/
structure Tables (x1 : FVec Ideal S1040x4096 .bf16) (x2 : FVec Ideal S512x1024 .bf16) : Prop where
  cosT : ∀ (k : Fin 1040) (n : Fin 2048), k.val ≤ 1024 →
    (x1 (ix2 k ⟨n.val, by omega⟩) : EReal) = ((Real.cos (ang 2048 (k.val * n.val)) : ℝ) : EReal)
  sinT : ∀ (k : Fin 1040) (n : Fin 2048), k.val ≤ 1024 →
    (x1 (ix2 k ⟨2048 + n.val, by omega⟩) : EReal) = ((Real.sin (ang 2048 (k.val * n.val)) : ℝ) : EReal)
  cosC : ∀ a b : Fin 512, a.val / 128 = b.val / 128 →
    (x2 (ix2 a ⟨b.val, by omega⟩) : EReal)
      = ((Real.cos (ang 128 ((a.val % 128) * (b.val % 128))) : ℝ) : EReal) * ((1 / 512 : ℝ) : EReal)
  sinC : ∀ a b : Fin 512, a.val / 128 = b.val / 128 →
    (x2 (ix2 a ⟨512 + b.val, by omega⟩) : EReal)
      = -((Real.sin (ang 128 ((a.val % 128) * (b.val % 128))) : ℝ) : EReal) * ((1 / 512 : ℝ) : EReal)

variable (x0 : FVec Ideal S2048x512 .bf16) (x1 : FVec Ideal S1040x4096 .bf16) (x2 : FVec Ideal S512x1024 .bf16)
  (T : Tables x1 x2) (u : Fin 2048 → Fin 512 → ℝ) (hu : ∀ n j, (x0 (ix2 n j) : EReal) = ((u n j : ℝ) : EReal))

include T hu

/-- The channel transform's real part, scaled. -/
theorem z_cos (n : Fin 2048) (q : Fin 512) :
    (zAt x0 x2 (ix2 ⟨n.val, by omega⟩ q) : EReal) = ∑ d : Fin 128, ((u n ⟨q.val / 128 * 128 + d.val, by omega⟩ : ℝ) : EReal)
      * (((Real.cos (ang 128 (d.val * (q.val % 128))) : ℝ) : EReal) * ((1 / 512 : ℝ) : EReal)) := by
  unfold zAt
  refine Finset.sum_congr rfl fun d _ => ?_
  have hn : n.val % 2048 = n.val := Nat.mod_eq_of_lt n.isLt
  have hc := T.cosC ⟨q.val / 128 * 128 + d.val, by omega⟩ q (by show (q.val / 128 * 128 + d.val) / 128 = _; omega)
  rw [show (⟨q.val / 128 * 128 + d.val, by omega⟩ : Fin 512).val % 128 = d.val from by
    show (q.val / 128 * 128 + d.val) % 128 = _; omega] at hc
  rw [← hc, ← hu]
  congr 2
  · congr 1 <;> apply Fin.ext
    · exact hn
    · show 128 * (q.val / 128) + d.val = q.val / 128 * 128 + d.val; omega
  · congr 1 <;> apply Fin.ext
    · show 128 * (q.val / 128) + d.val = q.val / 128 * 128 + d.val; omega
    · show 512 * (n.val / 2048) + q.val = q.val; omega

/-- The channel transform's imaginary part, scaled. -/
theorem z_sin (n : Fin 2048) (q : Fin 512) :
    (zAt x0 x2 (ix2 ⟨2048 + n.val, by omega⟩ q) : EReal) = ∑ d : Fin 128, ((u n ⟨q.val / 128 * 128 + d.val, by omega⟩ : ℝ) : EReal)
      * (-((Real.sin (ang 128 (d.val * (q.val % 128))) : ℝ) : EReal) * ((1 / 512 : ℝ) : EReal)) := by
  unfold zAt
  refine Finset.sum_congr rfl fun d _ => ?_
  have hc := T.sinC ⟨q.val / 128 * 128 + d.val, by omega⟩ q (by show (q.val / 128 * 128 + d.val) / 128 = _; omega)
  rw [show (⟨q.val / 128 * 128 + d.val, by omega⟩ : Fin 512).val % 128 = d.val from by
    show (q.val / 128 * 128 + d.val) % 128 = _; omega] at hc
  rw [← hc, ← hu]
  congr 2
  · congr 1 <;> apply Fin.ext
    · show (2048 + n.val) % 2048 = n.val; omega
    · show 128 * (q.val / 128) + d.val = q.val / 128 * 128 + d.val; omega
  · congr 1 <;> apply Fin.ext
    · show 128 * (q.val / 128) + d.val = q.val / 128 * 128 + d.val; omega
    · show 512 * ((2048 + n.val) / 2048) + q.val = 512 + q.val; omega

/-- The mixed entry is the real part of the transform, over 512. -/
theorem mid_eq (r : Fin 2048) (q : Fin 512) :
    midAt x0 x1 x2 r q = Ideal.div
    ((∑ n : Fin 2048, (∑ d : Fin 128, ((u n ⟨q.val / 128 * 128 + d.val, by omega⟩ : ℝ) : EReal) * ((Real.cos (ang 128 (d.val * (q.val % 128))) : ℝ) : EReal))
        * ((Real.cos (ang 2048 (r.val * n.val)) : ℝ) : EReal))
      - ∑ n : Fin 2048, (∑ d : Fin 128, ((u n ⟨q.val / 128 * 128 + d.val, by omega⟩ : ℝ) : EReal) * -((Real.sin (ang 128 (d.val * (q.val % 128))) : ℝ) : EReal))
        * -((Real.sin (ang 2048 (r.val * n.val)) : ℝ) : EReal)) ((512 : ℝ) : EReal) := by
  unfold midAt
  by_cases h : r.val < 1024
  · rw [if_pos h, pcAt, psAt]
    simp only [z_cos x0 x1 x2 T u hu, z_sin x0 x1 x2 T u hu]
    have e : (⟨r.val % 1024, by omega⟩ : Fin 1040).val = r.val := Nat.mod_eq_of_lt h
    have hC : ∀ n : Fin 2048, (x1 (ix2 ⟨r.val % 1024, by omega⟩ ⟨n.val, by omega⟩) : EReal)
        = ((Real.cos (ang 2048 (r.val * n.val)) : ℝ) : EReal) := fun n => by
      rw [T.cosT _ n (le_of_eq_of_le e (by omega)), e]
    have hS : ∀ n : Fin 2048, (x1 (ix2 ⟨r.val % 1024, by omega⟩ ⟨2048 + n.val, by omega⟩) : EReal)
        = ((Real.sin (ang 2048 (r.val * n.val)) : ℝ) : EReal) := fun n => by
      rw [T.sinT _ n (le_of_eq_of_le e (by omega)), e]
    simp only [hC, hS]
    exact mid_add (fun n d => u n ⟨q.val / 128 * 128 + d.val, by omega⟩)
      (fun d => Real.cos (ang 128 (d.val * (q.val % 128)))) (fun d => Real.sin (ang 128 (d.val * (q.val % 128))))
      (fun n => Real.cos (ang 2048 (r.val * n.val))) (fun n => Real.sin (ang 2048 (r.val * n.val)))
  · rw [if_neg h, pcAt, psAt]
    simp only [z_cos x0 x1 x2 T u hu, z_sin x0 x1 x2 T u hu]
    have e : (⟨(2048 - r.val) % 1040, by omega⟩ : Fin 1040).val = 2048 - r.val := by
      show (2048 - r.val) % 1040 = _; omega
    have hC : ∀ n : Fin 2048, (x1 (ix2 ⟨(2048 - r.val) % 1040, by omega⟩ ⟨n.val, by omega⟩) : EReal)
        = ((Real.cos (ang 2048 (r.val * n.val)) : ℝ) : EReal) := fun n => by
      rw [T.cosT _ n (le_of_eq_of_le e (by omega)), e, cos_mirror r.val _ (by omega), Nat.mul_comm]
    have hS : ∀ n : Fin 2048, (x1 (ix2 ⟨(2048 - r.val) % 1040, by omega⟩ ⟨2048 + n.val, by omega⟩) : EReal)
        = ((-Real.sin (ang 2048 (r.val * n.val)) : ℝ) : EReal) := fun n => by
      rw [T.sinT _ n (le_of_eq_of_le e (by omega)), e, sin_mirror r.val _ (by omega), Nat.mul_comm]
    simp only [hC, hS]
    exact mid_sub (fun n d => u n ⟨q.val / 128 * 128 + d.val, by omega⟩)
      (fun d => Real.cos (ang 128 (d.val * (q.val % 128)))) (fun d => Real.sin (ang 128 (d.val * (q.val % 128))))
      (fun n => Real.cos (ang 2048 (r.val * n.val))) (fun n => Real.sin (ang 2048 (r.val * n.val)))

end Cert.KernelIdeal.Fourier

end
-- ==== Proof.FourierTables.lean ====
/- The tables the host builds for the Fourier mixing, entry by entry, as cosines and sines of real angles. -/
module

public import proofs.«01_k».proof.Proof.FourierMath
public import Idealize.ShloMosaic.Lib.Routing.Words
public import Idealize.ShloMosaic.Lib.WordCmp

@[expose] public section

set_option maxRecDepth 16384

noncomputable section

open Idealize.ShloMosaic Idealize.ShloMosaic.WordCmp Idealize.ShloMosaic.Routing
open scoped BigOperators

namespace Cert.FourierMath

/-- The f32 pattern of 2. -/
theorem bits_two : Ideal.ofBits .f32 1073741824#32 = ((2 : ℝ) : EReal) := by
  simp [Ideal.ofBits, Ideal.ieee, -EReal.coe_mul]; norm_num

/-- The f32 pattern of -1. -/
theorem bits_neg_one : Ideal.ofBits .f32 3212836864#32 = ((-1 : ℝ) : EReal) := by
  simp [Ideal.ofBits, Ideal.ieee, -EReal.coe_mul, -EReal.coe_neg]; norm_num

/-- The f32 pattern of 2048. -/
theorem bits_2048 : Ideal.ofBits .f32 1157627904#32 = ((2048 : ℝ) : EReal) := by
  simp [Ideal.ofBits, Ideal.ieee, -EReal.coe_mul]; norm_num

/-- The f32 pattern of 128. -/
theorem bits_128 : Ideal.ofBits .f32 1124073472#32 = ((128 : ℝ) : EReal) := by
  simp [Ideal.ofBits, Ideal.ieee, -EReal.coe_mul]; norm_num

/-- The f32 pattern of 512. -/
theorem bits_512 : Ideal.ofBits .f32 1140850688#32 = ((512 : ℝ) : EReal) := by
  simp [Ideal.ofBits, Ideal.ieee, -EReal.coe_mul]; norm_num

/-- The f32 pattern of 1/512. -/
theorem bits_inv_512 : Ideal.ofBits .f32 989855744#32 = ((1 / 512 : ℝ) : EReal) := by
  simp [Ideal.ofBits, Ideal.ieee, -EReal.coe_mul]; norm_num

/-- The angle of the point (-1, 0) is pi. -/
theorem atan2_pi : Ideal.atan2 0 ((-1 : ℝ) : EReal) = (Real.pi : EReal) := by
  show (((if (0 : ℝ) < -1 then Real.arctan (0 / -1)
      else if (-1 : ℝ) < 0 then (if (0 : ℝ) ≤ 0 then Real.arctan (0 / -1) + Real.pi else Real.arctan (0 / -1) - Real.pi)
      else if (0 : ℝ) < 0 then Real.pi / 2 else if (0 : ℝ) < 0 then -(Real.pi / 2) else 0 : ℝ)) : EReal) = _
  rw [if_neg (by norm_num), if_pos (by norm_num), if_pos le_rfl, zero_div, Real.arctan_zero, zero_add]

/-- A small natural number's word, read as an integer. -/
theorem toInt_word {k : ℕ} (h : k < 2 ^ 31) : (BitVec.ofNat 32 k).toInt = (k : ℤ) := by
  rw [BitVec.toInt_eq_toNat_of_lt] <;> rw [BitVec.toNat_ofNat, Nat.mod_eq_of_lt (by omega)]
  omega

/-- A small natural number's word, converted to a float. -/
theorem sitofp_word {k : ℕ} (h : k < 2 ^ 31) :
    (FloatOps.sitofp .f32 (BitVec.ofNat 32 k) : Ideal .f32) = ((k : ℝ) : EReal) := by
  show (((BitVec.ofNat 32 k).toInt : ℝ) : EReal) = _
  rw [toInt_word h, Int.cast_natCast]

/-- The product of two words. -/
theorem muli_word (a b : ℕ) : IntOp.muli (BitVec.ofNat 32 a) (BitVec.ofNat 32 b) = BitVec.ofNat 32 (a * b) :=
  (BitVec.ofNat_mul ..).symm

/-- The angle expression of the tables of size 2048, at the phase `k`. -/
theorem angle_2048 {k : ℕ} (h : k < 2 ^ 31) :
    Ideal.div (Ideal.ofBits .f32 1073741824#32 * Ideal.atan2 0 (Ideal.ofBits .f32 3212836864#32)
      * (FloatOps.sitofp .f32 (BitVec.ofNat 32 k) : Ideal .f32)) (Ideal.ofBits .f32 1157627904#32)
      = ((ang 2048 k : ℝ) : EReal) := by
  rw [bits_two, bits_neg_one, bits_2048, atan2_pi, sitofp_word h, Ideal.div_coe (by norm_num), ← EReal.coe_mul,
    ← EReal.coe_mul, ← EReal.coe_mul]
  congr 1
  unfold ang; push_cast; ring

/-- The angle expression of the tables of size 128, at the phase `k`. -/
theorem angle_128 {k : ℕ} (h : k < 2 ^ 31) :
    Ideal.div (Ideal.ofBits .f32 1073741824#32 * Ideal.atan2 0 (Ideal.ofBits .f32 3212836864#32)
      * (FloatOps.sitofp .f32 (BitVec.ofNat 32 k) : Ideal .f32)) (Ideal.ofBits .f32 1124073472#32)
      = ((ang 128 k : ℝ) : EReal) := by
  rw [bits_two, bits_neg_one, bits_128, atan2_pi, sitofp_word h, Ideal.div_coe (by norm_num), ← EReal.coe_mul,
    ← EReal.coe_mul, ← EReal.coe_mul]
  congr 1
  unfold ang; push_cast; ring

/-- An entry of the token table's cosine half: row `a` up to 1024, column `b`. -/
theorem cos_entry (a b : ℕ) (ha : a ≤ 1024) (hb : b < 2048) :
    Scalar.select (IntOp.cmpi .sle (BitVec.ofNat 32 a) 1024#32)
      (Ideal.cos (Ideal.div (Ideal.ofBits .f32 1073741824#32 * Ideal.atan2 0 (Ideal.ofBits .f32 3212836864#32)
        * (FloatOps.sitofp .f32 (IntOp.remsi .host (IntOp.muli (BitVec.ofNat 32 a) (BitVec.ofNat 32 b)) 2048#32) : Ideal .f32))
        (Ideal.ofBits .f32 1157627904#32))) 0
      = ((Real.cos (ang 2048 (a * b)) : ℝ) : EReal) := by
  have hab : a * b ≤ 1024 * 2048 := Nat.mul_le_mul ha hb.le
  rw [cmpi_sle_ofNat (by omega) (by omega), decide_eq_true ha, muli_word,
    remsi_word _ (by omega) (by omega) (by omega), angle_2048 (by omega), Ideal.cos_coe, cos_mod _ _ (by omega)]
  rfl

/-- An entry of the token table's sine half: row `a` up to 1024, column `b`; where the phase is a multiple of a half
    turn the table holds zero, which is the sine there. -/
theorem sin_entry (a b : ℕ) (ha : a ≤ 1024) (hb : b < 2048) :
    Scalar.select (IntOp.andi (IntOp.cmpi .sle (BitVec.ofNat 32 a) 1024#32)
        (IntOp.cmpi .ne (IntOp.remsi .host (IntOp.remsi .host (IntOp.muli (BitVec.ofNat 32 a) (BitVec.ofNat 32 b)) 2048#32) 1024#32) 0#32))
      (Ideal.sin (Ideal.div (Ideal.ofBits .f32 1073741824#32 * Ideal.atan2 0 (Ideal.ofBits .f32 3212836864#32)
        * (FloatOps.sitofp .f32 (IntOp.remsi .host (IntOp.muli (BitVec.ofNat 32 a) (BitVec.ofNat 32 b)) 2048#32) : Ideal .f32))
        (Ideal.ofBits .f32 1157627904#32))) 0
      = ((Real.sin (ang 2048 (a * b)) : ℝ) : EReal) := by
  have hab : a * b ≤ 1024 * 2048 := Nat.mul_le_mul ha hb.le
  rw [cmpi_sle_ofNat (by omega) (by omega), decide_eq_true ha, muli_word,
    remsi_word _ (by omega) (by omega) (by omega), remsi_word _ (by omega) (by omega) (by omega),
    cmpi_ne_ofNat (by omega) (by omega), angle_2048 (by omega), Ideal.sin_coe, sin_mod _ _ (by omega)]
  by_cases h : a * b % 2048 % 1024 = 0
  · rw [decide_eq_false (by simpa using h), sin_half _ (by omega)]
    rfl
  · rw [decide_eq_true h]
    rfl

/-- An entry of a diagonal block of the channel table's cosine half, with the scale inside the selection. -/
theorem chan_cos_entry (x : EReal) (a b : ℕ) (hab : a / 128 = b / 128) (ha : a < 512) (hb : b < 512) :
    Scalar.select (IntOp.cmpi .eq (IntOp.divsi .host (BitVec.ofNat 32 a) 128#32) (IntOp.divsi .host (BitVec.ofNat 32 b) 128#32))
      (Ideal.cos (Ideal.div (Ideal.ofBits .f32 1073741824#32 * Ideal.atan2 0 (Ideal.ofBits .f32 3212836864#32)
        * (FloatOps.sitofp .f32 (IntOp.remsi .host (IntOp.muli (IntOp.remsi .host (BitVec.ofNat 32 a) 128#32)
          (IntOp.remsi .host (BitVec.ofNat 32 b) 128#32)) 128#32) : Ideal .f32)) (Ideal.ofBits .f32 1124073472#32)) * x) 0
      = ((Real.cos (ang 128 ((a % 128) * (b % 128))) : ℝ) : EReal) * x := by
  have h2 : (a % 128) * (b % 128) ≤ 128 * 128 := Nat.mul_le_mul (Nat.mod_lt _ (by omega)).le (Nat.mod_lt _ (by omega)).le
  rw [divsi_word _ (by omega) (by omega) (by omega), divsi_word _ (by omega) (by omega) (by omega),
    cmpi_eq_ofNat (by omega) (by omega), decide_eq_true hab, remsi_word _ (by omega) (by omega) (by omega),
    remsi_word _ (by omega) (by omega) (by omega), muli_word, remsi_word _ (by omega) (by omega) (by omega),
    angle_128 (by omega), Ideal.cos_coe, cos_mod _ _ (by omega)]
  rfl

/-- An entry of a diagonal block of the channel table's sine half, before the sign and the scaling. -/
theorem chan_sin_entry (a b : ℕ) (hab : a / 128 = b / 128) (ha : a < 512) (hb : b < 512) :
    Scalar.select (IntOp.cmpi .eq (IntOp.divsi .host (BitVec.ofNat 32 a) 128#32) (IntOp.divsi .host (BitVec.ofNat 32 b) 128#32))
      (Ideal.sin (Ideal.div (Ideal.ofBits .f32 1073741824#32 * Ideal.atan2 0 (Ideal.ofBits .f32 3212836864#32)
        * (FloatOps.sitofp .f32 (IntOp.remsi .host (IntOp.muli (IntOp.remsi .host (BitVec.ofNat 32 a) 128#32)
          (IntOp.remsi .host (BitVec.ofNat 32 b) 128#32)) 128#32) : Ideal .f32)) (Ideal.ofBits .f32 1124073472#32))) 0
      = ((Real.sin (ang 128 ((a % 128) * (b % 128))) : ℝ) : EReal) := by
  have h2 : (a % 128) * (b % 128) ≤ 128 * 128 := Nat.mul_le_mul (Nat.mod_lt _ (by omega)).le (Nat.mod_lt _ (by omega)).le
  rw [divsi_word _ (by omega) (by omega) (by omega), divsi_word _ (by omega) (by omega) (by omega),
    cmpi_eq_ofNat (by omega) (by omega), decide_eq_true hab, remsi_word _ (by omega) (by omega) (by omega),
    remsi_word _ (by omega) (by omega) (by omega), muli_word, remsi_word _ (by omega) (by omega) (by omega),
    angle_128 (by omega), Ideal.sin_coe, sin_mod _ _ (by omega)]
  rfl

/-- The reference's angle at entry (a, b) of the table of size 2048. -/
theorem ref_angle_2048 (a b : ℕ) (ha : a < 2048) (hb : b < 2048) :
    Ideal.div (Ideal.ofBits .f32 1073741824#32 * Ideal.atan2 0 (Ideal.ofBits .f32 3212836864#32)
      * (FloatOps.sitofp .f32 (IntOp.muli (BitVec.ofNat 32 a) (BitVec.ofNat 32 b)) : Ideal .f32)) (Ideal.ofBits .f32 1157627904#32)
      = ((ang 2048 (a * b) : ℝ) : EReal) := by
  have : a * b ≤ 2048 * 2048 := Nat.mul_le_mul ha.le hb.le
  rw [muli_word, angle_2048 (by omega)]

/-- The reference's angle at entry (a, b) of the table of size 128. -/
theorem ref_angle_128 (a b : ℕ) (ha : a < 128) (hb : b < 128) :
    Ideal.div (Ideal.ofBits .f32 1073741824#32 * Ideal.atan2 0 (Ideal.ofBits .f32 3212836864#32)
      * (FloatOps.sitofp .f32 (IntOp.muli (BitVec.ofNat 32 a) (BitVec.ofNat 32 b)) : Ideal .f32)) (Ideal.ofBits .f32 1124073472#32)
      = ((ang 128 (a * b) : ℝ) : EReal) := by
  have : a * b ≤ 128 * 128 := Nat.mul_le_mul ha.le hb.le
  rw [muli_word, angle_128 (by omega)]

end Cert.FourierMath

end
-- ==== Proof.FourierHost.lean ====
/- The arrays the host prepares for the Fourier mixing, entry by entry. -/
module

public import proofs.«01_k».proof.Proof.FourierMid
public import proofs.«01_k».proof.Proof.FourierTables

@[expose] public section

set_option maxRecDepth 16384

noncomputable section

open Idealize.ShloMosaic Idealize.ShloMosaic.TcCoe Idealize.SL.Sem
open Idealize.ShloMosaic.Pipeline (Dat)
open scoped BigOperators

namespace Cert.KernelIdeal.Fourier

open Cert.KernelIdeal Cert.KernelIdeal.Gen Cert.FourierMath

variable (m : (ℓ : Loc nD τ sig) → Buf (Elt Ideal) ℓ)

/-- The flattened tokens: row `a` is token `a % 2048` of the batch entry `a / 2048`. -/
theorem tokens_at (c : Dev nD) (a : Fin 16384) (b : Fin 512) :
    ((V m c main_v58 : S16384x512.Idx → EReal) (ix2 a b))
      = m (c, Proc.tc.devRef main_arg0) (ix3 ⟨a.val / 2048, by omega⟩ ⟨a.val % 2048, by omega⟩ b) := by
  entry_read; pointwise []

/-- The linear map of the Fourier branch. -/
theorem weight_at (c : Dev nD) (a : Fin 512) (b : Fin 1024) :
    ((V m c main_v59 : S512x1024.Idx → EReal) (ix2 a b)) = m (c, Proc.tc.devRef main_arg1) (ix3 0 a b) := by
  entry_read; pointwise []

/-- The host's tables hold the cosines and sines. -/
theorem tables (c : Dev nD) : Tables (V m c main_v55) (V m c main_v56) where
  cosT k n hk := by
    have h : ((V m c main_v55 : S1040x4096.Idx → EReal) (ix2 k ⟨n.val, by omega⟩)) = ((Real.cos (ang 2048 (k.val * n.val)) : ℝ) : EReal) := by
      entry_read; pointwise []
      exact cos_entry k.val n.val hk n.isLt
    exact h
  sinT k n hk := by
    have h : ((V m c main_v55 : S1040x4096.Idx → EReal) (ix2 k ⟨2048 + n.val, by omega⟩)) = ((Real.sin (ang 2048 (k.val * n.val)) : ℝ) : EReal) := by
      entry_read; pointwise []
      exact sin_entry k.val n.val hk n.isLt
    exact h
  cosC a b hab := by
    have h : ((V m c main_v56 : S512x1024.Idx → EReal) (ix2 a ⟨b.val, by omega⟩))
        = ((Real.cos (ang 128 ((a.val % 128) * (b.val % 128))) : ℝ) : EReal) * ((1 / 512 : ℝ) : EReal) := by
      entry_read; pointwise []
      rw [bits_inv_512]
      exact chan_cos_entry _ a.val b.val hab a.isLt b.isLt
    exact h
  sinC a b hab := by
    have h : ((V m c main_v56 : S512x1024.Idx → EReal) (ix2 a ⟨512 + b.val, by omega⟩))
        = -((Real.sin (ang 128 ((a.val % 128) * (b.val % 128))) : ℝ) : EReal) * ((1 / 512 : ℝ) : EReal) := by
      entry_read; pointwise []
      rw [bits_inv_512]
      exact congrArg (fun z : EReal => -z * ((1 / 512 : ℝ) : EReal)) (chan_sin_entry a.val b.val hab a.isLt b.isLt)
    exact h

end Cert.KernelIdeal.Fourier

end
-- ==== Proof.FourierRef.lean ====
/- The reference of the Fourier mixing, at an index. -/
module

public import proofs.«01_k».proof.Proof.FourierTables
public import proofs.«01_k».proof.Proof.Gen.ReferenceIdeal.Run

@[expose] public section

set_option maxRecDepth 16384

noncomputable section

open Idealize.ShloMosaic Idealize.ShloMosaic.TcCoe Idealize.SL.Sem
open Idealize.ShloMosaic.Pipeline (Dat)
open scoped BigOperators

namespace Cert.ReferenceIdeal.Fourier

open Cert.ReferenceIdeal Cert.ReferenceIdeal.Gen Cert.FourierMath

/-- The reference's result over its arguments: the DFT over the channels of every group, the DFT over the tokens, the real
    part over the root of the size, the linear map. -/
def REF (a0 : FVec Ideal S8x2048x512 .f32) (a1 : FVec Ideal S1x512x1024 .f32) : FVec Ideal S16384x1024 .bf16 :=
  truncf .bf16 (shapeCast _ (Host.dotGeneral dot_S8x2048x512_S512x1024_S8x2048x1024_2_0_01_1_n_n none (shapeCast _
    (Host.divf (subf (transpose S8x2048x4x128 [0, 3, 1, 2] (Host.dotGeneral
    dot_S8x2048x4x128_S2048x2048_S8x4x128x2048_1_1_023_0_n_n none (Host.dotGeneral
    dot_S8x2048x4x128_S128x128_S8x2048x4x128_3_0_012_1_n_n none (shapeCast _ a0 shapeCasts_S8x2048x512_S8x2048x4x128)
    (Host.cos (Host.divf (mulf (broadcastInDim S128x128 ![] bcast_S_S128x128 (mulf (constant S_ .f32 0x40000000#32)
    (Host.atan2 (constant S_ .f32 0x00000000#32) (constant S_ .f32 0xBF800000#32)))) (sitofp .f32 (muli (iotaInDim
    S128x128 32 0) (iotaInDim S128x128 32 1)))) (broadcastInDim S128x128 ![] bcast_S_S128x128 (constant S_ .f32
    0x43000000#32))))) (Host.cos (Host.divf (mulf (broadcastInDim S2048x2048 ![] bcast_S_S2048x2048 (mulf (constant S_
    .f32 0x40000000#32) (Host.atan2 (constant S_ .f32 0x00000000#32) (constant S_ .f32 0xBF800000#32)))) (sitofp .f32
    (muli (iotaInDim S2048x2048 32 0) (iotaInDim S2048x2048 32 1)))) (broadcastInDim S2048x2048 ![] bcast_S_S2048x2048
    (constant S_ .f32 0x45000000#32))))) transposes_S8x4x128x2048_S8x2048x4x128_0_3_1_2) (transpose S8x2048x4x128 [0,
    3, 1, 2] (Host.dotGeneral dot_S8x2048x4x128_S2048x2048_S8x4x128x2048_1_1_023_0_n_n none (Host.dotGeneral
    dot_S8x2048x4x128_S128x128_S8x2048x4x128_3_0_012_1_n_n none (shapeCast _ a0 shapeCasts_S8x2048x512_S8x2048x4x128)
    (Host.negf (Host.sin (Host.divf (mulf (broadcastInDim S128x128 ![] bcast_S_S128x128 (mulf (constant S_ .f32
    0x40000000#32) (Host.atan2 (constant S_ .f32 0x00000000#32) (constant S_ .f32 0xBF800000#32)))) (sitofp .f32 (muli
    (iotaInDim S128x128 32 0) (iotaInDim S128x128 32 1)))) (broadcastInDim S128x128 ![] bcast_S_S128x128 (constant S_
    .f32 0x43000000#32)))))) (Host.negf (Host.sin (Host.divf (mulf (broadcastInDim S2048x2048 ![] bcast_S_S2048x2048
    (mulf (constant S_ .f32 0x40000000#32) (Host.atan2 (constant S_ .f32 0x00000000#32) (constant S_ .f32
    0xBF800000#32)))) (sitofp .f32 (muli (iotaInDim S2048x2048 32 0) (iotaInDim S2048x2048 32 1)))) (broadcastInDim
    S2048x2048 ![] bcast_S_S2048x2048 (constant S_ .f32 0x45000000#32))))))
    transposes_S8x4x128x2048_S8x2048x4x128_0_3_1_2)) (broadcastInDim S8x2048x4x128 ![] bcast_S_S8x2048x4x128 (constant
    S_ .f32 0x44000000#32))) shapeCasts_S8x2048x4x128_S8x2048x512) (shapeCast _ a1 shapeCasts_S1x512x1024_S512x1024))
    shapeCasts_S8x2048x1024_S16384x1024) bitsLt_bf16_f32

/-- The mixed entry of the batch entry `b`, the row `r` and the channel `q`. -/
def midRef (a0 : FVec Ideal S8x2048x512 .f32) (b : Fin 8) (r : Fin 2048) (q : Fin 512) : EReal :=
  Ideal.div
    ((∑ n : Fin 2048, (∑ d : Fin 128, a0 (ix3 b n ⟨q.val / 128 * 128 + d.val, by omega⟩) * ((Real.cos (ang 128 (d.val * (q.val % 128))) : ℝ) : EReal))
        * ((Real.cos (ang 2048 (r.val * n.val)) : ℝ) : EReal))
      - ∑ n : Fin 2048, (∑ d : Fin 128, a0 (ix3 b n ⟨q.val / 128 * 128 + d.val, by omega⟩) * -((Real.sin (ang 128 (d.val * (q.val % 128))) : ℝ) : EReal))
        * -((Real.sin (ang 2048 (r.val * n.val)) : ℝ) : EReal)) ((512 : ℝ) : EReal)

/-- The reference's result at a row and a column. -/
theorem ref_at (a0 : FVec Ideal S8x2048x512 .f32) (a1 : FVec Ideal S1x512x1024 .f32) (i : Fin 16384) (o : Fin 1024) :
    (REF a0 a1 (ix2 i o) : EReal)
      = ∑ q : Fin 512, midRef a0 ⟨i.val / 2048, by omega⟩ ⟨i.val % 2048, by omega⟩ q * a1 (ix3 0 q o) := by
  pointwise [REF]
  refine Finset.sum_congr rfl fun q _ => ?_
  rw [midRef, bits_512]
  simp only [ref_angle_2048 (i.val % 2048) _ (Nat.mod_lt _ (by omega)) (Fin.isLt _),
    ref_angle_128 _ (q.val % 128) (Fin.isLt _) (Nat.mod_lt _ (by omega)), Ideal.cos_coe, Ideal.sin_coe]

end Cert.ReferenceIdeal.Fourier

end
-- ==== Proof.FourierValue.lean ====
/- What the Fourier mixing leaves in its result array: the reference's result. -/
module

public import proofs.«01_k».proof.Proof.FourierHost
public import proofs.«01_k».proof.Proof.FourierRef
public import Idealize.ShloMosaic.Lib.Pipeline.Value
public import Idealize.ShloMosaic.Lib.StableHlo.Run

@[expose] public section

set_option maxRecDepth 16384

noncomputable section

open Idealize.ShloMosaic Idealize.ShloMosaic.TcCoe Idealize.SL.Sem
open Idealize.ShloMosaic.Pipeline (Dat)
open scoped BigOperators

namespace Cert.KernelIdeal.Fourier

open Cert.KernelIdeal Cert.KernelIdeal.Gen Cert.FourierMath

variable (m : (ℓ : Loc nD τ sig) → Buf (Elt Ideal) ℓ)

/-- Every window's block index at every point. -/
theorem idx : ∀ t : Fin cfg0.N, win0_0.index t = ![t.val, 0]
    ∧ win0_1.index t = ![0, 0]
    ∧ win0_2.index t = ![0, 0]
    ∧ win0_3.index t = ![0, 0]
    ∧ win0_4.index t = ![t.val, 0] :=
  (by decide +kernel : ∀ t : Fin grid0.N, _)

/-- The grid has eight points. -/
theorem point_lt (t : Fin cfg0.N) : t.val < 8 := lt_of_lt_of_eq t.isLt N_0

/-- The token block of a point is one batch entry. -/
theorem blk0_at (c : Dev nD) (t : Fin cfg0.N) (n : Fin 2048) (j : Fin 512) :
    ((iblk m c 0 t : S2048x512.Idx → EReal) (ix2 n j))
      = m (c, Proc.tc.devRef main_arg0) (ix3 ⟨t.val, point_lt t⟩ n j) := by
  have ht := point_lt t
  have h := tokens_at m c ⟨2048 * t.val + n.val, by omega⟩ j
  have e : ((iblk m c 0 t : S2048x512.Idx → EReal) (ix2 n j))
      = (V m c main_v58 : S16384x512.Idx → EReal) (ix2 ⟨2048 * t.val + n.val, by omega⟩ j) := by
    blk_ext [iblk, idx t]
  rw [e, h]
  congr 2 <;> apply Fin.ext
  · show (2048 * t.val + n.val) / 2048 = t.val; omega
  · show (2048 * t.val + n.val) % 2048 = n.val; omega

/-- The tables' blocks are the tables. -/
theorem blk1_eq (c : Dev nD) (t : Fin cfg0.N) : (iblk m c 1 t : S1040x4096.Idx → EReal) = V m c main_v55 := by
  blk_ext! [iblk, idx t]
theorem blk2_eq (c : Dev nD) (t : Fin cfg0.N) : (iblk m c 2 t : S512x1024.Idx → EReal) = V m c main_v56 := by
  blk_ext! [iblk, idx t]
theorem blk3_eq (c : Dev nD) (t : Fin cfg0.N) : (iblk m c 3 t : S512x1024.Idx → EReal) = V m c main_v59 := by
  blk_ext! [iblk, idx t]

/-- The scratch holds the linear map after every point. -/
theorem carried (c : Dev nD) : ∀ (n : ℕ) (hn : n < cfg0.N),
    ((outsAt0 m c n hn).2 : S512x1024.Idx → EReal) = V m c main_v59 := by
  intro n
  induction n with
  | zero =>
    intro hn
    rw [outsAt0_A m c ⟨0, hn⟩ rfl]
    dsimp only
    rw [← blk3_eq m c ⟨0, hn⟩]
    funext y
    frame_out
    open_payloads
    pointwise []
  | succ n ih =>
    intro hn
    have h8 := point_lt ⟨n + 1, hn⟩
    rw [outsAt0_B m c ⟨n + 1, hn⟩ (by show ¬(n + 1) % 8 = 0; have : n + 1 < 8 := h8; omega)]
    dsimp only
    refine Eq.trans ?_ (ih (by omega))
    rfl

/-- The linear map's block at an index. -/
theorem blk3_at (c : Dev nD) (t : Fin cfg0.N) (a : Fin 512) (b : Fin 1024) :
    ((iblk m c 3 t : S512x1024.Idx → EReal) (ix2 a b)) = m (c, Proc.tc.devRef main_arg1) (ix3 0 a b) := by
  rw [blk3_eq, weight_at]

/-- The mixed entry at a point: the reference's. -/
theorem mid_at (c : Dev nD) (t : Fin cfg0.N) (u : S8x2048x512.Idx → ℝ)
    (hu : ∀ i, (m (c, Proc.tc.devRef main_arg0) i : EReal) = ((u i : ℝ) : EReal)) (r : Fin 2048) (q : Fin 512) :
    midAt (iblk m c 0 t) (iblk m c 1 t) (iblk m c 2 t) r q
      = Cert.ReferenceIdeal.Fourier.midRef (m (c, Proc.tc.devRef main_arg0)) ⟨t.val, point_lt t⟩ r q := by
  have T : Tables (iblk m c 1 t) (iblk m c 2 t) := by
    have h := tables m c
    rw [← blk1_eq m c t, ← blk2_eq m c t] at h
    exact h
  rw [mid_eq _ _ _ T (fun n j => u (ix3 ⟨t.val, point_lt t⟩ n j)) (fun n j => (blk0_at m c t n j).trans (hu _))]
  unfold Cert.ReferenceIdeal.Fourier.midRef
  have hu' : ∀ i, (m (c, Proc.tc.devRef main_arg0) i : EReal) = ((u i : ℝ) : EReal) := hu
  simp only [hu']

/-- A row and a column of a point's output block, in the whole result. -/
theorem emb4 (t : Fin cfg0.N) (a : Fin 2048) (b : Fin 1024) :
    ((cfg0.win 4).blk t).view.emb (ix2 a b) = (ix2 ⟨2048 * t.val + a.val, by have := point_lt t; omega⟩ b : S16384x1024.Idx) := by
  blk_ext [idx t]

/-- The result array, from the values a point leaves. -/
theorem final (c : Dev nD) (u : S8x2048x512.Idx → ℝ)
    (hu : ∀ i, (m (c, Proc.tc.devRef main_arg0) i : EReal) = ((u i : ℝ) : EReal)) :
    (dats m 0 c).arrAt 4 (cfgs 0).N
      = Cert.ReferenceIdeal.Fourier.REF (m (c, Proc.tc.devRef main_arg0)) (m (c, Proc.tc.devRef main_arg1)) := by
  refine (dats m 0 c).arrAt_eq_of_covers 4 _ (by decide +kernel) fun t hf y => ?_
  obtain ⟨a, b, rfl⟩ : ∃ (a : Fin 2048) (b : Fin 1024), y = ix2 a b := ⟨y 0, y 1, by funext i; fin_cases i <;> rfl⟩
  rw [emb4]
  have ht := point_lt t
  have e1 : (⟨(2048 * t.val + a.val) / 2048, by omega⟩ : Fin 8) = ⟨t.val, ht⟩ :=
    Fin.ext (by show (2048 * t.val + a.val) / 2048 = t.val; omega)
  have e2 : (⟨(2048 * t.val + a.val) % 2048, by omega⟩ : Fin 2048) = a :=
    Fin.ext (by show (2048 * t.val + a.val) % 2048 = a.val; omega)
  have R := Cert.ReferenceIdeal.Fourier.ref_at (m (c, Proc.tc.devRef main_arg0)) (m (c, Proc.tc.devRef main_arg1))
    ⟨2048 * t.val + a.val, by omega⟩ b
  rw [e1, e2] at R
  refine Eq.trans ?_ R.symm
  blk_simp
  rw [after0_4]
  by_cases h : t.val % 8 = 0
  · rw [outsAt0_A m c t h]
    dsimp only
    refine (core_A c t h (iblk m c 0 t) (iblk m c 1 t) (iblk m c 2 t) (iblk m c 3 t) a b).trans ?_
    refine Finset.sum_congr rfl fun q _ => ?_
    rw [mid_at m c t u hu, blk3_at]
  · rw [outsAt0_B m c t h]
    dsimp only
    refine (core_B c t h (iblk m c 0 t) (iblk m c 1 t) (iblk m c 2 t) (iblk m c 3 t) _ a b).trans ?_
    refine Finset.sum_congr rfl fun q _ => ?_
    rw [mid_at m c t u hu]
    have hc := congrFun (carried m c (t.val - 1) (by omega)) (ix2 q b)
    rw [weight_at] at hc
    exact congrArg _ hc

end Cert.KernelIdeal.Fourier

end
-- ==== Proof.FourierPre.lean ====
/- The precondition of the Fourier mixing: every entry of its input is a real number. -/
module

public import proofs.«01_k».proof.Proof.Gen.Pre_finite
public import Idealize.ShloMosaic.Lib.Pointwise
public import Idealize.ShloMosaic.PureOps.Ideal.Laws

@[expose] public section

set_option maxRecDepth 16384

noncomputable section

open Idealize.ShloMosaic
open scoped BigOperators

namespace Cert.Pre_finite.Gen

/-- An entry whose absolute value compares below infinity is a real number. -/
theorem real_of_fn (a0 : FVec Ideal S8x2048x512 .f32) (a1 : FVec Ideal S1x512x1024 .f32)
    (h : Cert.Pre_finite.fn (F := Ideal) a0 a1 = fun _ => 1#1) (i : S8x2048x512.Idx) : ∃ r : ℝ, (a0 i : EReal) = (r : EReal) := by
  have h := congrFun h i
  unfold Cert.Pre_finite.fn at h
  pointwise [] at h
  have hlt : (FloatOps.absf (F := Ideal) (φ := .f32) (a0 i) : EReal) < Ideal.ofBits .f32 2139095040#32 := by
    by_contra hn
    rw [decide_eq_false hn] at h
    exact absurd h (by decide)
  have htop : Ideal.ofBits .f32 2139095040#32 = ⊤ := by simp [Ideal.ofBits, Ideal.ieee]
  rw [htop] at hlt
  have hm : max (a0 i : EReal) (-(a0 i : EReal)) < ⊤ := hlt
  obtain ⟨h1, h2⟩ := max_lt_iff.mp hm
  have hb : (a0 i : EReal) ≠ ⊥ := fun e => by rw [e] at h2; exact absurd h2 (by simp)
  exact ⟨(a0 i : EReal).toReal, (EReal.coe_toReal h1.ne hb).symm⟩

end Cert.Pre_finite.Gen

end
-- ==== Proof.ClaimFourier.lean ====
/- The Fourier mixing: kernel and reference compute the same array over the extended reals. -/
module

public import proofs.«01_k».proof.Defs
public import proofs.«01_k».proof.Proof.FourierValue
public import proofs.«01_k».proof.Proof.FourierPre
public import proofs.«01_k».proof.Proof.Gen.KernelIdeal.Value
public import proofs.«01_k».proof.Proof.Gen.ReferenceIdeal.Run
public import Idealize.ShloMosaic.Lib.Claim

@[expose] public section

noncomputable section

namespace Cert.Proof

open Idealize.ShloMosaic Idealize.ShloMosaic.TcCoe Idealize.SL.Sem

/-- The reference of the Fourier mixing ends with its arguments unchanged and every counter at zero. -/
theorem frame_ref_fourier : Cert.quiescent_ReferenceIdeal := by
  intro m g _
  exact (θ_run _ _ _).mono (fun r h => ⟨fun c => (h c).2, sem_eq_zero_of_no_sems (by decide) r.2⟩) (Cert.ReferenceIdeal.Value.run m g)

/-- The same, under the precondition. -/
theorem frame_ref_fourier_pre : Cert.quiescent_ReferenceIdeal_pre_finite := by
  intro m g _
  exact frame_ref_fourier m g trivial

/-- Kernel and reference of the Fourier mixing end with equal results. -/
theorem algebraic_fourier : Cert.algebraic_KernelIdeal_ReferenceIdeal_pre_finite := by
  intro m g m' g' hpre hagree
  refine ⟨fun c => Cert.ReferenceIdeal.Fourier.REF (m ((c.tc : Thread Cert.KernelIdeal.nD Cert.KernelIdeal.τ).loc Cert.KernelIdeal.main_arg0))
    (m ((c.tc : Thread Cert.KernelIdeal.nD Cert.KernelIdeal.τ).loc Cert.KernelIdeal.main_arg1)), ?_, ?_⟩
  · refine (θ_run _ _ _).mono (fun r h c => ⟨(h c).1.trans ?_, (h c).2⟩) (Cert.KernelIdeal.Value.run m g)
    have hr := Cert.Pre_finite.Gen.real_of_fn _ _ (hpre c)
    choose u hu using hr
    exact (Cert.KernelIdeal.Value.final4 m c).symm.trans (Cert.KernelIdeal.Fourier.final m c u hu)
  · refine (θ_run _ _ _).mono (fun r h c => ⟨(h c).1.trans ?_, (h c).2⟩) (Cert.ReferenceIdeal.Value.run m' g')
    have e : ∀ a0 a1, a0 = m ((c.tc : Thread Cert.KernelIdeal.nD Cert.KernelIdeal.τ).loc Cert.KernelIdeal.main_arg0) →
        a1 = m ((c.tc : Thread Cert.KernelIdeal.nD Cert.KernelIdeal.τ).loc Cert.KernelIdeal.main_arg1) →
        Cert.ReferenceIdeal.Fourier.REF a0 a1
          = Cert.ReferenceIdeal.Fourier.REF (m ((c.tc : Thread Cert.KernelIdeal.nD Cert.KernelIdeal.τ).loc Cert.KernelIdeal.main_arg0))
            (m ((c.tc : Thread Cert.KernelIdeal.nD Cert.KernelIdeal.τ).loc Cert.KernelIdeal.main_arg1)) := by
      rintro a0 a1 rfl rfl; rfl
    exact e _ _ (hagree c).1 (hagree c).2

end Cert.Proof

end
-- ==== Proof.FfnMath.lean ====
/- The half-step feed-forward and the merge of the branches, on one row of numbers. -/
module

public import Idealize.ShloMosaic.Lib.Pointwise
public import Idealize.ShloMosaic.PureOps.Ideal.Laws

@[expose] public section

noncomputable section

open Idealize.ShloMosaic
open scoped BigOperators

namespace Cert.Ffn

/-- The root-mean-square norm of a row `x` with the gains `g`. -/
def norm (x g : Fin 1024 → EReal) (j : Fin 1024) : EReal :=
  x j * Ideal.rsqrt (Ideal.div (∑ k, x k * x k) (Ideal.ofBits .f32 1149239296#32) + Ideal.ofBits .f32 897988541#32) * g j

/-- Half the output map of a row `z`, added to the row `x`. -/
def down (x : Fin 1024 → EReal) (z : Fin 2816 → EReal) (wd : Fin 2816 → Fin 1024 → EReal) (j : Fin 1024) : EReal :=
  x j + Ideal.ofBits .f32 1056964608#32 * ∑ k, z k * wd k j

/-- The gate's activation times the other factor. -/
def gated (gate up : Fin 2816 → EReal) (k : Fin 2816) : EReal :=
  gate k * Ideal.div 1 (1 + Ideal.exp (-gate k)) * up k

/-- Half the output map of the gated product, added to the row `x`. -/
def act (x : Fin 1024 → EReal) (gate up : Fin 2816 → EReal) (wd : Fin 2816 → Fin 1024 → EReal) (j : Fin 1024) : EReal :=
  x j + Ideal.ofBits .f32 1056964608#32 * ∑ k, (gate k * Ideal.div 1 (1 + Ideal.exp (-gate k)) * up k) * wd k j

/-- Half the gated feed-forward of a normed row `h`, added to the row `x`. -/
def feed (x h : Fin 1024 → EReal) (wg wu : Fin 1024 → Fin 2816 → EReal) (wd : Fin 2816 → Fin 1024 → EReal) (j : Fin 1024) : EReal :=
  x j + Ideal.ofBits .f32 1056964608#32 *
    ∑ k, ((∑ l, h l * wg l k) * Ideal.div 1 (1 + Ideal.exp (-∑ l, h l * wg l k)) * ∑ l, h l * wu l k) * wd k j

/-- The gated sum of the two branches through the output map, added to the row `x`. -/
def merged (x ya ga gb : Fin 1024 → EReal) (o : Fin 512 → EReal) (wa : Fin 512 → Fin 1024 → EReal)
    (wo : Fin 1024 → Fin 1024 → EReal) (j : Fin 1024) : EReal :=
  x j + ∑ k, (ga k * ya k + gb k * ∑ l, o l * wa l k) * wo k j

/-- The merge, the feed-forward and the last norm of a row. -/
def mixRow (x ya : Fin 1024 → EReal) (o : Fin 512 → EReal) (ga gb : Fin 1024 → EReal) (wa : Fin 512 → Fin 1024 → EReal)
    (wo : Fin 1024 → Fin 1024 → EReal) (g : Fin 1024 → EReal) (wg wu : Fin 1024 → Fin 2816 → EReal)
    (wd : Fin 2816 → Fin 1024 → EReal) (fn : Fin 1024 → EReal) : Fin 1024 → EReal :=
  norm (feed (merged x ya ga gb o wa wo) (norm (merged x ya ga gb o wa wo) g) wg wu wd) fn

end Cert.Ffn

end
-- ==== Proof.MixOut.lean ====
/- What a grid point of the gated merge leaves in its block, at an index. -/
module

public import proofs.«01_k».proof.Proof.FfnMath
public import proofs.«01_k».proof.Proof.Gen.Kernel3Ideal.Frame
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.Kernel3Ideal.Mix

open Cert.Kernel3Ideal Cert.Kernel3Ideal.Gen

/-- The merged rows of the upper half. -/
theorem pay2_at (v0 : FVec Ideal S512x256 .bf16) (v1 : FVec Ideal S512x1024 .bf16) (v8 v10 v13 : FVec Ideal S256x1024 .bf16)
    (v18 : FVec Ideal S256x1024 .f32) (v19 : FVec Ideal S1024x1024 .bf16) (a : Fin 256) (j : Fin 1024) :
    (k0_pay2 (F := Ideal) v0 v1 v8 v10 v13 v18 v19 (ix2 a j) : EReal)
      = Cert.Ffn.merged (fun k => v18 (ix2 a k)) (fun k => v10 (ix2 a k)) (fun k => v8 (ix2 a k)) (fun k => v13 (ix2 a k))
        (fun l => v0 (ix2 l a)) (fun l k => v1 (ix2 l k)) (fun k l => v19 (ix2 k l)) j := by
  unfold Cert.Ffn.merged
  pointwise [k0_pay2]

/-- The merged rows of the lower half. -/
theorem pay4_at (v4 : FVec Ideal S512x256 .bf16) (v5 : FVec Ideal S512x1024 .bf16) (v23 v25 v28 : FVec Ideal S256x1024 .bf16)
    (v33 : FVec Ideal S256x1024 .f32) (v34 : FVec Ideal S1024x1024 .bf16) (a : Fin 256) (j : Fin 1024) :
    (k0_pay4 (F := Ideal) (k0_pay3 (F := Ideal) v4 v5 v23 v25 v28) v33 v34 (ix2 a j) : EReal)
      = Cert.Ffn.merged (fun k => v33 (ix2 a k)) (fun k => v25 (ix2 a k)) (fun k => v23 (ix2 a k)) (fun k => v28 (ix2 a k))
        (fun l => v4 (ix2 l a)) (fun l k => v5 (ix2 l k)) (fun k l => v34 (ix2 k l)) j := by
  unfold Cert.Ffn.merged
  pointwise [k0_pay4, k0_pay3]

/-- The normed rows of the upper half. -/
theorem pay5_at (v22 : FVec Ideal S256x1024 .f32) (v38 : FVec Ideal S1x1024 .f32) (a : Fin 256) (j : Fin 1024) :
    (k0_pay5 (F := Ideal) v22 v38 (ix2 a j) : EReal) = Cert.Ffn.norm (fun k => v22 (ix2 a k)) (fun k => v38 (ix2 0 k)) j := by
  unfold Cert.Ffn.norm
  pointwise [k0_pay5]

/-- The gate's rows of the upper half. -/
theorem pay6_at (v22 : FVec Ideal S256x1024 .f32) (v38 : FVec Ideal S1x1024 .f32) (v53 : FVec Ideal S1024x2816 .bf16)
    (a : Fin 256) (k : Fin 2816) :
    (k0_pay6 (F := Ideal) v22 v38 v53 (ix2 a k) : EReal)
      = ∑ l, Cert.Ffn.norm (fun k => v22 (ix2 a k)) (fun k => v38 (ix2 0 k)) l * v53 (ix2 l k) := by
  unfold k0_pay6
  simp only [← pay5_at]
  generalize k0_pay5 (F := Ideal) v22 v38 = h
  pointwise []

/-- The other factor's rows of the upper half. -/
theorem pay7_at (v22 : FVec Ideal S256x1024 .f32) (v38 : FVec Ideal S1x1024 .f32) (v53 : FVec Ideal S1024x2816 .bf16)
    (a : Fin 256) (k : Fin 2816) :
    (k0_pay7 (F := Ideal) v22 v38 v53 (ix2 a k) : EReal)
      = ∑ l, Cert.Ffn.norm (fun k => v22 (ix2 a k)) (fun k => v38 (ix2 0 k)) l * v53 (ix2 l k) := by
  unfold k0_pay7
  simp only [← pay5_at]
  generalize k0_pay5 (F := Ideal) v22 v38 = h
  pointwise []

/-- The result's rows of the upper half, from the two factors. -/
theorem pay10_at (v22 : FVec Ideal S256x1024 .f32) (v55 v58 : FVec Ideal S256x2816 .f32) (v84 : FVec Ideal S2816x1024 .bf16)
    (v90 : FVec Ideal S1x1024 .f32) (a : Fin 256) (j : Fin 1024) :
    (k0_pay10 (F := Ideal) v22 v55 v58 v84 v90 (ix2 a j) : EReal)
      = Cert.Ffn.norm (Cert.Ffn.act (fun k => v22 (ix2 a k)) (fun k => v55 (ix2 a k)) (fun k => v58 (ix2 a k))
          (fun k l => v84 (ix2 k l))) (fun k => v90 (ix2 0 k)) j := by
  unfold Cert.Ffn.norm Cert.Ffn.act
  pointwise [k0_pay10]
  rfl

/-- The gated product's rows of the lower half. -/
theorem pay11_at (x : FVec Ideal S256x1024 .f32) (v31 : FVec Ideal S256x1024 .f32) (v33 : FVec Ideal S256x1024 .f32)
    (v34 : FVec Ideal S1024x1024 .bf16) (v59 : FVec Ideal S1x1024 .f32) (v74 v77 : FVec Ideal S1024x2816 .bf16)
    (hx : k0_pay4 (F := Ideal) v31 v33 v34 = x) (a : Fin 256) (k : Fin 2816) :
    (k0_pay11 (F := Ideal) (k0_pay8 (F := Ideal) v59) (k0_pay9 (F := Ideal) v31 v33 v34) v74 v77 (ix2 a k) : EReal)
      = Cert.Ffn.gated (fun k => ∑ l, Cert.Ffn.norm (fun k => x (ix2 a k)) (fun k => v59 (ix2 0 k)) l * v74 (ix2 l k))
          (fun k => ∑ l, Cert.Ffn.norm (fun k => x (ix2 a k)) (fun k => v59 (ix2 0 k)) l * v77 (ix2 l k)) k := by
  unfold Cert.Ffn.norm Cert.Ffn.gated k0_pay9
  rw [hx]
  pointwise [k0_pay11, k0_pay8]
  rfl

/-- The result's rows of the lower half, from the gated product. -/
theorem pay1_at (v37 : FVec Ideal S256x1024 .f32) (v108 : FVec Ideal S256x2816 .bf16) (v109 : FVec Ideal S2816x1024 .bf16)
    (v115 : FVec Ideal S1x1024 .f32) (a : Fin 256) (j : Fin 1024) :
    (k0_pay1 (F := Ideal) v37 v108 (k0_pay12 (F := Ideal) v109) v115 (ix2 a j) : EReal)
      = Cert.Ffn.norm (Cert.Ffn.down (fun k => v37 (ix2 a k)) (fun k => v108 (ix2 a k))
          (fun k l => v109 (ix2 k l))) (fun k => v115 (ix2 0 k)) j := by
  unfold Cert.Ffn.norm Cert.Ffn.down
  pointwise [k0_pay1, k0_pay12]

/-- The rows of the lower half, loaded from a block. -/
theorem ld_low {e : EltTy} (x : S512x1024.Idx → Elt Ideal e) (a : Fin 256) (k : Fin 1024) :
    View.ld (Val := Elt Ideal) (e' := e) (S := S512x1024) x r0_5 (ix2 a k) = x (ix2 (⟨256 + a.val, by omega⟩ : Fin 512) k) :=
  congrArg x (by funext i; fin_cases i <;> refine Fin.ext ?_ <;> show _ + 1 * _ = _ <;> simp)

/-- The rows of the upper half, loaded from a block. -/
theorem ld_up {e : EltTy} (x : S512x1024.Idx → Elt Ideal e) (a : Fin 256) (k : Fin 1024) :
    View.ld (Val := Elt Ideal) (e' := e) (S := S512x1024) x r0_3 (ix2 a k) = x (ix2 (⟨a.val, by omega⟩ : Fin 512) k) :=
  congrArg x (by funext i; fin_cases i <;> refine Fin.ext ?_ <;> show _ + 1 * _ = _ <;> simp)

/-- The right half's columns, loaded from a block of the attention's output. -/
theorem ld_right {e : EltTy} (x : S512x512.Idx → Elt Ideal e) (k : Fin 512) (a : Fin 256) :
    View.ld (Val := Elt Ideal) (e' := e) (S := S512x512) x r0_2 (ix2 k a) = x (ix2 k (⟨256 + a.val, by omega⟩ : Fin 512)) :=
  congrArg x (by funext i; fin_cases i <;> refine Fin.ext ?_ <;> show _ + 1 * _ = _ <;> simp)

/-- The left half's columns, loaded from a block of the attention's output. -/
theorem ld_left {e : EltTy} (x : S512x512.Idx → Elt Ideal e) (k : Fin 512) (a : Fin 256) :
    View.ld (Val := Elt Ideal) (e' := e) (S := S512x512) x r0_0 (ix2 k a) = x (ix2 k (⟨a.val, by omega⟩ : Fin 512)) :=
  congrArg x (by funext i; fin_cases i <;> refine Fin.ext ?_ <;> show _ + 1 * _ = _ <;> simp)

/-- The lower half's payload at a row and a column. -/
theorem lower_at
    (x0 : FVec Ideal S512x1024 .f32) (x1 : FVec Ideal S512x1024 .bf16) (x2 : FVec Ideal S512x512 .bf16)
    (x3 x4 x5 : FVec Ideal S512x1024 .bf16) (x6 : FVec Ideal S1024x1024 .bf16) (x7 : FVec Ideal S1x1024 .f32)
    (x8 x9 : FVec Ideal S1024x2816 .bf16) (x10 : FVec Ideal S2816x1024 .bf16) (x11 : FVec Ideal S1x1024 .f32)
    (a : Fin 256) (j : Fin 1024) :
    (k0_pay1 (F := Ideal) (k0_pay4 (F := Ideal) (k0_pay14 (F := Ideal) x0 x1 x2 x3 x4 x5 x6 x7 x8 x9 x10 x11) (View.ld (Val := Elt Ideal) x0 r0_5) (View.ld (Val := Elt Ideal) x6 r0_4))
      (k0_pay11 (F := Ideal) (k0_pay8 (F := Ideal) (View.ld (Val := Elt Ideal) x7 r0_6))
        (k0_pay9 (F := Ideal) (k0_pay14 (F := Ideal) x0 x1 x2 x3 x4 x5 x6 x7 x8 x9 x10 x11) (View.ld (Val := Elt Ideal) x0 r0_5) (View.ld (Val := Elt Ideal) x6 r0_4)) (View.ld (Val := Elt Ideal) x8 r0_7)
        (View.ld (Val := Elt Ideal) x9 r0_7))
      (k0_pay12 (F := Ideal) (View.ld (Val := Elt Ideal) x10 r0_8)) (View.ld (Val := Elt Ideal) x11 r0_6) (ix2 a j) : EReal)
      = Cert.Ffn.mixRow (fun k => x0 (ix2 (⟨256 + a.val, by omega⟩ : Fin 512) k)) (fun k => x1 (ix2 (⟨256 + a.val, by omega⟩ : Fin 512) k)) (fun k => x2 (ix2 k (⟨256 + a.val, by omega⟩ : Fin 512)))
        (fun k => x3 (ix2 (⟨256 + a.val, by omega⟩ : Fin 512) k)) (fun k => x4 (ix2 (⟨256 + a.val, by omega⟩ : Fin 512) k)) (fun l k => x5 (ix2 l k)) (fun l k => x6 (ix2 l k))
        (fun k => x7 (ix2 0 k)) (fun l k => x8 (ix2 l k)) (fun l k => x9 (ix2 l k)) (fun l k => x10 (ix2 l k))
        (fun k => x11 (ix2 0 k)) j := by
  rw [pay1_at]
  simp only [pay11_at _ _ _ _ _ _ _ rfl]
  unfold k0_pay14
  simp only [pay4_at]
  have l0 : (fun k => View.ld (Val := Elt Ideal) (e' := .f32) (S := S512x1024) x0 r0_5 (ix2 a k)) = fun k => x0 (ix2 (⟨256 + a.val, by omega⟩ : Fin 512) k) := funext (ld_low (e := .f32) x0 a)
  have l1 : (fun k => View.ld (Val := Elt Ideal) (e' := .bf16) (S := S512x1024) x1 r0_5 (ix2 a k)) = fun k => x1 (ix2 (⟨256 + a.val, by omega⟩ : Fin 512) k) := funext (ld_low (e := .bf16) x1 a)
  have l3 : (fun k => View.ld (Val := Elt Ideal) (e' := .bf16) (S := S512x1024) x3 r0_5 (ix2 a k)) = fun k => x3 (ix2 (⟨256 + a.val, by omega⟩ : Fin 512) k) := funext (ld_low (e := .bf16) x3 a)
  have l4 : (fun k => View.ld (Val := Elt Ideal) (e' := .bf16) (S := S512x1024) x4 r0_5 (ix2 a k)) = fun k => x4 (ix2 (⟨256 + a.val, by omega⟩ : Fin 512) k) := funext (ld_low (e := .bf16) x4 a)
  have l2 : (fun k => View.ld (Val := Elt Ideal) (e' := .bf16) (S := S512x512) x2 r0_2 (ix2 k a)) = fun k => x2 (ix2 k (⟨256 + a.val, by omega⟩ : Fin 512)) := funext fun k => ld_right (e := .bf16) x2 k a
  rw [l0, l1, l2, l3, l4]
  rw [View.ld_unit_zero (S := S512x1024) (by funext a; fin_cases a <;> rfl),
    View.ld_unit_zero (S := S1024x1024) (by funext a; fin_cases a <;> rfl),
    View.ld_unit_zero (S := S1x1024) (by funext a; fin_cases a <;> rfl),
    View.ld_unit_zero (S := S1x1024) (by funext a; fin_cases a <;> rfl),
    View.ld_unit_zero (S := S1024x2816) (by funext a; fin_cases a <;> rfl),
    View.ld_unit_zero (S := S1024x2816) (by funext a; fin_cases a <;> rfl),
    View.ld_unit_zero (S := S2816x1024) (by funext a; fin_cases a <;> rfl)]
  rfl

/-- The upper half's payload at a row and a column. -/
theorem upper_at
    (x0 : FVec Ideal S512x1024 .f32) (x1 : FVec Ideal S512x1024 .bf16) (x2 : FVec Ideal S512x512 .bf16)
    (x3 x4 x5 : FVec Ideal S512x1024 .bf16) (x6 : FVec Ideal S1024x1024 .bf16) (x7 : FVec Ideal S1x1024 .f32)
    (x8 x9 : FVec Ideal S1024x2816 .bf16) (x10 : FVec Ideal S2816x1024 .bf16) (x11 : FVec Ideal S1x1024 .f32)
    (a : Fin 256) (j : Fin 1024) :
    (k0_pay10 (F := Ideal) (k0_pay13 (F := Ideal) x0 x1 x2 x3 x4 x5 x6 x7 x8 x9 x10 x11)
      (k0_pay6 (F := Ideal) (k0_pay13 (F := Ideal) x0 x1 x2 x3 x4 x5 x6 x7 x8 x9 x10 x11) (View.ld (Val := Elt Ideal) x7 r0_6) (View.ld (Val := Elt Ideal) x8 r0_7))
      (k0_pay7 (F := Ideal) (k0_pay13 (F := Ideal) x0 x1 x2 x3 x4 x5 x6 x7 x8 x9 x10 x11) (View.ld (Val := Elt Ideal) x7 r0_6) (View.ld (Val := Elt Ideal) x9 r0_7)) (View.ld (Val := Elt Ideal) x10 r0_8)
      (View.ld (Val := Elt Ideal) x11 r0_6) (ix2 a j) : EReal)
      = Cert.Ffn.mixRow (fun k => x0 (ix2 (⟨a.val, by omega⟩ : Fin 512) k)) (fun k => x1 (ix2 (⟨a.val, by omega⟩ : Fin 512) k)) (fun k => x2 (ix2 k (⟨a.val, by omega⟩ : Fin 512)))
        (fun k => x3 (ix2 (⟨a.val, by omega⟩ : Fin 512) k)) (fun k => x4 (ix2 (⟨a.val, by omega⟩ : Fin 512) k)) (fun l k => x5 (ix2 l k)) (fun l k => x6 (ix2 l k))
        (fun k => x7 (ix2 0 k)) (fun l k => x8 (ix2 l k)) (fun l k => x9 (ix2 l k)) (fun l k => x10 (ix2 l k))
        (fun k => x11 (ix2 0 k)) j := by
  rw [pay10_at]
  simp only [pay6_at, pay7_at]
  unfold k0_pay13
  simp only [pay2_at]
  have l0 : (fun k => View.ld (Val := Elt Ideal) (e' := .f32) (S := S512x1024) x0 r0_3 (ix2 a k)) = fun k => x0 (ix2 (⟨a.val, by omega⟩ : Fin 512) k) := funext (ld_up (e := .f32) x0 a)
  have l1 : (fun k => View.ld (Val := Elt Ideal) (e' := .bf16) (S := S512x1024) x1 r0_3 (ix2 a k)) = fun k => x1 (ix2 (⟨a.val, by omega⟩ : Fin 512) k) := funext (ld_up (e := .bf16) x1 a)
  have l3 : (fun k => View.ld (Val := Elt Ideal) (e' := .bf16) (S := S512x1024) x3 r0_3 (ix2 a k)) = fun k => x3 (ix2 (⟨a.val, by omega⟩ : Fin 512) k) := funext (ld_up (e := .bf16) x3 a)
  have l4 : (fun k => View.ld (Val := Elt Ideal) (e' := .bf16) (S := S512x1024) x4 r0_3 (ix2 a k)) = fun k => x4 (ix2 (⟨a.val, by omega⟩ : Fin 512) k) := funext (ld_up (e := .bf16) x4 a)
  have l2 : (fun k => View.ld (Val := Elt Ideal) (e' := .bf16) (S := S512x512) x2 r0_0 (ix2 k a)) = fun k => x2 (ix2 k (⟨a.val, by omega⟩ : Fin 512)) := funext fun k => ld_left (e := .bf16) x2 k a
  rw [l0, l1, l2, l3, l4]
  rw [View.ld_unit_zero (S := S512x1024) (by funext a; fin_cases a <;> rfl),
    View.ld_unit_zero (S := S1024x1024) (by funext a; fin_cases a <;> rfl),
    View.ld_unit_zero (S := S1x1024) (by funext a; fin_cases a <;> rfl),
    View.ld_unit_zero (S := S1x1024) (by funext a; fin_cases a <;> rfl),
    View.ld_unit_zero (S := S1024x2816) (by funext a; fin_cases a <;> rfl),
    View.ld_unit_zero (S := S1024x2816) (by funext a; fin_cases a <;> rfl),
    View.ld_unit_zero (S := S2816x1024) (by funext a; fin_cases a <;> rfl)]
  rfl

/-- The block a point leaves, at a row and a column. -/
theorem out_at (x0 : FVec Ideal S512x1024 .f32) (x1 : FVec Ideal S512x1024 .bf16) (x2 : FVec Ideal S512x512 .bf16)
    (x3 x4 x5 : FVec Ideal S512x1024 .bf16) (x6 : FVec Ideal S1024x1024 .bf16) (x7 : FVec Ideal S1x1024 .f32)
    (x8 x9 : FVec Ideal S1024x2816 .bf16) (x10 : FVec Ideal S2816x1024 .bf16) (x11 : FVec Ideal S1x1024 .f32)
    (y : S512x1024.Idx) :
    (out0_12 (F := Ideal) x0 x1 x2 x3 x4 x5 x6 x7 x8 x9 x10 x11 y : EReal)
      = Cert.Ffn.mixRow (fun k => x0 (ix2 (y 0) k)) (fun k => x1 (ix2 (y 0) k)) (fun k => x2 (ix2 k (y 0)))
        (fun k => x3 (ix2 (y 0) k)) (fun k => x4 (ix2 (y 0) k)) (fun l k => x5 (ix2 l k)) (fun l k => x6 (ix2 l k))
        (fun k => x7 (ix2 0 k)) (fun l k => x8 (ix2 l k)) (fun l k => x9 (ix2 l k)) (fun l k => x10 (ix2 l k))
        (fun k => x11 (ix2 0 k)) (y 1) := by
  canon_tiles x h
  · obtain ⟨a, j, rfl⟩ : ∃ (a : Fin 256) (j : Fin 1024), x = ix2 a j := ⟨x 0, x 1, by funext i; fin_cases i <;> rfl⟩
    have e0 : y 0 = (⟨256 + a.val, by omega⟩ : Fin 512) := Fin.ext h0
    have e1 : y 1 = j := Fin.ext h1
    rw [e0, e1]
    exact lower_at x0 x1 x2 x3 x4 x5 x6 x7 x8 x9 x10 x11 a j
  · obtain ⟨a, j, rfl⟩ : ∃ (a : Fin 256) (j : Fin 1024), x = ix2 a j := ⟨x 0, x 1, by funext i; fin_cases i <;> rfl⟩
    have e0 : y 0 = (⟨a.val, by omega⟩ : Fin 512) := Fin.ext h0
    have e1 : y 1 = j := Fin.ext h1
    rw [e0, e1]
    exact upper_at x0 x1 x2 x3 x4 x5 x6 x7 x8 x9 x10 x11 a j

end Cert.Kernel3Ideal.Mix

end
-- ==== Proof.MixRef.lean ====
/- The reference of the gated merge with the second half-step feed-forward, at an index. -/
module

public import proofs.«01_k».proof.Proof.Gen.Reference3Ideal
public import proofs.«01_k».proof.Proof.Gen.Reference3Ideal.Run
public import proofs.«01_k».proof.Proof.FfnMath
public import Idealize.ShloMosaic.Lib.StableHlo.Run

@[expose] public section

set_option maxRecDepth 16384

noncomputable section

open Idealize.ShloMosaic Idealize.ShloMosaic.TcCoe Idealize.SL.Sem
open Idealize.ShloMosaic.Pipeline (Dat)
open scoped BigOperators

namespace Cert.Reference3Ideal.Mix

open Cert.Reference3Ideal Cert.Reference3Ideal.Gen

/-- The merge of the two branches, added to the residual. -/
def merged (a0 : FVec Ideal S16384x1024 .f32) (a1 : FVec Ideal S16384x1024 .bf16) (a2 : FVec Ideal S512x16384 .bf16)
    (a3 a4 : FVec Ideal S16384x1024 .bf16) (a5 : FVec Ideal S1x512x1024 .f32) (a6 : FVec Ideal S1x1024x1024 .f32) :
    FVec Ideal S16384x1024 .f32 :=
  addf a0 (Host.dotGeneral dot_S16384x1024_S1024x1024_S16384x1024_1_0_0_1_n_n none (addf (mulf (extf .f32 a3 bitsLt_bf16_f32) (extf .f32 a1 bitsLt_bf16_f32)) (mulf (extf .f32 a4 bitsLt_bf16_f32) (Host.dotGeneral dot_S16384x512_S512x1024_S16384x1024_1_0_0_1_n_n none (transpose S16384x512 [1, 0] (extf .f32 a2 bitsLt_bf16_f32) transposes_S512x16384_S16384x512_1_0) (shapeCast _ a5 shapeCasts_S1x512x1024_S512x1024)))) (shapeCast _ a6 shapeCasts_S1x1024x1024_S1024x1024))

/-- The norm of every row. -/
def norm (x : FVec Ideal S16384x1024 .f32) (g : FVec Ideal S1024 .f32) : FVec Ideal S16384x1024 .f32 :=
  mulf (mulf x (broadcastInDim S16384x1024 ![0, 1] bcast_S16384x1_S16384x1024_0_1 (Host.rsqrt (addf (Host.divf (broadcastInDim S16384x1 ![0] bcast_S16384_S16384x1_0 (Host.reduceAdd (mulf x x) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 g))

/-- The half-step feed-forward of normed rows `h`, added to `x`. -/
def feed (x h : FVec Ideal S16384x1024 .f32) (wg wu : FVec Ideal S1024x2816 .f32) (wd : FVec Ideal S2816x1024 .f32) :
    FVec Ideal S16384x1024 .f32 :=
  addf x (mulf (broadcastInDim S16384x1024 ![] bcast_S_S16384x1024 (constant S_ .f32 0x3F000000#32)) (Host.dotGeneral dot_S16384x2816_S2816x1024_S16384x1024_1_0_0_1_n_n none (mulf (mulf (Host.dotGeneral dot_S16384x1024_S1024x2816_S16384x2816_1_0_0_1_n_n none h wg) (Host.divf (broadcastInDim S16384x2816 ![] bcast_S_S16384x2816 (constant S_ .f32 0x3F800000#32)) (addf (broadcastInDim S16384x2816 ![] bcast_S_S16384x2816 (constant S_ .f32 0x3F800000#32)) (Host.exp (Host.negf (Host.dotGeneral dot_S16384x1024_S1024x2816_S16384x2816_1_0_0_1_n_n none h wg)))))) (Host.dotGeneral dot_S16384x1024_S1024x2816_S16384x2816_1_0_0_1_n_n none h wu)) wd))

/-- The reference's result over its arguments. -/
def REF (a0 : FVec Ideal S16384x1024 .f32) (a1 : FVec Ideal S16384x1024 .bf16) (a2 : FVec Ideal S512x16384 .bf16)
    (a3 a4 : FVec Ideal S16384x1024 .bf16) (a5 : FVec Ideal S1x512x1024 .f32) (a6 : FVec Ideal S1x1024x1024 .f32)
    (a7 : FVec Ideal S1x1024 .f32) (a8 a9 : FVec Ideal S1x1024x2816 .f32) (a10 : FVec Ideal S1x2816x1024 .f32)
    (a11 : FVec Ideal S1024 .f32) : FVec Ideal S16384x1024 .f32 :=
  norm (feed (merged a0 a1 a2 a3 a4 a5 a6) (norm (merged a0 a1 a2 a3 a4 a5 a6) (shapeCast _ a7 shapeCasts_S1x1024_S1024))
    (shapeCast _ a8 shapeCasts_S1x1024x2816_S1024x2816) (shapeCast _ a9 shapeCasts_S1x1024x2816_S1024x2816)
    (shapeCast _ a10 shapeCasts_S1x2816x1024_S2816x1024)) a11

/-- The composed term the run states is that result. -/
theorem res_eq (m : (ℓ : Loc nD τ sig) → Buf (Elt Ideal) ℓ) (c : Dev nD) :
    Cert.Reference3Ideal.Value.res_main_v50 m c
      = REF (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) (m ((c.tc : Thread nD τ).loc main_arg5))
        (m ((c.tc : Thread nD τ).loc main_arg6)) (m ((c.tc : Thread nD τ).loc main_arg7))
        (m ((c.tc : Thread nD τ).loc main_arg8)) (m ((c.tc : Thread nD τ).loc main_arg9))
        (m ((c.tc : Thread nD τ).loc main_arg10)) (m ((c.tc : Thread nD τ).loc main_arg11)) := rfl

/-- The norm at a row and a column. -/
theorem norm_at (x : FVec Ideal S16384x1024 .f32) (g : FVec Ideal S1024 .f32) (i : Fin 16384) (j : Fin 1024) :
    (norm x g (ix2 i j) : EReal) = Cert.Ffn.norm (fun k => x (ix2 i k)) (fun k => g (ix1 k)) j := by
  unfold Cert.Ffn.norm
  pointwise [norm]

/-- The feed-forward at a row and a column. -/
theorem feed_at (x h : FVec Ideal S16384x1024 .f32) (wg wu : FVec Ideal S1024x2816 .f32) (wd : FVec Ideal S2816x1024 .f32)
    (i : Fin 16384) (j : Fin 1024) :
    (feed x h wg wu wd (ix2 i j) : EReal) = Cert.Ffn.feed (fun k => x (ix2 i k)) (fun k => h (ix2 i k))
      (fun l k => wg (ix2 l k)) (fun l k => wu (ix2 l k)) (fun k l => wd (ix2 k l)) j := by
  unfold Cert.Ffn.feed
  pointwise [feed]

/-- The merge at a row and a column. -/
theorem merged_at (a0 : FVec Ideal S16384x1024 .f32) (a1 : FVec Ideal S16384x1024 .bf16) (a2 : FVec Ideal S512x16384 .bf16)
    (a3 a4 : FVec Ideal S16384x1024 .bf16) (a5 : FVec Ideal S1x512x1024 .f32) (a6 : FVec Ideal S1x1024x1024 .f32)
    (i : Fin 16384) (j : Fin 1024) :
    (merged a0 a1 a2 a3 a4 a5 a6 (ix2 i j) : EReal) = Cert.Ffn.merged (fun k => a0 (ix2 i k)) (fun k => a1 (ix2 i k))
      (fun k => a3 (ix2 i k)) (fun k => a4 (ix2 i k)) (fun k => a2 (ix2 k i)) (fun l k => a5 (ix3 0 l k))
      (fun k l => a6 (ix3 0 k l)) j := by
  unfold Cert.Ffn.merged
  pointwise [merged]

/-- The reference's result at a row and a column. -/
theorem ref_at (a0 : FVec Ideal S16384x1024 .f32) (a1 : FVec Ideal S16384x1024 .bf16) (a2 : FVec Ideal S512x16384 .bf16)
    (a3 a4 : FVec Ideal S16384x1024 .bf16) (a5 : FVec Ideal S1x512x1024 .f32) (a6 : FVec Ideal S1x1024x1024 .f32)
    (a7 : FVec Ideal S1x1024 .f32) (a8 a9 : FVec Ideal S1x1024x2816 .f32) (a10 : FVec Ideal S1x2816x1024 .f32)
    (a11 : FVec Ideal S1024 .f32) (i : Fin 16384) (j : Fin 1024) :
    (REF a0 a1 a2 a3 a4 a5 a6 a7 a8 a9 a10 a11 (ix2 i j) : EReal)
      = Cert.Ffn.mixRow (fun k => a0 (ix2 i k)) (fun k => a1 (ix2 i k)) (fun k => a2 (ix2 k i)) (fun k => a3 (ix2 i k))
        (fun k => a4 (ix2 i k)) (fun l k => a5 (ix3 0 l k)) (fun l k => a6 (ix3 0 l k)) (fun k => a7 (ix2 0 k))
        (fun l k => a8 (ix3 0 l k)) (fun l k => a9 (ix3 0 l k)) (fun l k => a10 (ix3 0 l k)) (fun k => a11 (ix1 k)) j := by
  have e7 : ∀ k : Fin 1024, (shapeCast S1024 a7 shapeCasts_S1x1024_S1024 (ix1 k) : EReal) = a7 (ix2 0 k) := fun k => by pointwise []
  have e8 : ∀ (l : Fin 1024) (k : Fin 2816),
      (shapeCast S1024x2816 a8 shapeCasts_S1x1024x2816_S1024x2816 (ix2 l k) : EReal) = a8 (ix3 0 l k) := fun l k => by pointwise []
  have e9 : ∀ (l : Fin 1024) (k : Fin 2816),
      (shapeCast S1024x2816 a9 shapeCasts_S1x1024x2816_S1024x2816 (ix2 l k) : EReal) = a9 (ix3 0 l k) := fun l k => by pointwise []
  have e10 : ∀ (l : Fin 2816) (k : Fin 1024),
      (shapeCast S2816x1024 a10 shapeCasts_S1x2816x1024_S2816x1024 (ix2 l k) : EReal) = a10 (ix3 0 l k) := fun l k => by pointwise []
  unfold REF Cert.Ffn.mixRow
  simp only [norm_at, feed_at, merged_at, e7, e8, e9, e10]

end Cert.Reference3Ideal.Mix

end
-- ==== Proof.MixValue.lean ====
/- What the gated merge leaves in its result array: the reference's result. -/
module

public import proofs.«01_k».proof.Proof.MixOut
public import proofs.«01_k».proof.Proof.MixRef
public import Idealize.ShloMosaic.Lib.Pipeline.Value
public import Idealize.ShloMosaic.Lib.StableHlo.Run

@[expose] public section

set_option maxRecDepth 16384

noncomputable section

open Idealize.ShloMosaic Idealize.ShloMosaic.TcCoe Idealize.SL.Sem
open Idealize.ShloMosaic.Pipeline (Dat)
open scoped BigOperators

namespace Cert.Kernel3Ideal.Mix

open Cert.Kernel3Ideal Cert.Kernel3Ideal.Gen

variable (m : (ℓ : Loc nD τ sig) → Buf (Elt Ideal) ℓ)

/-- Every window's block index at every point. -/
theorem idx : ∀ t : Fin cfg0.N, win0_0.index t = ![t.val, 0]
    ∧ win0_1.index t = ![t.val, 0]
    ∧ win0_2.index t = ![0, t.val]
    ∧ win0_3.index t = ![t.val, 0]
    ∧ win0_4.index t = ![t.val, 0]
    ∧ win0_5.index t = ![0, 0]
    ∧ win0_6.index t = ![0, 0]
    ∧ win0_7.index t = ![0, 0]
    ∧ win0_8.index t = ![0, 0]
    ∧ win0_9.index t = ![0, 0]
    ∧ win0_10.index t = ![0, 0]
    ∧ win0_11.index t = ![0, 0]
    ∧ win0_12.index t = ![t.val, 0] :=
  (by decide +kernel : ∀ t : Fin grid0.N, _)

/-- The grid has thirty-two points. -/
theorem point_lt (t : Fin cfg0.N) : t.val < 32 := lt_of_lt_of_eq t.isLt N_0

/-- The weights' blocks are the whole arrays the host prepares. -/
theorem blk5_at (c : Dev nD) (t : Fin cfg0.N) (l : Fin 512) (k : Fin 1024) :
    ((iblk m c 5 t : S512x1024.Idx → EReal) (ix2 l k)) = m (c, Proc.tc.devRef main_arg5) (ix3 0 l k) := by
  have e : (iblk m c 5 t : S512x1024.Idx → EReal) = V m c main_v1 := by blk_ext! [iblk, idx t]
  rw [e]
  entry_read; pointwise []
theorem blk6_at (c : Dev nD) (t : Fin cfg0.N) (l k : Fin 1024) :
    ((iblk m c 6 t : S1024x1024.Idx → EReal) (ix2 l k)) = m (c, Proc.tc.devRef main_arg6) (ix3 0 l k) := by
  have e : (iblk m c 6 t : S1024x1024.Idx → EReal) = V m c main_v3 := by blk_ext! [iblk, idx t]
  rw [e]
  entry_read; pointwise []
theorem blk7_at (c : Dev nD) (t : Fin cfg0.N) (k : Fin 1024) :
    ((iblk m c 7 t : S1x1024.Idx → EReal) (ix2 0 k)) = m (c, Proc.tc.devRef main_arg7) (ix2 0 k) := by
  have e : (iblk m c 7 t : S1x1024.Idx → EReal) = V m c main_v5 := by blk_ext! [iblk, idx t]
  rw [e]
  entry_read; pointwise []
theorem blk8_at (c : Dev nD) (t : Fin cfg0.N) (l : Fin 1024) (k : Fin 2816) :
    ((iblk m c 8 t : S1024x2816.Idx → EReal) (ix2 l k)) = m (c, Proc.tc.devRef main_arg8) (ix3 0 l k) := by
  have e : (iblk m c 8 t : S1024x2816.Idx → EReal) = V m c main_v7 := by blk_ext! [iblk, idx t]
  rw [e]
  entry_read; pointwise []
theorem blk9_at (c : Dev nD) (t : Fin cfg0.N) (l : Fin 1024) (k : Fin 2816) :
    ((iblk m c 9 t : S1024x2816.Idx → EReal) (ix2 l k)) = m (c, Proc.tc.devRef main_arg9) (ix3 0 l k) := by
  have e : (iblk m c 9 t : S1024x2816.Idx → EReal) = V m c main_v9 := by blk_ext! [iblk, idx t]
  rw [e]
  entry_read; pointwise []
theorem blk10_at (c : Dev nD) (t : Fin cfg0.N) (l : Fin 2816) (k : Fin 1024) :
    ((iblk m c 10 t : S2816x1024.Idx → EReal) (ix2 l k)) = m (c, Proc.tc.devRef main_arg10) (ix3 0 l k) := by
  have e : (iblk m c 10 t : S2816x1024.Idx → EReal) = V m c main_v11 := by blk_ext! [iblk, idx t]
  rw [e]
  entry_read; pointwise []
theorem blk11_at (c : Dev nD) (t : Fin cfg0.N) (k : Fin 1024) :
    ((iblk m c 11 t : S1x1024.Idx → EReal) (ix2 0 k)) = m (c, Proc.tc.devRef main_arg11) (ix1 k) := by
  have e : (iblk m c 11 t : S1x1024.Idx → EReal) = V m c main_v12 := by blk_ext! [iblk, idx t]
  rw [e]
  entry_read; pointwise []

/-- The rows of the activations a point reads. -/
theorem blk0_at (c : Dev nD) (t : Fin cfg0.N) (a : Fin 512) (k : Fin 1024) :
    ((iblk m c 0 t : S512x1024.Idx → EReal) (ix2 a k))
      = m (c, Proc.tc.devRef main_arg0) (ix2 ⟨512 * t.val + a.val, by have := point_lt t; omega⟩ k) := by
  blk_ext [iblk, V_main_arg0, idx t]
theorem blk1_at (c : Dev nD) (t : Fin cfg0.N) (a : Fin 512) (k : Fin 1024) :
    ((iblk m c 1 t : S512x1024.Idx → EReal) (ix2 a k))
      = m (c, Proc.tc.devRef main_arg1) (ix2 ⟨512 * t.val + a.val, by have := point_lt t; omega⟩ k) := by
  blk_ext [iblk, V_main_arg1, idx t]
theorem blk2_at (c : Dev nD) (t : Fin cfg0.N) (k a : Fin 512) :
    ((iblk m c 2 t : S512x512.Idx → EReal) (ix2 k a))
      = m (c, Proc.tc.devRef main_arg2) (ix2 k ⟨512 * t.val + a.val, by have := point_lt t; omega⟩) := by
  blk_ext [iblk, V_main_arg2, idx t]
theorem blk3_at (c : Dev nD) (t : Fin cfg0.N) (a : Fin 512) (k : Fin 1024) :
    ((iblk m c 3 t : S512x1024.Idx → EReal) (ix2 a k))
      = m (c, Proc.tc.devRef main_arg3) (ix2 ⟨512 * t.val + a.val, by have := point_lt t; omega⟩ k) := by
  blk_ext [iblk, V_main_arg3, idx t]
theorem blk4_at (c : Dev nD) (t : Fin cfg0.N) (a : Fin 512) (k : Fin 1024) :
    ((iblk m c 4 t : S512x1024.Idx → EReal) (ix2 a k))
      = m (c, Proc.tc.devRef main_arg4) (ix2 ⟨512 * t.val + a.val, by have := point_lt t; omega⟩ k) := by
  blk_ext [iblk, V_main_arg4, idx t]

/-- A row and a column of a point's output block, in the whole result. -/
theorem emb12 (t : Fin cfg0.N) (a : Fin 512) (b : Fin 1024) :
    ((cfg0.win 12).blk t).view.emb (ix2 a b) = (ix2 ⟨512 * t.val + a.val, by have := point_lt t; omega⟩ b : S16384x1024.Idx) := by
  blk_ext [idx t]

/-- The result array, from the values a point leaves. -/
theorem final (c : Dev nD) :
    (dats m 0 c).arrAt 12 (cfgs 0).N
      = Cert.Reference3Ideal.Mix.REF (m (c, Proc.tc.devRef main_arg0)) (m (c, Proc.tc.devRef main_arg1))
        (m (c, Proc.tc.devRef main_arg2)) (m (c, Proc.tc.devRef main_arg3)) (m (c, Proc.tc.devRef main_arg4))
        (m (c, Proc.tc.devRef main_arg5)) (m (c, Proc.tc.devRef main_arg6)) (m (c, Proc.tc.devRef main_arg7))
        (m (c, Proc.tc.devRef main_arg8)) (m (c, Proc.tc.devRef main_arg9)) (m (c, Proc.tc.devRef main_arg10))
        (m (c, Proc.tc.devRef main_arg11)) := by
  refine (dats m 0 c).arrAt_eq_of_covers 12 _ (by decide +kernel) fun t hf y => ?_
  obtain ⟨a, b, rfl⟩ : ∃ (a : Fin 512) (b : Fin 1024), y = ix2 a b := ⟨y 0, y 1, by funext i; fin_cases i <;> rfl⟩
  rw [emb12]
  refine Eq.trans ?_ (Cert.Reference3Ideal.Mix.ref_at _ _ _ _ _ _ _ _ _ _ _ _ _ _).symm
  blk_simp
  rw [after0_12]
  refine (out_at (iblk m c 0 t) (iblk m c 1 t) (iblk m c 2 t) (iblk m c 3 t) (iblk m c 4 t) (iblk m c 5 t) (iblk m c 6 t)
      (iblk m c 7 t) (iblk m c 8 t) (iblk m c 9 t) (iblk m c 10 t) (iblk m c 11 t) (ix2 a b)).trans ?_
  show Cert.Ffn.mixRow (fun k => (iblk m c 0 t : S512x1024.Idx → EReal) (ix2 a k)) (fun k => (iblk m c 1 t : S512x1024.Idx → EReal) (ix2 a k))
      (fun k => (iblk m c 2 t : S512x512.Idx → EReal) (ix2 k a)) (fun k => (iblk m c 3 t : S512x1024.Idx → EReal) (ix2 a k))
      (fun k => (iblk m c 4 t : S512x1024.Idx → EReal) (ix2 a k)) (fun l k => (iblk m c 5 t : S512x1024.Idx → EReal) (ix2 l k))
      (fun l k => (iblk m c 6 t : S1024x1024.Idx → EReal) (ix2 l k)) (fun k => (iblk m c 7 t : S1x1024.Idx → EReal) (ix2 0 k))
      (fun l k => (iblk m c 8 t : S1024x2816.Idx → EReal) (ix2 l k)) (fun l k => (iblk m c 9 t : S1024x2816.Idx → EReal) (ix2 l k))
      (fun l k => (iblk m c 10 t : S2816x1024.Idx → EReal) (ix2 l k)) (fun k => (iblk m c 11 t : S1x1024.Idx → EReal) (ix2 0 k)) b = _
  simp only [blk0_at, blk1_at, blk2_at, blk3_at, blk4_at, blk5_at, blk6_at, blk7_at, blk8_at, blk9_at, blk10_at, blk11_at]

end Cert.Kernel3Ideal.Mix

end
-- ==== Proof.ClaimMix.lean ====
/- The gated merge with the second feed-forward: kernel and reference compute the same array over the extended reals. -/
module

public import proofs.«01_k».proof.Defs
public import proofs.«01_k».proof.Proof.MixValue
public import proofs.«01_k».proof.Proof.Gen.Kernel3Ideal.Value
public import proofs.«01_k».proof.Proof.Gen.Reference3Ideal.Run
public import Idealize.ShloMosaic.Lib.Claim

@[expose] public section

noncomputable section

namespace Cert.Proof

open Idealize.ShloMosaic Idealize.ShloMosaic.TcCoe Idealize.SL.Sem

/-- The reference of the merge ends with its arguments unchanged and every counter at zero. -/
theorem frame_ref_mix : Cert.quiescent_Reference3Ideal := by
  intro m g _
  exact (θ_run _ _ _).mono (fun r h => ⟨fun c => (h c).2, sem_eq_zero_of_no_sems (by decide) r.2⟩) (Cert.Reference3Ideal.Value.run m g)

/-- Kernel and reference of the merge end with equal results. -/
theorem algebraic_mix : Cert.algebraic_Kernel3Ideal_Reference3Ideal := by
  intro m g m' g' hpre hagree
  refine ⟨fun c => (Cert.Kernel3Ideal.Gen.dats m 0 c).arrAt 12 Cert.Kernel3Ideal.cfg0.N, Cert.Kernel3Ideal.Value.run_blocks m g, ?_⟩
  refine (θ_run _ _ _).mono (fun r h c => ⟨(h c).1.trans ?_, (h c).2⟩) (Cert.Reference3Ideal.Value.run m' g')
  refine Eq.trans ?_ (Cert.Kernel3Ideal.Mix.final m c).symm
  rw [Cert.Reference3Ideal.Mix.res_eq]
  obtain ⟨h0, h1, h2, h3, h4, h5, h6, h7, h8, h9, h10, h11⟩ := hagree c
  rw [h0, h1, h2, h3, h4, h5, h6, h7, h8, h9, h10, h11]

end Cert.Proof

end
-- ==== Proof.ProjSetup.lean ====
/- The two phases of the gated feed-forward and projection kernel, and the names of its buffers at a grid point. -/
module

public import proofs.«01_k».proof.Proof.Gen.Kernel2Ideal.Frame
public import proofs.«01_k».proof.Proof.Gen.Kernel2Ideal.Skeleton

@[expose] public section

set_option maxRecDepth 16384

noncomputable section

namespace Cert.Kernel2Ideal.Proj

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's `scf.if` 0 (`k0_h1`), from the grid coordinates. -/
abbrev cond0_0 (i : grid0.Coords) : Prop := k0_cond1 i = 1#1
/-- It holds at the points before point 16 — decided over the grid. -/
theorem hcond0_0 : ∀ t : Fin cfg0.N, cond0_0 (grid0.coords t) ↔ t.val < 16 :=
  (by decide +kernel : ∀ t : Fin grid0.N, cond0_0 (grid0.coords t) ↔ t.val < 16)

/-- The condition of the body's `scf.if` 1 (`k0_h2`), from the grid coordinates. -/
abbrev cond0_1 (i : grid0.Coords) : Prop := k0_cond2 i = 1#1
/-- It holds at the points from point 16 on — decided over the grid. -/
theorem hcond0_1 : ∀ t : Fin cfg0.N, cond0_1 (grid0.coords t) ↔ 16 ≤ t.val :=
  (by decide +kernel : ∀ t : Fin grid0.N, cond0_1 (grid0.coords t) ↔ 16 ≤ t.val)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S64x2816 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S64x2816 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S176x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S64x4096 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S512x1024 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S512x512 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S512x512 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S512x512 .bf16 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S576x512 .bf16 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S512x1024 .bf16 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S512x1024 .bf16 := win0_13.stage (cfg0.slots t 13)
abbrev hs0_13 (t : Fin cfg0.N) : (ms0_13 t).IsWhole := hstage0_13 ((cfg0.slots t 13).cast nbuf0_13)
/-- The scratch operands: whole scoped buffers of the kernel's own, passed beside the windows. -/
abbrev scM0_0 : Memref sig .tc .vmem S1024x2816 .bf16 := Memref.whole cc0_scratch0
abbrev scM0_1 : Memref sig .tc .vmem S1024x2816 .bf16 := Memref.whole cc0_scratch1
abbrev scM0_2 : Memref sig .tc .vmem S2816x1024 .bf16 := Memref.whole cc0_scratch2
abbrev scM0_3 : Memref sig .tc .vmem S1024x4096 .bf16 := Memref.whole cc0_scratch3

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.Kernel2Ideal.Proj

end
-- ==== Proof.ProjTerms.lean ====
/- What one compute point of the gated feed-forward and projection kernel leaves in its seven output blocks. -/
module

public import proofs.«01_k».proof.Proof.ProjSetup
public import Idealize.ShloMosaic.Lib.Pipeline.ValueKit
public import Idealize.ShloMosaic.Lib.Pipeline.Value

@[expose] public section

set_option maxRecDepth 16384

noncomputable section

namespace Cert.Kernel2Ideal.Proj

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The upper half of a block of token rows. -/
def rows0 (x0 : Vec F S512x1024 .f32) : Vec F S256x1024 .f32 :=
  View.ld (Val := Elt F) (e' := .f32) (S := S512x1024) x0 (Rect.unit ![0, 0] S256x1024.size inb_S512x1024_S256x1024_0_0)

/-- The lower half of a block of token rows. -/
def rows1 (x0 : Vec F S512x1024 .f32) : Vec F S256x1024 .f32 :=
  View.ld (Val := Elt F) (e' := .f32) (S := S512x1024) x0 (Rect.unit ![256, 0] S256x1024.size inb_S512x1024_S256x1024_256_0)

/-- The fed-forward upper half: the residual sum the kernel stores. -/
def fed0 (x0 : Vec F S512x1024 .f32) (x1 : Vec F S1x1024 .f32) (s0 s1 : Vec F S1024x2816 .bf16) (s2 : Vec F S2816x1024 .bf16) :
    FVec F S256x1024 .f32 :=
  k0_pay15 (k0_pay9 (rows0 x0)) (k0_pay12 (rows0 x0) x1 s0) (k0_pay13 (rows0 x0) x1 s1) s2

/-- The fed-forward lower half. -/
def fed1 (x0 : Vec F S512x1024 .f32) (x1 : Vec F S1x1024 .f32) (s0 s1 : Vec F S1024x2816 .bf16) (s2 : Vec F S2816x1024 .bf16) :
    FVec F S256x1024 .f32 :=
  k0_pay16 (k0_pay10 (rows1 x0)) (k0_pay14 (rows1 x0) x1) s0 s1 s2

/-- The normalized upper half, as the projection takes it. -/
def normed0 (x0 : Vec F S512x1024 .f32) (x1 x5 : Vec F S1x1024 .f32) (s0 s1 : Vec F S1024x2816 .bf16) (s2 : Vec F S2816x1024 .bf16) :
    FVec F S256x1024 .bf16 :=
  k0_pay17 (k0_pay9 (rows0 x0)) (k0_pay12 (rows0 x0) x1 s0) (k0_pay13 (rows0 x0) x1 s1) s2 x5

/-- The stores into output window 7, last first: the fed-forward rows. -/
def out8 (x0 : Vec F S512x1024 .f32) (x1 : Vec F S1x1024 .f32) (s0 s1 : Vec F S1024x2816 .bf16) (s2 : Vec F S2816x1024 .bf16) : List (View.Piece (Elt F) S512x1024 .f32) :=
  [⟨Rect.unit (s := S512x1024) ![256, 0] ![256, 1024] inb_S512x1024_S256x1024_256_0, fed1 x0 x1 s0 s1 s2⟩,
    ⟨Rect.unit (s := S512x1024) ![0, 0] ![256, 1024] inb_S512x1024_S256x1024_0_0, fed0 x0 x1 s0 s1 s2⟩]

/-- The stores into output window 8, last first: the Fourier branch's projection. -/
def out9 (x0 : Vec F S512x1024 .f32) (x1 x5 : Vec F S1x1024 .f32) (s0 s1 : Vec F S1024x2816 .bf16) (s2 : Vec F S2816x1024 .bf16) (s3 : Vec F S1024x4096 .bf16) : List (View.Piece (Elt F) S512x512 .bf16) :=
  [⟨Rect.unit (s := S512x512) ![256, 0] ![256, 512] inb_S512x512_S256x512_256_0, k0_pay34 (k0_pay33 (fed1 x0 x1 s0 s1 s2) x5 s3)⟩,
    ⟨Rect.unit (s := S512x512) ![0, 0] ![256, 512] inb_S512x512_S256x512_0_0, k0_pay19 (normed0 x0 x1 x5 s0 s1 s2) s3⟩]

/-- The stores into output window 9, last first: the scaled queries. -/
def out10 (x0 : Vec F S512x1024 .f32) (x1 x5 : Vec F S1x1024 .f32) (s0 s1 : Vec F S1024x2816 .bf16) (s2 : Vec F S2816x1024 .bf16) (s3 : Vec F S1024x4096 .bf16) : List (View.Piece (Elt F) S512x512 .bf16) :=
  [⟨Rect.unit (s := S512x512) ![256, 0] ![256, 512] inb_S512x512_S256x512_256_0, k0_pay35 (k0_pay32 (fed1 x0 x1 s0 s1 s2) x5 s3)⟩,
    ⟨Rect.unit (s := S512x512) ![0, 0] ![256, 512] inb_S512x512_S256x512_0_0, k0_pay20 (normed0 x0 x1 x5 s0 s1 s2) s3⟩]

/-- The stores into output window 10, last first: the keys. -/
def out11 (x0 : Vec F S512x1024 .f32) (x1 x5 : Vec F S1x1024 .f32) (s0 s1 : Vec F S1024x2816 .bf16) (s2 : Vec F S2816x1024 .bf16) (s3 : Vec F S1024x4096 .bf16) : List (View.Piece (Elt F) S512x512 .bf16) :=
  [⟨Rect.unit (s := S512x512) ![256, 0] ![256, 512] inb_S512x512_S256x512_256_0, k0_pay36 (k0_pay32 (fed1 x0 x1 s0 s1 s2) x5 s3)⟩,
    ⟨Rect.unit (s := S512x512) ![0, 0] ![256, 512] inb_S512x512_S256x512_0_0, k0_pay21 (normed0 x0 x1 x5 s0 s1 s2) s3⟩]

/-- The stores into output window 11, last first: the transposed values, each head followed by sixteen rows of ones. -/
def out12 (x0 : Vec F S512x1024 .f32) (x1 x5 : Vec F S1x1024 .f32) (s0 s1 : Vec F S1024x2816 .bf16) (s2 : Vec F S2816x1024 .bf16) (s3 : Vec F S1024x4096 .bf16) : List (View.Piece (Elt F) S576x512 .bf16) :=
  [⟨Rect.unit (s := S576x512) ![560, 256] ![16, 256] inb_S576x512_S16x256_560_256, k0_pay6⟩,
    ⟨Rect.unit (s := S576x512) ![432, 256] ![128, 256] inb_S576x512_S128x256_432_256, k0_pay5 (k0_pay43 (k0_pay32 (fed1 x0 x1 s0 s1 s2) x5 s3))⟩,
    ⟨Rect.unit (s := S576x512) ![416, 256] ![16, 256] inb_S576x512_S16x256_416_256, k0_pay42⟩,
    ⟨Rect.unit (s := S576x512) ![288, 256] ![128, 256] inb_S576x512_S128x256_288_256, k0_pay41 (k0_pay32 (fed1 x0 x1 s0 s1 s2) x5 s3)⟩,
    ⟨Rect.unit (s := S576x512) ![272, 256] ![16, 256] inb_S576x512_S16x256_272_256, k0_pay40⟩,
    ⟨Rect.unit (s := S576x512) ![144, 256] ![128, 256] inb_S576x512_S128x256_144_256, k0_pay39 (k0_pay32 (fed1 x0 x1 s0 s1 s2) x5 s3)⟩,
    ⟨Rect.unit (s := S576x512) ![128, 256] ![16, 256] inb_S576x512_S16x256_128_256, k0_pay38⟩,
    ⟨Rect.unit (s := S576x512) ![0, 256] ![128, 256] inb_S576x512_S128x256_0_256, k0_pay37 (k0_pay32 (fed1 x0 x1 s0 s1 s2) x5 s3)⟩,
    ⟨Rect.unit (s := S576x512) ![560, 0] ![16, 256] inb_S576x512_S16x256_560_0, k0_pay29⟩,
    ⟨Rect.unit (s := S576x512) ![432, 0] ![128, 256] inb_S576x512_S128x256_432_0, k0_pay28 (k0_pay18 (normed0 x0 x1 x5 s0 s1 s2) s3)⟩,
    ⟨Rect.unit (s := S576x512) ![416, 0] ![16, 256] inb_S576x512_S16x256_416_0, k0_pay27⟩,
    ⟨Rect.unit (s := S576x512) ![288, 0] ![128, 256] inb_S576x512_S128x256_288_0, k0_pay26 (normed0 x0 x1 x5 s0 s1 s2) s3⟩,
    ⟨Rect.unit (s := S576x512) ![272, 0] ![16, 256] inb_S576x512_S16x256_272_0, k0_pay25⟩,
    ⟨Rect.unit (s := S576x512) ![144, 0] ![128, 256] inb_S576x512_S128x256_144_0, k0_pay24 (normed0 x0 x1 x5 s0 s1 s2) s3⟩,
    ⟨Rect.unit (s := S576x512) ![128, 0] ![16, 256] inb_S576x512_S16x256_128_0, k0_pay23⟩,
    ⟨Rect.unit (s := S576x512) ![0, 0] ![128, 256] inb_S576x512_S128x256_0_0, k0_pay22 (normed0 x0 x1 x5 s0 s1 s2) s3⟩]

/-- The stores into output window 12, last first: the first gate. -/
def out13 (x0 : Vec F S512x1024 .f32) (x1 x5 : Vec F S1x1024 .f32) (s0 s1 : Vec F S1024x2816 .bf16) (s2 : Vec F S2816x1024 .bf16) (s3 : Vec F S1024x4096 .bf16) : List (View.Piece (Elt F) S512x1024 .bf16) :=
  [⟨Rect.unit (s := S512x1024) ![256, 0] ![256, 1024] inb_S512x1024_S256x1024_256_0, k0_pay7 (k0_pay32 (fed1 x0 x1 s0 s1 s2) x5 s3)⟩,
    ⟨Rect.unit (s := S512x1024) ![0, 0] ![256, 1024] inb_S512x1024_S256x1024_0_0, k0_pay30 (k0_pay18 (normed0 x0 x1 x5 s0 s1 s2) s3)⟩]

/-- The stores into output window 13, last first: the second gate. -/
def out14 (x0 : Vec F S512x1024 .f32) (x1 x5 : Vec F S1x1024 .f32) (s0 s1 : Vec F S1024x2816 .bf16) (s2 : Vec F S2816x1024 .bf16) (s3 : Vec F S1024x4096 .bf16) : List (View.Piece (Elt F) S512x1024 .bf16) :=
  [⟨Rect.unit (s := S512x1024) ![256, 0] ![256, 1024] inb_S512x1024_S256x1024_256_0, k0_pay8 (k0_pay32 (fed1 x0 x1 s0 s1 s2) x5 s3)⟩,
    ⟨Rect.unit (s := S512x1024) ![0, 0] ![256, 1024] inb_S512x1024_S256x1024_0_0, k0_pay31 (k0_pay18 (normed0 x0 x1 x5 s0 s1 s2) s3)⟩]

/-- The stores cover the block. -/
theorem cover8 (x0 : Vec F S512x1024 .f32) (x1 : Vec F S1x1024 .f32) (s0 s1 : Vec F S1024x2816 .bf16) (s2 : Vec F S2816x1024 .bf16) (y : S512x1024.Idx) : ∃ pc ∈ out8 x0 x1 s0 s1 s2, y ∈ pc.1.set :=
  View.cover_of_tiledL (out8 x0 x1 s0 s1 s2) S256x1024.size (by sl_kernel_rfl) y

/-- The stores cover the block. -/
theorem cover9 (x0 : Vec F S512x1024 .f32) (x1 x5 : Vec F S1x1024 .f32) (s0 s1 : Vec F S1024x2816 .bf16) (s2 : Vec F S2816x1024 .bf16) (s3 : Vec F S1024x4096 .bf16) (y : S512x512.Idx) : ∃ pc ∈ out9 x0 x1 x5 s0 s1 s2 s3, y ∈ pc.1.set :=
  View.cover_of_tiledL (out9 x0 x1 x5 s0 s1 s2 s3) S256x512.size (by sl_kernel_rfl) y

/-- The stores cover the block. -/
theorem cover10 (x0 : Vec F S512x1024 .f32) (x1 x5 : Vec F S1x1024 .f32) (s0 s1 : Vec F S1024x2816 .bf16) (s2 : Vec F S2816x1024 .bf16) (s3 : Vec F S1024x4096 .bf16) (y : S512x512.Idx) : ∃ pc ∈ out10 x0 x1 x5 s0 s1 s2 s3, y ∈ pc.1.set :=
  View.cover_of_tiledL (out10 x0 x1 x5 s0 s1 s2 s3) S256x512.size (by sl_kernel_rfl) y

/-- The stores cover the block. -/
theorem cover11 (x0 : Vec F S512x1024 .f32) (x1 x5 : Vec F S1x1024 .f32) (s0 s1 : Vec F S1024x2816 .bf16) (s2 : Vec F S2816x1024 .bf16) (s3 : Vec F S1024x4096 .bf16) (y : S512x512.Idx) : ∃ pc ∈ out11 x0 x1 x5 s0 s1 s2 s3, y ∈ pc.1.set :=
  View.cover_of_tiledL (out11 x0 x1 x5 s0 s1 s2 s3) S256x512.size (by sl_kernel_rfl) y

/-- The stores cover the block. -/
theorem cover13 (x0 : Vec F S512x1024 .f32) (x1 x5 : Vec F S1x1024 .f32) (s0 s1 : Vec F S1024x2816 .bf16) (s2 : Vec F S2816x1024 .bf16) (s3 : Vec F S1024x4096 .bf16) (y : S512x1024.Idx) : ∃ pc ∈ out13 x0 x1 x5 s0 s1 s2 s3, y ∈ pc.1.set :=
  View.cover_of_tiledL (out13 x0 x1 x5 s0 s1 s2 s3) S256x1024.size (by sl_kernel_rfl) y

/-- The stores cover the block. -/
theorem cover14 (x0 : Vec F S512x1024 .f32) (x1 x5 : Vec F S1x1024 .f32) (s0 s1 : Vec F S1024x2816 .bf16) (s2 : Vec F S2816x1024 .bf16) (s3 : Vec F S1024x4096 .bf16) (y : S512x1024.Idx) : ∃ pc ∈ out14 x0 x1 x5 s0 s1 s2 s3, y ∈ pc.1.set :=
  View.cover_of_tiledL (out14 x0 x1 x5 s0 s1 s2 s3) S256x1024.size (by sl_kernel_rfl) y

/-- The stores cover the block: heads of 128 rows, each followed by its 16 rows of ones, in two halves of the columns. -/
theorem cover12 (x0 : Vec F S512x1024 .f32) (x1 x5 : Vec F S1x1024 .f32) (s0 s1 : Vec F S1024x2816 .bf16) (s2 : Vec F S2816x1024 .bf16) (s3 : Vec F S1024x4096 .bf16) (y : S576x512.Idx) : ∃ pc ∈ out12 x0 x1 x5 s0 s1 s2 s3, y ∈ pc.1.set := by
  have h0 : (y 0).val < 576 := (y 0).isLt
  have h1 : (y 1).val < 512 := (y 1).isLt
  have hm : ∀ (o0 o1 n0 n1 : ℕ) (h : ∀ a, (![o0, o1] : Fin 2 → ℕ) a + (![n0, n1] : Fin 2 → ℕ) a ≤ S576x512.size a),
      o0 ≤ (y 0).val → (y 0).val < o0 + n0 → o1 ≤ (y 1).val → (y 1).val < o1 + n1 →
      y ∈ (Rect.unit (s := S576x512) ![o0, o1] ![n0, n1] h).set := fun o0 o1 n0 n1 h a b c d => by
    rw [Rect.mem_set_unit]; intro k; fin_cases k; exacts [⟨a, b⟩, ⟨c, d⟩]
  unfold out12
  simp only [List.mem_cons, List.not_mem_nil, or_false, exists_eq_or_imp, exists_eq_left]
  by_cases c1 : (y 1).val < 256
  · rcases (by omega : (560 ≤ (y 0).val ∧ (y 0).val < 560 + 16) ∨ (432 ≤ (y 0).val ∧ (y 0).val < 432 + 128) ∨ (416 ≤ (y 0).val ∧ (y 0).val < 416 + 16) ∨ (288 ≤ (y 0).val ∧ (y 0).val < 288 + 128) ∨ (272 ≤ (y 0).val ∧ (y 0).val < 272 + 16) ∨ (144 ≤ (y 0).val ∧ (y 0).val < 144 + 128) ∨ (128 ≤ (y 0).val ∧ (y 0).val < 128 + 16) ∨ (0 ≤ (y 0).val ∧ (y 0).val < 0 + 128)) with h | h | h | h | h | h | h | h
    · exact Or.inr <| Or.inr <| Or.inr <| Or.inr <| Or.inr <| Or.inr <| Or.inr <| Or.inr <| Or.inl <| hm _ _ _ _ _ h.1 h.2 (by omega) (by omega)
    · exact Or.inr <| Or.inr <| Or.inr <| Or.inr <| Or.inr <| Or.inr <| Or.inr <| Or.inr <| Or.inr <| Or.inl <| hm _ _ _ _ _ h.1 h.2 (by omega) (by omega)
    · exact Or.inr <| Or.inr <| Or.inr <| Or.inr <| Or.inr <| Or.inr <| Or.inr <| Or.inr <| Or.inr <| Or.inr <| Or.inl <| hm _ _ _ _ _ h.1 h.2 (by omega) (by omega)
    · exact Or.inr <| Or.inr <| Or.inr <| Or.inr <| Or.inr <| Or.inr <| Or.inr <| Or.inr <| Or.inr <| Or.inr <| Or.inr <| Or.inl <| hm _ _ _ _ _ h.1 h.2 (by omega) (by omega)
    · exact Or.inr <| Or.inr <| Or.inr <| Or.inr <| Or.inr <| Or.inr <| Or.inr <| Or.inr <| Or.inr <| Or.inr <| Or.inr <| Or.inr <| Or.inl <| hm _ _ _ _ _ h.1 h.2 (by omega) (by omega)
    · exact Or.inr <| Or.inr <| Or.inr <| Or.inr <| Or.inr <| Or.inr <| Or.inr <| Or.inr <| Or.inr <| Or.inr <| Or.inr <| Or.inr <| Or.inr <| Or.inl <| hm _ _ _ _ _ h.1 h.2 (by omega) (by omega)
    · exact Or.inr <| Or.inr <| Or.inr <| Or.inr <| Or.inr <| Or.inr <| Or.inr <| Or.inr <| Or.inr <| Or.inr <| Or.inr <| Or.inr <| Or.inr <| Or.inr <| Or.inl <| hm _ _ _ _ _ h.1 h.2 (by omega) (by omega)
    · exact Or.inr <| Or.inr <| Or.inr <| Or.inr <| Or.inr <| Or.inr <| Or.inr <| Or.inr <| Or.inr <| Or.inr <| Or.inr <| Or.inr <| Or.inr <| Or.inr <| Or.inr <| hm _ _ _ _ _ h.1 h.2 (by omega) (by omega)
  · rcases (by omega : (560 ≤ (y 0).val ∧ (y 0).val < 560 + 16) ∨ (432 ≤ (y 0).val ∧ (y 0).val < 432 + 128) ∨ (416 ≤ (y 0).val ∧ (y 0).val < 416 + 16) ∨ (288 ≤ (y 0).val ∧ (y 0).val < 288 + 128) ∨ (272 ≤ (y 0).val ∧ (y 0).val < 272 + 16) ∨ (144 ≤ (y 0).val ∧ (y 0).val < 144 + 128) ∨ (128 ≤ (y 0).val ∧ (y 0).val < 128 + 16) ∨ (0 ≤ (y 0).val ∧ (y 0).val < 0 + 128)) with h | h | h | h | h | h | h | h
    · exact Or.inl <| hm _ _ _ _ _ h.1 h.2 (by omega) (by omega)
    · exact Or.inr <| Or.inl <| hm _ _ _ _ _ h.1 h.2 (by omega) (by omega)
    · exact Or.inr <| Or.inr <| Or.inl <| hm _ _ _ _ _ h.1 h.2 (by omega) (by omega)
    · exact Or.inr <| Or.inr <| Or.inr <| Or.inl <| hm _ _ _ _ _ h.1 h.2 (by omega) (by omega)
    · exact Or.inr <| Or.inr <| Or.inr <| Or.inr <| Or.inl <| hm _ _ _ _ _ h.1 h.2 (by omega) (by omega)
    · exact Or.inr <| Or.inr <| Or.inr <| Or.inr <| Or.inr <| Or.inl <| hm _ _ _ _ _ h.1 h.2 (by omega) (by omega)
    · exact Or.inr <| Or.inr <| Or.inr <| Or.inr <| Or.inr <| Or.inr <| Or.inl <| hm _ _ _ _ _ h.1 h.2 (by omega) (by omega)
    · exact Or.inr <| Or.inr <| Or.inr <| Or.inr <| Or.inr <| Or.inr <| Or.inr <| Or.inl <| hm _ _ _ _ _ h.1 h.2 (by omega) (by omega)

end Cert.Kernel2Ideal.Proj

end
-- ==== Proof.ProjCompute.lean ====
/- The compute points of the gated feed-forward and projection kernel, run. -/
module

public import proofs.«01_k».proof.Proof.ProjTerms
public import Idealize.ShloMosaic.Lib.WholeRead

@[expose] public section

set_option maxRecDepth 16384

noncomputable section

namespace Cert.Kernel2Ideal.Proj

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large)
set_option maxHeartbeats 1000000 in
/-- A compute point, run: with the four weights held in the scratch buffers, the body leaves its inputs and the scratch
    buffers as they were and its stores in the seven output blocks — the stores the run finds, in order. -/
noncomputable def runB (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S64x2816 .f32) (harg3 : arg3.IsWhole) (arg4 : Memref sig .tc .vmem S64x2816 .f32) (harg4 : arg4.IsWhole) (arg5 : Memref sig .tc .vmem S176x1024 .f32) (harg5 : arg5.IsWhole) (arg6 : Memref sig .tc .vmem S1x1024 .f32) (harg6 : arg6.IsWhole) (arg7 : Memref sig .tc .vmem S64x4096 .f32) (harg7 : arg7.IsWhole) (arg8 : Memref sig .tc .vmem S512x1024 .f32) (harg8 : arg8.IsWhole) (arg9 : Memref sig .tc .vmem S512x512 .bf16) (harg9 : arg9.IsWhole) (arg10 : Memref sig .tc .vmem S512x512 .bf16) (harg10 : arg10.IsWhole) (arg11 : Memref sig .tc .vmem S512x512 .bf16) (harg11 : arg11.IsWhole) (arg12 : Memref sig .tc .vmem S576x512 .bf16) (harg12 : arg12.IsWhole) (arg13 : Memref sig .tc .vmem S512x1024 .bf16) (harg13 : arg13.IsWhole) (arg14 : Memref sig .tc .vmem S512x1024 .bf16) (harg14 : arg14.IsWhole) (arg15 : Memref sig .tc .vmem S1024x2816 .bf16) (harg15 : arg15.IsWhole) (arg16 : Memref sig .tc .vmem S1024x2816 .bf16) (harg16 : arg16.IsWhole) (arg17 : Memref sig .tc .vmem S2816x1024 .bf16) (harg17 : arg17.IsWhole) (arg18 : Memref sig .tc .vmem S1024x4096 .bf16) (harg18 : arg18.IsWhole) (hc0 : ¬cond0_0 i) (hc1 : cond0_1 i)
    (x0 : Vec F S512x1024 .f32) (x1 : Vec F S1x1024 .f32) (x5 : Vec F S1x1024 .f32) (s0 : Vec F S1024x2816 .bf16) (s1 : Vec F S1024x2816 .bf16) (s2 : Vec F S2816x1024 .bf16) (s3 : Vec F S1024x4096 .bf16) :
    Σ' (L8 : List (View.Piece (Elt F) S512x1024 .f32)), Σ' (L9 : List (View.Piece (Elt F) S512x512 .bf16)), Σ' (L10 : List (View.Piece (Elt F) S512x512 .bf16)), Σ' (L11 : List (View.Piece (Elt F) S512x512 .bf16)), Σ' (L12 : List (View.Piece (Elt F) S576x512 .bf16)), Σ' (L13 : List (View.Piece (Elt F) S512x1024 .bf16)), { L14 : List (View.Piece (Elt F) S512x1024 .bf16) //
      ∀ (E : Set ℕ) (K : PUnit → sProp 𝕄),
        iprop(owns (c : Thread nD τ) arg1 fullShare x0 ∗ owns (c : Thread nD τ) arg2 fullShare x1 ∗ owns (c : Thread nD τ) arg6 fullShare x5 ∗ owns (c : Thread nD τ) arg15 fullShare s0 ∗ owns (c : Thread nD τ) arg16 fullShare s1 ∗ owns (c : Thread nD τ) arg17 fullShare s2 ∗ owns (c : Thread nD τ) arg18 fullShare s3 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg1 fullShare x0 ∗ owns (c : Thread nD τ) arg2 fullShare x1 ∗ owns (c : Thread nD τ) arg6 fullShare x5 ∗ owns (c : Thread nD τ) arg15 fullShare s0 ∗ owns (c : Thread nD τ) arg16 fullShare s1 ∗ owns (c : Thread nD τ) arg17 fullShare s2 ∗ owns (c : Thread nD τ) arg18 fullShare s3 ∗ (∃ f, arg8.view.loc (c : Thread nD τ) ↦[arg8.view.set]{fullShare} arg8.view.writes (Elt F) f L8) ∗ (∃ f, arg9.view.loc (c : Thread nD τ) ↦[arg9.view.set]{fullShare} arg9.view.writes (Elt F) f L9) ∗ (∃ f, arg10.view.loc (c : Thread nD τ) ↦[arg10.view.set]{fullShare} arg10.view.writes (Elt F) f L10) ∗ (∃ f, arg11.view.loc (c : Thread nD τ) ↦[arg11.view.set]{fullShare} arg11.view.writes (Elt F) f L11) ∗ (∃ f, arg12.view.loc (c : Thread nD τ) ↦[arg12.view.set]{fullShare} arg12.view.writes (Elt F) f L12) ∗ (∃ f, arg13.view.loc (c : Thread nD τ) ↦[arg13.view.set]{fullShare} arg13.view.writes (Elt F) f L13) ∗ (∃ f, arg14.view.loc (c : Thread nD τ) ↦[arg14.view.set]{fullShare} arg14.view.writes (Elt F) f L14)) -∗ K ⟨⟩))
          ⊢ wp frame (wpE (defs₀ (F := F)) Variants.none c none) E (cc0_ffn_proj i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, ?_, ?_, ?_, ?_, ?_, fun E K => ?run⟩
  case' run =>
    simp only [cc0_ffn_proj_eq_skeleton]; unfold cc0_ffn_proj_skel
    simp only [k0_part1_eq_skeleton, k0_part2_eq_skeleton, k0_part3_eq_skeleton, k0_part4_eq_skeleton, k0_part5_eq_skeleton]
    unfold owns
    iintro ⟨⟨%f1, %hf1, H1⟩, ⟨%f2, %hf2, H2⟩, ⟨%f6, %hf6, H6⟩, ⟨%f15, %hf15, H15⟩, ⟨%f16, %hf16, H16⟩, ⟨%f17, %hf17, H17⟩, ⟨%f18, %hf18, H18⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, Hk⟩
    obtain rfl := harg1.eq_unread hf1; obtain rfl := harg2.eq_unread hf2; obtain rfl := harg6.eq_unread hf6; obtain rfl := harg15.eq_unread hf15; obtain rfl := harg16.eq_unread hf16; obtain rfl := harg17.eq_unread hf17; obtain rfl := harg18.eq_unread hf18
    sl_exec (disch := first | sl_exact hc0 | sl_exact hc1)
    sl_step
    iapply Hk
    isplitl [H1]
    · iexists _; isplitr; · ipureintro; exact harg1.read_unread _
      iexact H1
    isplitl [H2]
    · iexists _; isplitr; · ipureintro; exact harg2.read_unread _
      iexact H2
    isplitl [H6]
    · iexists _; isplitr; · ipureintro; exact harg6.read_unread _
      iexact H6
    isplitl [H15]
    · iexists _; isplitr; · ipureintro; exact harg15.read_unread _
      iexact H15
    isplitl [H16]
    · iexists _; isplitr; · ipureintro; exact harg16.read_unread _
      iexact H16
    isplitl [H17]
    · iexists _; isplitr; · ipureintro; exact harg17.read_unread _
      iexact H17
    isplitl [H18]
    · iexists _; isplitr; · ipureintro; exact harg18.read_unread _
      iexact H18
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    iexists _; iexact H14

/-- A load of a rectangle of a whole buffer reads the buffer's contents there. -/
theorem readAt_ld {S : Shape} {e : EltTy} {A : Memref sig .tc .vmem S e} (h : A.IsWhole) (X : S.Idx → Elt F e) (r : Rect S) :
    View.readAt (Elt F) A.view r.toLoadRect (h.unread X) = View.ld (Val := Elt F) (e' := e) (S := S) X r :=
  funext fun x => h.readAt_unread X _ x

/-- A load of all of a whole buffer reads the buffer's contents. -/
theorem readAt_all {S : Shape} {e : EltTy} {A : Memref sig .tc .vmem S e} (h : A.IsWhole) (X : S.Idx → Elt F e) {off : Fin S.rank → ℕ} (ho : off = fun _ => 0)
    (inb : ∀ a, off a + S.size a ≤ S.size a) :
    View.readAt (Elt F) A.view (Rect.unit off S.size inb).toLoadRect (h.unread X) = X :=
  (readAt_ld h X _).trans (View.ld_unit_zero (S := S) ho inb X)

/-- The offsets of a whole-buffer load. -/
theorem zero2 : (![0, 0] : Fin 2 → ℕ) = fun _ => 0 := by funext a; fin_cases a <;> rfl

set_option maxHeartbeats 1000000 in
/-- The stores the run finds in output window 7. -/
theorem runB_8 (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S64x2816 .f32) (harg3 : arg3.IsWhole) (arg4 : Memref sig .tc .vmem S64x2816 .f32) (harg4 : arg4.IsWhole) (arg5 : Memref sig .tc .vmem S176x1024 .f32) (harg5 : arg5.IsWhole) (arg6 : Memref sig .tc .vmem S1x1024 .f32) (harg6 : arg6.IsWhole) (arg7 : Memref sig .tc .vmem S64x4096 .f32) (harg7 : arg7.IsWhole) (arg8 : Memref sig .tc .vmem S512x1024 .f32) (harg8 : arg8.IsWhole) (arg9 : Memref sig .tc .vmem S512x512 .bf16) (harg9 : arg9.IsWhole) (arg10 : Memref sig .tc .vmem S512x512 .bf16) (harg10 : arg10.IsWhole) (arg11 : Memref sig .tc .vmem S512x512 .bf16) (harg11 : arg11.IsWhole) (arg12 : Memref sig .tc .vmem S576x512 .bf16) (harg12 : arg12.IsWhole) (arg13 : Memref sig .tc .vmem S512x1024 .bf16) (harg13 : arg13.IsWhole) (arg14 : Memref sig .tc .vmem S512x1024 .bf16) (harg14 : arg14.IsWhole) (arg15 : Memref sig .tc .vmem S1024x2816 .bf16) (harg15 : arg15.IsWhole) (arg16 : Memref sig .tc .vmem S1024x2816 .bf16) (harg16 : arg16.IsWhole) (arg17 : Memref sig .tc .vmem S2816x1024 .bf16) (harg17 : arg17.IsWhole) (arg18 : Memref sig .tc .vmem S1024x4096 .bf16) (harg18 : arg18.IsWhole) (hc0 : ¬cond0_0 i) (hc1 : cond0_1 i) (x0 : Vec F S512x1024 .f32) (x1 : Vec F S1x1024 .f32) (x5 : Vec F S1x1024 .f32) (s0 : Vec F S1024x2816 .bf16) (s1 : Vec F S1024x2816 .bf16) (s2 : Vec F S2816x1024 .bf16) (s3 : Vec F S1024x4096 .bf16) :
    (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x5 s0 s1 s2 s3).1 = out8 x0 x1 s0 s1 s2 := by
  unfold runB
  dsimp only [runB.sl.r, runB.sl.r_1, runB.sl.r_2, runB.sl.r_3, runB.sl.r_4, runB.sl.r_5, runB.sl.r_6, runB.sl.r_7, runB.sl.r_8, runB.sl.r_9, runB.sl.r_10]
  rw [readAt_all harg15 s0 zero2, readAt_all harg16 s1 zero2, readAt_all harg17 s2 zero2, readAt_all harg2 x1 zero2,
    readAt_ld harg1 x0, readAt_ld harg1 x0]
  rfl

set_option maxHeartbeats 1000000 in
/-- The stores the run finds in output window 8. -/
theorem runB_9 (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S64x2816 .f32) (harg3 : arg3.IsWhole) (arg4 : Memref sig .tc .vmem S64x2816 .f32) (harg4 : arg4.IsWhole) (arg5 : Memref sig .tc .vmem S176x1024 .f32) (harg5 : arg5.IsWhole) (arg6 : Memref sig .tc .vmem S1x1024 .f32) (harg6 : arg6.IsWhole) (arg7 : Memref sig .tc .vmem S64x4096 .f32) (harg7 : arg7.IsWhole) (arg8 : Memref sig .tc .vmem S512x1024 .f32) (harg8 : arg8.IsWhole) (arg9 : Memref sig .tc .vmem S512x512 .bf16) (harg9 : arg9.IsWhole) (arg10 : Memref sig .tc .vmem S512x512 .bf16) (harg10 : arg10.IsWhole) (arg11 : Memref sig .tc .vmem S512x512 .bf16) (harg11 : arg11.IsWhole) (arg12 : Memref sig .tc .vmem S576x512 .bf16) (harg12 : arg12.IsWhole) (arg13 : Memref sig .tc .vmem S512x1024 .bf16) (harg13 : arg13.IsWhole) (arg14 : Memref sig .tc .vmem S512x1024 .bf16) (harg14 : arg14.IsWhole) (arg15 : Memref sig .tc .vmem S1024x2816 .bf16) (harg15 : arg15.IsWhole) (arg16 : Memref sig .tc .vmem S1024x2816 .bf16) (harg16 : arg16.IsWhole) (arg17 : Memref sig .tc .vmem S2816x1024 .bf16) (harg17 : arg17.IsWhole) (arg18 : Memref sig .tc .vmem S1024x4096 .bf16) (harg18 : arg18.IsWhole) (hc0 : ¬cond0_0 i) (hc1 : cond0_1 i) (x0 : Vec F S512x1024 .f32) (x1 : Vec F S1x1024 .f32) (x5 : Vec F S1x1024 .f32) (s0 : Vec F S1024x2816 .bf16) (s1 : Vec F S1024x2816 .bf16) (s2 : Vec F S2816x1024 .bf16) (s3 : Vec F S1024x4096 .bf16) :
    (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x5 s0 s1 s2 s3).2.1 = out9 x0 x1 x5 s0 s1 s2 s3 := by
  unfold runB
  dsimp only [runB.sl.r, runB.sl.r_1, runB.sl.r_2, runB.sl.r_3, runB.sl.r_4, runB.sl.r_5, runB.sl.r_6, runB.sl.r_7, runB.sl.r_8, runB.sl.r_9, runB.sl.r_10]
  rw [readAt_all harg15 s0 zero2, readAt_all harg16 s1 zero2, readAt_all harg17 s2 zero2, readAt_all harg2 x1 zero2, readAt_all harg18 s3 zero2, readAt_all harg6 x5 zero2,
    readAt_ld harg1 x0, readAt_ld harg1 x0]
  rfl

set_option maxHeartbeats 1000000 in
/-- The stores the run finds in output window 9. -/
theorem runB_10 (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S64x2816 .f32) (harg3 : arg3.IsWhole) (arg4 : Memref sig .tc .vmem S64x2816 .f32) (harg4 : arg4.IsWhole) (arg5 : Memref sig .tc .vmem S176x1024 .f32) (harg5 : arg5.IsWhole) (arg6 : Memref sig .tc .vmem S1x1024 .f32) (harg6 : arg6.IsWhole) (arg7 : Memref sig .tc .vmem S64x4096 .f32) (harg7 : arg7.IsWhole) (arg8 : Memref sig .tc .vmem S512x1024 .f32) (harg8 : arg8.IsWhole) (arg9 : Memref sig .tc .vmem S512x512 .bf16) (harg9 : arg9.IsWhole) (arg10 : Memref sig .tc .vmem S512x512 .bf16) (harg10 : arg10.IsWhole) (arg11 : Memref sig .tc .vmem S512x512 .bf16) (harg11 : arg11.IsWhole) (arg12 : Memref sig .tc .vmem S576x512 .bf16) (harg12 : arg12.IsWhole) (arg13 : Memref sig .tc .vmem S512x1024 .bf16) (harg13 : arg13.IsWhole) (arg14 : Memref sig .tc .vmem S512x1024 .bf16) (harg14 : arg14.IsWhole) (arg15 : Memref sig .tc .vmem S1024x2816 .bf16) (harg15 : arg15.IsWhole) (arg16 : Memref sig .tc .vmem S1024x2816 .bf16) (harg16 : arg16.IsWhole) (arg17 : Memref sig .tc .vmem S2816x1024 .bf16) (harg17 : arg17.IsWhole) (arg18 : Memref sig .tc .vmem S1024x4096 .bf16) (harg18 : arg18.IsWhole) (hc0 : ¬cond0_0 i) (hc1 : cond0_1 i) (x0 : Vec F S512x1024 .f32) (x1 : Vec F S1x1024 .f32) (x5 : Vec F S1x1024 .f32) (s0 : Vec F S1024x2816 .bf16) (s1 : Vec F S1024x2816 .bf16) (s2 : Vec F S2816x1024 .bf16) (s3 : Vec F S1024x4096 .bf16) :
    (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x5 s0 s1 s2 s3).2.2.1 = out10 x0 x1 x5 s0 s1 s2 s3 := by
  unfold runB
  dsimp only [runB.sl.r, runB.sl.r_1, runB.sl.r_2, runB.sl.r_3, runB.sl.r_4, runB.sl.r_5, runB.sl.r_6, runB.sl.r_7, runB.sl.r_8, runB.sl.r_9, runB.sl.r_10]
  rw [readAt_all harg15 s0 zero2, readAt_all harg16 s1 zero2, readAt_all harg17 s2 zero2, readAt_all harg2 x1 zero2, readAt_all harg18 s3 zero2, readAt_all harg6 x5 zero2,
    readAt_ld harg1 x0, readAt_ld harg1 x0]
  rfl

set_option maxHeartbeats 1000000 in
/-- The stores the run finds in output window 10. -/
theorem runB_11 (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S64x2816 .f32) (harg3 : arg3.IsWhole) (arg4 : Memref sig .tc .vmem S64x2816 .f32) (harg4 : arg4.IsWhole) (arg5 : Memref sig .tc .vmem S176x1024 .f32) (harg5 : arg5.IsWhole) (arg6 : Memref sig .tc .vmem S1x1024 .f32) (harg6 : arg6.IsWhole) (arg7 : Memref sig .tc .vmem S64x4096 .f32) (harg7 : arg7.IsWhole) (arg8 : Memref sig .tc .vmem S512x1024 .f32) (harg8 : arg8.IsWhole) (arg9 : Memref sig .tc .vmem S512x512 .bf16) (harg9 : arg9.IsWhole) (arg10 : Memref sig .tc .vmem S512x512 .bf16) (harg10 : arg10.IsWhole) (arg11 : Memref sig .tc .vmem S512x512 .bf16) (harg11 : arg11.IsWhole) (arg12 : Memref sig .tc .vmem S576x512 .bf16) (harg12 : arg12.IsWhole) (arg13 : Memref sig .tc .vmem S512x1024 .bf16) (harg13 : arg13.IsWhole) (arg14 : Memref sig .tc .vmem S512x1024 .bf16) (harg14 : arg14.IsWhole) (arg15 : Memref sig .tc .vmem S1024x2816 .bf16) (harg15 : arg15.IsWhole) (arg16 : Memref sig .tc .vmem S1024x2816 .bf16) (harg16 : arg16.IsWhole) (arg17 : Memref sig .tc .vmem S2816x1024 .bf16) (harg17 : arg17.IsWhole) (arg18 : Memref sig .tc .vmem S1024x4096 .bf16) (harg18 : arg18.IsWhole) (hc0 : ¬cond0_0 i) (hc1 : cond0_1 i) (x0 : Vec F S512x1024 .f32) (x1 : Vec F S1x1024 .f32) (x5 : Vec F S1x1024 .f32) (s0 : Vec F S1024x2816 .bf16) (s1 : Vec F S1024x2816 .bf16) (s2 : Vec F S2816x1024 .bf16) (s3 : Vec F S1024x4096 .bf16) :
    (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x5 s0 s1 s2 s3).2.2.2.1 = out11 x0 x1 x5 s0 s1 s2 s3 := by
  unfold runB
  dsimp only [runB.sl.r, runB.sl.r_1, runB.sl.r_2, runB.sl.r_3, runB.sl.r_4, runB.sl.r_5, runB.sl.r_6, runB.sl.r_7, runB.sl.r_8, runB.sl.r_9, runB.sl.r_10]
  rw [readAt_all harg15 s0 zero2, readAt_all harg16 s1 zero2, readAt_all harg17 s2 zero2, readAt_all harg2 x1 zero2, readAt_all harg18 s3 zero2, readAt_all harg6 x5 zero2,
    readAt_ld harg1 x0, readAt_ld harg1 x0]
  rfl

set_option maxHeartbeats 1000000 in
/-- The stores the run finds in output window 11. -/
theorem runB_12 (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S64x2816 .f32) (harg3 : arg3.IsWhole) (arg4 : Memref sig .tc .vmem S64x2816 .f32) (harg4 : arg4.IsWhole) (arg5 : Memref sig .tc .vmem S176x1024 .f32) (harg5 : arg5.IsWhole) (arg6 : Memref sig .tc .vmem S1x1024 .f32) (harg6 : arg6.IsWhole) (arg7 : Memref sig .tc .vmem S64x4096 .f32) (harg7 : arg7.IsWhole) (arg8 : Memref sig .tc .vmem S512x1024 .f32) (harg8 : arg8.IsWhole) (arg9 : Memref sig .tc .vmem S512x512 .bf16) (harg9 : arg9.IsWhole) (arg10 : Memref sig .tc .vmem S512x512 .bf16) (harg10 : arg10.IsWhole) (arg11 : Memref sig .tc .vmem S512x512 .bf16) (harg11 : arg11.IsWhole) (arg12 : Memref sig .tc .vmem S576x512 .bf16) (harg12 : arg12.IsWhole) (arg13 : Memref sig .tc .vmem S512x1024 .bf16) (harg13 : arg13.IsWhole) (arg14 : Memref sig .tc .vmem S512x1024 .bf16) (harg14 : arg14.IsWhole) (arg15 : Memref sig .tc .vmem S1024x2816 .bf16) (harg15 : arg15.IsWhole) (arg16 : Memref sig .tc .vmem S1024x2816 .bf16) (harg16 : arg16.IsWhole) (arg17 : Memref sig .tc .vmem S2816x1024 .bf16) (harg17 : arg17.IsWhole) (arg18 : Memref sig .tc .vmem S1024x4096 .bf16) (harg18 : arg18.IsWhole) (hc0 : ¬cond0_0 i) (hc1 : cond0_1 i) (x0 : Vec F S512x1024 .f32) (x1 : Vec F S1x1024 .f32) (x5 : Vec F S1x1024 .f32) (s0 : Vec F S1024x2816 .bf16) (s1 : Vec F S1024x2816 .bf16) (s2 : Vec F S2816x1024 .bf16) (s3 : Vec F S1024x4096 .bf16) :
    (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x5 s0 s1 s2 s3).2.2.2.2.1 = out12 x0 x1 x5 s0 s1 s2 s3 := by
  unfold runB
  dsimp only [runB.sl.r, runB.sl.r_1, runB.sl.r_2, runB.sl.r_3, runB.sl.r_4, runB.sl.r_5, runB.sl.r_6, runB.sl.r_7, runB.sl.r_8, runB.sl.r_9, runB.sl.r_10]
  rw [readAt_all harg15 s0 zero2, readAt_all harg16 s1 zero2, readAt_all harg17 s2 zero2, readAt_all harg2 x1 zero2, readAt_all harg18 s3 zero2, readAt_all harg6 x5 zero2,
    readAt_ld harg1 x0, readAt_ld harg1 x0]
  rfl

set_option maxHeartbeats 1000000 in
/-- The stores the run finds in output window 12. -/
theorem runB_13 (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S64x2816 .f32) (harg3 : arg3.IsWhole) (arg4 : Memref sig .tc .vmem S64x2816 .f32) (harg4 : arg4.IsWhole) (arg5 : Memref sig .tc .vmem S176x1024 .f32) (harg5 : arg5.IsWhole) (arg6 : Memref sig .tc .vmem S1x1024 .f32) (harg6 : arg6.IsWhole) (arg7 : Memref sig .tc .vmem S64x4096 .f32) (harg7 : arg7.IsWhole) (arg8 : Memref sig .tc .vmem S512x1024 .f32) (harg8 : arg8.IsWhole) (arg9 : Memref sig .tc .vmem S512x512 .bf16) (harg9 : arg9.IsWhole) (arg10 : Memref sig .tc .vmem S512x512 .bf16) (harg10 : arg10.IsWhole) (arg11 : Memref sig .tc .vmem S512x512 .bf16) (harg11 : arg11.IsWhole) (arg12 : Memref sig .tc .vmem S576x512 .bf16) (harg12 : arg12.IsWhole) (arg13 : Memref sig .tc .vmem S512x1024 .bf16) (harg13 : arg13.IsWhole) (arg14 : Memref sig .tc .vmem S512x1024 .bf16) (harg14 : arg14.IsWhole) (arg15 : Memref sig .tc .vmem S1024x2816 .bf16) (harg15 : arg15.IsWhole) (arg16 : Memref sig .tc .vmem S1024x2816 .bf16) (harg16 : arg16.IsWhole) (arg17 : Memref sig .tc .vmem S2816x1024 .bf16) (harg17 : arg17.IsWhole) (arg18 : Memref sig .tc .vmem S1024x4096 .bf16) (harg18 : arg18.IsWhole) (hc0 : ¬cond0_0 i) (hc1 : cond0_1 i) (x0 : Vec F S512x1024 .f32) (x1 : Vec F S1x1024 .f32) (x5 : Vec F S1x1024 .f32) (s0 : Vec F S1024x2816 .bf16) (s1 : Vec F S1024x2816 .bf16) (s2 : Vec F S2816x1024 .bf16) (s3 : Vec F S1024x4096 .bf16) :
    (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x5 s0 s1 s2 s3).2.2.2.2.2.1 = out13 x0 x1 x5 s0 s1 s2 s3 := by
  unfold runB
  dsimp only [runB.sl.r, runB.sl.r_1, runB.sl.r_2, runB.sl.r_3, runB.sl.r_4, runB.sl.r_5, runB.sl.r_6, runB.sl.r_7, runB.sl.r_8, runB.sl.r_9, runB.sl.r_10]
  rw [readAt_all harg15 s0 zero2, readAt_all harg16 s1 zero2, readAt_all harg17 s2 zero2, readAt_all harg2 x1 zero2, readAt_all harg18 s3 zero2, readAt_all harg6 x5 zero2,
    readAt_ld harg1 x0, readAt_ld harg1 x0]
  rfl

set_option maxHeartbeats 1000000 in
/-- The stores the run finds in output window 13. -/
theorem runB_14 (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S64x2816 .f32) (harg3 : arg3.IsWhole) (arg4 : Memref sig .tc .vmem S64x2816 .f32) (harg4 : arg4.IsWhole) (arg5 : Memref sig .tc .vmem S176x1024 .f32) (harg5 : arg5.IsWhole) (arg6 : Memref sig .tc .vmem S1x1024 .f32) (harg6 : arg6.IsWhole) (arg7 : Memref sig .tc .vmem S64x4096 .f32) (harg7 : arg7.IsWhole) (arg8 : Memref sig .tc .vmem S512x1024 .f32) (harg8 : arg8.IsWhole) (arg9 : Memref sig .tc .vmem S512x512 .bf16) (harg9 : arg9.IsWhole) (arg10 : Memref sig .tc .vmem S512x512 .bf16) (harg10 : arg10.IsWhole) (arg11 : Memref sig .tc .vmem S512x512 .bf16) (harg11 : arg11.IsWhole) (arg12 : Memref sig .tc .vmem S576x512 .bf16) (harg12 : arg12.IsWhole) (arg13 : Memref sig .tc .vmem S512x1024 .bf16) (harg13 : arg13.IsWhole) (arg14 : Memref sig .tc .vmem S512x1024 .bf16) (harg14 : arg14.IsWhole) (arg15 : Memref sig .tc .vmem S1024x2816 .bf16) (harg15 : arg15.IsWhole) (arg16 : Memref sig .tc .vmem S1024x2816 .bf16) (harg16 : arg16.IsWhole) (arg17 : Memref sig .tc .vmem S2816x1024 .bf16) (harg17 : arg17.IsWhole) (arg18 : Memref sig .tc .vmem S1024x4096 .bf16) (harg18 : arg18.IsWhole) (hc0 : ¬cond0_0 i) (hc1 : cond0_1 i) (x0 : Vec F S512x1024 .f32) (x1 : Vec F S1x1024 .f32) (x5 : Vec F S1x1024 .f32) (s0 : Vec F S1024x2816 .bf16) (s1 : Vec F S1024x2816 .bf16) (s2 : Vec F S2816x1024 .bf16) (s3 : Vec F S1024x4096 .bf16) :
    (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x5 s0 s1 s2 s3).2.2.2.2.2.2.1 = out14 x0 x1 x5 s0 s1 s2 s3 := by
  unfold runB
  dsimp only [runB.sl.r, runB.sl.r_1, runB.sl.r_2, runB.sl.r_3, runB.sl.r_4, runB.sl.r_5, runB.sl.r_6, runB.sl.r_7, runB.sl.r_8, runB.sl.r_9, runB.sl.r_10]
  rw [readAt_all harg15 s0 zero2, readAt_all harg16 s1 zero2, readAt_all harg17 s2 zero2, readAt_all harg2 x1 zero2, readAt_all harg18 s3 zero2, readAt_all harg6 x5 zero2,
    readAt_ld harg1 x0, readAt_ld harg1 x0]
  rfl

end Cert.Kernel2Ideal.Proj

end
-- ==== Proof.ProjComputeOwns.lean ====
/- A compute point of the gated feed-forward and projection kernel, as a triple over whole buffers. -/
module

public import proofs.«01_k».proof.Proof.ProjCompute

@[expose] public section

set_option maxRecDepth 16384

noncomputable section

namespace Cert.Kernel2Ideal.Proj

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A packed statement about seven found values is a statement about any values they equal. -/
theorem unpack {A8 A9 A10 A11 A12 A13 A14 : Type*} {P : A8 → A9 → A10 → A11 → A12 → A13 → A14 → Prop}
    (R : Σ' a8, Σ' a9, Σ' a10, Σ' a11, Σ' a12, Σ' a13, { a14 // P a8 a9 a10 a11 a12 a13 a14 })
    {b8 : A8} {b9 : A9} {b10 : A10} {b11 : A11} {b12 : A12} {b13 : A13} {b14 : A14}
    (e8 : R.1 = b8) (e9 : R.2.1 = b9) (e10 : R.2.2.1 = b10) (e11 : R.2.2.2.1 = b11) (e12 : R.2.2.2.2.1 = b12)
    (e13 : R.2.2.2.2.2.1 = b13) (e14 : R.2.2.2.2.2.2.1 = b14) : P b8 b9 b10 b11 b12 b13 b14 := by
  obtain ⟨a8, a9, a10, a11, a12, a13, a14, h⟩ := R
  dsimp only at e8 e9 e10 e11 e12 e13 e14
  subst e8 e9 e10 e11 e12 e13 e14
  exact h

set_option maxHeartbeats 1000000 in
/-- A compute point's triple: with the four weights in the scratch buffers, the seven output blocks end at the values named
    in `out8` to `out14`, everything else as it was. -/
theorem tripleB (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S64x2816 .f32) (harg3 : arg3.IsWhole) (arg4 : Memref sig .tc .vmem S64x2816 .f32) (harg4 : arg4.IsWhole) (arg5 : Memref sig .tc .vmem S176x1024 .f32) (harg5 : arg5.IsWhole) (arg6 : Memref sig .tc .vmem S1x1024 .f32) (harg6 : arg6.IsWhole) (arg7 : Memref sig .tc .vmem S64x4096 .f32) (harg7 : arg7.IsWhole) (arg8 : Memref sig .tc .vmem S512x1024 .f32) (harg8 : arg8.IsWhole) (arg9 : Memref sig .tc .vmem S512x512 .bf16) (harg9 : arg9.IsWhole) (arg10 : Memref sig .tc .vmem S512x512 .bf16) (harg10 : arg10.IsWhole) (arg11 : Memref sig .tc .vmem S512x512 .bf16) (harg11 : arg11.IsWhole) (arg12 : Memref sig .tc .vmem S576x512 .bf16) (harg12 : arg12.IsWhole) (arg13 : Memref sig .tc .vmem S512x1024 .bf16) (harg13 : arg13.IsWhole) (arg14 : Memref sig .tc .vmem S512x1024 .bf16) (harg14 : arg14.IsWhole) (arg15 : Memref sig .tc .vmem S1024x2816 .bf16) (harg15 : arg15.IsWhole) (arg16 : Memref sig .tc .vmem S1024x2816 .bf16) (harg16 : arg16.IsWhole) (arg17 : Memref sig .tc .vmem S2816x1024 .bf16) (harg17 : arg17.IsWhole) (arg18 : Memref sig .tc .vmem S1024x4096 .bf16) (harg18 : arg18.IsWhole) (hc0 : ¬cond0_0 i) (hc1 : cond0_1 i)
    (x0 : Vec F S512x1024 .f32) (x1 : Vec F S1x1024 .f32) (x5 : Vec F S1x1024 .f32) (s0 : Vec F S1024x2816 .bf16) (s1 : Vec F S1024x2816 .bf16) (s2 : Vec F S2816x1024 .bf16) (s3 : Vec F S1024x4096 .bf16) (E : Set ℕ) (K : PUnit → sProp 𝕄) :
        iprop(owns (c : Thread nD τ) arg1 fullShare x0 ∗ owns (c : Thread nD τ) arg2 fullShare x1 ∗ owns (c : Thread nD τ) arg6 fullShare x5 ∗ owns (c : Thread nD τ) arg15 fullShare s0 ∗ owns (c : Thread nD τ) arg16 fullShare s1 ∗ owns (c : Thread nD τ) arg17 fullShare s2 ∗ owns (c : Thread nD τ) arg18 fullShare s3 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg1 fullShare x0 ∗ owns (c : Thread nD τ) arg2 fullShare x1 ∗ owns (c : Thread nD τ) arg6 fullShare x5 ∗ owns (c : Thread nD τ) arg15 fullShare s0 ∗ owns (c : Thread nD τ) arg16 fullShare s1 ∗ owns (c : Thread nD τ) arg17 fullShare s2 ∗ owns (c : Thread nD τ) arg18 fullShare s3 ∗ owns (c : Thread nD τ) arg8 fullShare (View.canon (out8 x0 x1 s0 s1 s2)) ∗ owns (c : Thread nD τ) arg9 fullShare (View.canon (out9 x0 x1 x5 s0 s1 s2 s3)) ∗ owns (c : Thread nD τ) arg10 fullShare (View.canon (out10 x0 x1 x5 s0 s1 s2 s3)) ∗ owns (c : Thread nD τ) arg11 fullShare (View.canon (out11 x0 x1 x5 s0 s1 s2 s3)) ∗ owns (c : Thread nD τ) arg12 fullShare (View.canon (out12 x0 x1 x5 s0 s1 s2 s3)) ∗ owns (c : Thread nD τ) arg13 fullShare (View.canon (out13 x0 x1 x5 s0 s1 s2 s3)) ∗ owns (c : Thread nD τ) arg14 fullShare (View.canon (out14 x0 x1 x5 s0 s1 s2 s3))) -∗ K ⟨⟩))
          ⊢ wp frame (wpE (defs₀ (F := F)) Variants.none c none) E (cc0_ffn_proj i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  have h := unpack (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x5 s0 s1 s2 s3)
    (runB_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x5 s0 s1 s2 s3)
    (runB_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x5 s0 s1 s2 s3)
    (runB_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x5 s0 s1 s2 s3)
    (runB_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x5 s0 s1 s2 s3)
    (runB_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x5 s0 s1 s2 s3)
    (runB_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x5 s0 s1 s2 s3)
    (runB_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x5 s0 s1 s2 s3)
  refine BIBase.Entails.trans ?_ (h E K)
  iintro ⟨H1, H2, H6, H15, H16, H17, H18, H8, H9, H10, H11, H12, H13, H14, Hk⟩
  isplitl [H1]; · iexact H1
  isplitl [H2]; · iexact H2
  isplitl [H6]; · iexact H6
  isplitl [H15]; · iexact H15
  isplitl [H16]; · iexact H16
  isplitl [H17]; · iexact H17
  isplitl [H18]; · iexact H18
  isplitl [H8]; · iexact H8
  isplitl [H9]; · iexact H9
  isplitl [H10]; · iexact H10
  isplitl [H11]; · iexact H11
  isplitl [H12]; · iexact H12
  isplitl [H13]; · iexact H13
  isplitl [H14]; · iexact H14
  iintro ⟨H1, H2, H6, H15, H16, H17, H18, ⟨%f8, H8⟩, ⟨%f9, H9⟩, ⟨%f10, H10⟩, ⟨%f11, H11⟩, ⟨%f12, H12⟩, ⟨%f13, H13⟩, ⟨%f14, H14⟩⟩
  iapply Hk
  isplitl [H1]; · iexact H1
  isplitl [H2]; · iexact H2
  isplitl [H6]; · iexact H6
  isplitl [H15]; · iexact H15
  isplitl [H16]; · iexact H16
  isplitl [H17]; · iexact H17
  isplitl [H18]; · iexact H18
  isplitl [H8]
  · unfold owns; iexists _; isplitr; swap; · iexact H8
    ipureintro; exact View.read_writes_eq_canon _ _ _ (cover8 x0 x1 s0 s1 s2)
  isplitl [H9]
  · unfold owns; iexists _; isplitr; swap; · iexact H9
    ipureintro; exact View.read_writes_eq_canon _ _ _ (cover9 x0 x1 x5 s0 s1 s2 s3)
  isplitl [H10]
  · unfold owns; iexists _; isplitr; swap; · iexact H10
    ipureintro; exact View.read_writes_eq_canon _ _ _ (cover10 x0 x1 x5 s0 s1 s2 s3)
  isplitl [H11]
  · unfold owns; iexists _; isplitr; swap; · iexact H11
    ipureintro; exact View.read_writes_eq_canon _ _ _ (cover11 x0 x1 x5 s0 s1 s2 s3)
  isplitl [H12]
  · unfold owns; iexists _; isplitr; swap; · iexact H12
    ipureintro; exact View.read_writes_eq_canon _ _ _ (cover12 x0 x1 x5 s0 s1 s2 s3)
  isplitl [H13]
  · unfold owns; iexists _; isplitr; swap; · iexact H13
    ipureintro; exact View.read_writes_eq_canon _ _ _ (cover13 x0 x1 x5 s0 s1 s2 s3)
  unfold owns; iexists _; isplitr; swap; · iexact H14
  ipureintro; exact View.read_writes_eq_canon _ _ _ (cover14 x0 x1 x5 s0 s1 s2 s3)

end Cert.Kernel2Ideal.Proj

end
-- ==== Proof.ProjCast.lean ====
/- The points of the gated feed-forward and projection kernel that store the weights, run. -/
module

public import proofs.«01_k».proof.Proof.ProjCompute

@[expose] public section

set_option maxRecDepth 16384

noncomputable section

namespace Cert.Kernel2Ideal.Proj

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large)
set_option maxHeartbeats 1000000 in
/-- A cast point, run: each scratch buffer ends with one slab of rows stored over what it held, the inputs as they were. -/
noncomputable def runA (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S64x2816 .f32) (harg3 : arg3.IsWhole) (arg4 : Memref sig .tc .vmem S64x2816 .f32) (harg4 : arg4.IsWhole) (arg5 : Memref sig .tc .vmem S176x1024 .f32) (harg5 : arg5.IsWhole) (arg6 : Memref sig .tc .vmem S1x1024 .f32) (harg6 : arg6.IsWhole) (arg7 : Memref sig .tc .vmem S64x4096 .f32) (harg7 : arg7.IsWhole) (arg8 : Memref sig .tc .vmem S512x1024 .f32) (harg8 : arg8.IsWhole) (arg9 : Memref sig .tc .vmem S512x512 .bf16) (harg9 : arg9.IsWhole) (arg10 : Memref sig .tc .vmem S512x512 .bf16) (harg10 : arg10.IsWhole) (arg11 : Memref sig .tc .vmem S512x512 .bf16) (harg11 : arg11.IsWhole) (arg12 : Memref sig .tc .vmem S576x512 .bf16) (harg12 : arg12.IsWhole) (arg13 : Memref sig .tc .vmem S512x1024 .bf16) (harg13 : arg13.IsWhole) (arg14 : Memref sig .tc .vmem S512x1024 .bf16) (harg14 : arg14.IsWhole) (arg15 : Memref sig .tc .vmem S1024x2816 .bf16) (harg15 : arg15.IsWhole) (arg16 : Memref sig .tc .vmem S1024x2816 .bf16) (harg16 : arg16.IsWhole) (arg17 : Memref sig .tc .vmem S2816x1024 .bf16) (harg17 : arg17.IsWhole) (arg18 : Memref sig .tc .vmem S1024x4096 .bf16) (harg18 : arg18.IsWhole) (hc0 : cond0_0 i) (hc1 : ¬cond0_1 i)
    (x2 : Vec F S64x2816 .f32) (x3 : Vec F S64x2816 .f32) (x4 : Vec F S176x1024 .f32) (x6 : Vec F S64x4096 .f32) (s0 : Vec F S1024x2816 .bf16) (s1 : Vec F S1024x2816 .bf16) (s2 : Vec F S2816x1024 .bf16) (s3 : Vec F S1024x4096 .bf16) :
    Σ' (L15 : List (View.Piece (Elt F) S1024x2816 .bf16)), Σ' (L16 : List (View.Piece (Elt F) S1024x2816 .bf16)), Σ' (L17 : List (View.Piece (Elt F) S2816x1024 .bf16)), { L18 : List (View.Piece (Elt F) S1024x4096 .bf16) //
      ∀ (E : Set ℕ) (K : PUnit → sProp 𝕄),
        iprop(owns (c : Thread nD τ) arg3 fullShare x2 ∗ owns (c : Thread nD τ) arg4 fullShare x3 ∗ owns (c : Thread nD τ) arg5 fullShare x4 ∗ owns (c : Thread nD τ) arg7 fullShare x6 ∗ owns (c : Thread nD τ) arg15 fullShare s0 ∗ owns (c : Thread nD τ) arg16 fullShare s1 ∗ owns (c : Thread nD τ) arg17 fullShare s2 ∗ owns (c : Thread nD τ) arg18 fullShare s3
            ∗ (iprop(owns (c : Thread nD τ) arg3 fullShare x2 ∗ owns (c : Thread nD τ) arg4 fullShare x3 ∗ owns (c : Thread nD τ) arg5 fullShare x4 ∗ owns (c : Thread nD τ) arg7 fullShare x6 ∗ (arg15.view.loc (c : Thread nD τ) ↦[arg15.view.set]{fullShare} arg15.view.writes (Elt F) (harg15.unread s0) L15) ∗ (arg16.view.loc (c : Thread nD τ) ↦[arg16.view.set]{fullShare} arg16.view.writes (Elt F) (harg16.unread s1) L16) ∗ (arg17.view.loc (c : Thread nD τ) ↦[arg17.view.set]{fullShare} arg17.view.writes (Elt F) (harg17.unread s2) L17) ∗ (arg18.view.loc (c : Thread nD τ) ↦[arg18.view.set]{fullShare} arg18.view.writes (Elt F) (harg18.unread s3) L18)) -∗ K ⟨⟩))
          ⊢ wp frame (wpE (defs₀ (F := F)) Variants.none c none) E (cc0_ffn_proj i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, ?_, ?_, fun E K => ?run⟩
  case' run =>
    simp only [cc0_ffn_proj_eq_skeleton]; unfold cc0_ffn_proj_skel
    unfold owns
    iintro ⟨⟨%f3, %hf3, H3⟩, ⟨%f4, %hf4, H4⟩, ⟨%f5, %hf5, H5⟩, ⟨%f7, %hf7, H7⟩, ⟨%f15, %hf15, H15⟩, ⟨%f16, %hf16, H16⟩, ⟨%f17, %hf17, H17⟩, ⟨%f18, %hf18, H18⟩, Hk⟩
    obtain rfl := harg3.eq_unread hf3; obtain rfl := harg4.eq_unread hf4; obtain rfl := harg5.eq_unread hf5; obtain rfl := harg7.eq_unread hf7; obtain rfl := harg15.eq_unread hf15; obtain rfl := harg16.eq_unread hf16; obtain rfl := harg17.eq_unread hf17; obtain rfl := harg18.eq_unread hf18
    sl_exec (disch := first | sl_exact hc0 | sl_exact hc1)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H7]
    · iexists _; isplitr; · ipureintro; exact harg7.read_unread _
      iexact H7
    isplitl [H15]; · iexact H15
    isplitl [H16]; · iexact H16
    isplitl [H17]; · iexact H17
    iexact H18

/-- The slab of rows a cast point stores into scratch buffer 0. -/
def slab15 (i : grid0.Coords) (h : k0_cond1 i = 1#1) (x2 : Vec F S64x2816 .f32) : View.Piece (Elt F) S1024x2816 .bf16 :=
  ⟨Rect.unit (s := S1024x2816) (k0_off1 i) S64x2816.size (k0_off1_inb i h), k0_pay1 x2⟩

/-- The store the run finds into scratch buffer 0. -/
theorem runA_15 (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S64x2816 .f32) (harg3 : arg3.IsWhole) (arg4 : Memref sig .tc .vmem S64x2816 .f32) (harg4 : arg4.IsWhole) (arg5 : Memref sig .tc .vmem S176x1024 .f32) (harg5 : arg5.IsWhole) (arg6 : Memref sig .tc .vmem S1x1024 .f32) (harg6 : arg6.IsWhole) (arg7 : Memref sig .tc .vmem S64x4096 .f32) (harg7 : arg7.IsWhole) (arg8 : Memref sig .tc .vmem S512x1024 .f32) (harg8 : arg8.IsWhole) (arg9 : Memref sig .tc .vmem S512x512 .bf16) (harg9 : arg9.IsWhole) (arg10 : Memref sig .tc .vmem S512x512 .bf16) (harg10 : arg10.IsWhole) (arg11 : Memref sig .tc .vmem S512x512 .bf16) (harg11 : arg11.IsWhole) (arg12 : Memref sig .tc .vmem S576x512 .bf16) (harg12 : arg12.IsWhole) (arg13 : Memref sig .tc .vmem S512x1024 .bf16) (harg13 : arg13.IsWhole) (arg14 : Memref sig .tc .vmem S512x1024 .bf16) (harg14 : arg14.IsWhole) (arg15 : Memref sig .tc .vmem S1024x2816 .bf16) (harg15 : arg15.IsWhole) (arg16 : Memref sig .tc .vmem S1024x2816 .bf16) (harg16 : arg16.IsWhole) (arg17 : Memref sig .tc .vmem S2816x1024 .bf16) (harg17 : arg17.IsWhole) (arg18 : Memref sig .tc .vmem S1024x4096 .bf16) (harg18 : arg18.IsWhole) (hc0 : cond0_0 i) (hc1 : ¬cond0_1 i) (x2 : Vec F S64x2816 .f32) (x3 : Vec F S64x2816 .f32) (x4 : Vec F S176x1024 .f32) (x6 : Vec F S64x4096 .f32) (s0 : Vec F S1024x2816 .bf16) (s1 : Vec F S1024x2816 .bf16) (s2 : Vec F S2816x1024 .bf16) (s3 : Vec F S1024x4096 .bf16) :
    (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x2 x3 x4 x6 s0 s1 s2 s3).1 = [slab15 i hc0 x2] := by
  have e := readAt_all harg3 x2 zero2
  unfold runA
  dsimp only
  rw [e]
  rfl

/-- The slab of rows a cast point stores into scratch buffer 1. -/
def slab16 (i : grid0.Coords) (h : k0_cond1 i = 1#1) (x3 : Vec F S64x2816 .f32) : View.Piece (Elt F) S1024x2816 .bf16 :=
  ⟨Rect.unit (s := S1024x2816) (k0_off1 i) S64x2816.size (k0_off1_inb i h), k0_pay2 x3⟩

/-- The store the run finds into scratch buffer 1. -/
theorem runA_16 (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S64x2816 .f32) (harg3 : arg3.IsWhole) (arg4 : Memref sig .tc .vmem S64x2816 .f32) (harg4 : arg4.IsWhole) (arg5 : Memref sig .tc .vmem S176x1024 .f32) (harg5 : arg5.IsWhole) (arg6 : Memref sig .tc .vmem S1x1024 .f32) (harg6 : arg6.IsWhole) (arg7 : Memref sig .tc .vmem S64x4096 .f32) (harg7 : arg7.IsWhole) (arg8 : Memref sig .tc .vmem S512x1024 .f32) (harg8 : arg8.IsWhole) (arg9 : Memref sig .tc .vmem S512x512 .bf16) (harg9 : arg9.IsWhole) (arg10 : Memref sig .tc .vmem S512x512 .bf16) (harg10 : arg10.IsWhole) (arg11 : Memref sig .tc .vmem S512x512 .bf16) (harg11 : arg11.IsWhole) (arg12 : Memref sig .tc .vmem S576x512 .bf16) (harg12 : arg12.IsWhole) (arg13 : Memref sig .tc .vmem S512x1024 .bf16) (harg13 : arg13.IsWhole) (arg14 : Memref sig .tc .vmem S512x1024 .bf16) (harg14 : arg14.IsWhole) (arg15 : Memref sig .tc .vmem S1024x2816 .bf16) (harg15 : arg15.IsWhole) (arg16 : Memref sig .tc .vmem S1024x2816 .bf16) (harg16 : arg16.IsWhole) (arg17 : Memref sig .tc .vmem S2816x1024 .bf16) (harg17 : arg17.IsWhole) (arg18 : Memref sig .tc .vmem S1024x4096 .bf16) (harg18 : arg18.IsWhole) (hc0 : cond0_0 i) (hc1 : ¬cond0_1 i) (x2 : Vec F S64x2816 .f32) (x3 : Vec F S64x2816 .f32) (x4 : Vec F S176x1024 .f32) (x6 : Vec F S64x4096 .f32) (s0 : Vec F S1024x2816 .bf16) (s1 : Vec F S1024x2816 .bf16) (s2 : Vec F S2816x1024 .bf16) (s3 : Vec F S1024x4096 .bf16) :
    (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x2 x3 x4 x6 s0 s1 s2 s3).2.1 = [slab16 i hc0 x3] := by
  have e := readAt_all harg4 x3 zero2
  unfold runA
  dsimp only
  rw [e]
  rfl

/-- The slab of rows a cast point stores into scratch buffer 2. -/
def slab17 (i : grid0.Coords) (h : k0_cond1 i = 1#1) (x4 : Vec F S176x1024 .f32) : View.Piece (Elt F) S2816x1024 .bf16 :=
  ⟨Rect.unit (s := S2816x1024) (k0_off2 i) S176x1024.size (k0_off2_inb i h), k0_pay3 x4⟩

/-- The store the run finds into scratch buffer 2. -/
theorem runA_17 (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S64x2816 .f32) (harg3 : arg3.IsWhole) (arg4 : Memref sig .tc .vmem S64x2816 .f32) (harg4 : arg4.IsWhole) (arg5 : Memref sig .tc .vmem S176x1024 .f32) (harg5 : arg5.IsWhole) (arg6 : Memref sig .tc .vmem S1x1024 .f32) (harg6 : arg6.IsWhole) (arg7 : Memref sig .tc .vmem S64x4096 .f32) (harg7 : arg7.IsWhole) (arg8 : Memref sig .tc .vmem S512x1024 .f32) (harg8 : arg8.IsWhole) (arg9 : Memref sig .tc .vmem S512x512 .bf16) (harg9 : arg9.IsWhole) (arg10 : Memref sig .tc .vmem S512x512 .bf16) (harg10 : arg10.IsWhole) (arg11 : Memref sig .tc .vmem S512x512 .bf16) (harg11 : arg11.IsWhole) (arg12 : Memref sig .tc .vmem S576x512 .bf16) (harg12 : arg12.IsWhole) (arg13 : Memref sig .tc .vmem S512x1024 .bf16) (harg13 : arg13.IsWhole) (arg14 : Memref sig .tc .vmem S512x1024 .bf16) (harg14 : arg14.IsWhole) (arg15 : Memref sig .tc .vmem S1024x2816 .bf16) (harg15 : arg15.IsWhole) (arg16 : Memref sig .tc .vmem S1024x2816 .bf16) (harg16 : arg16.IsWhole) (arg17 : Memref sig .tc .vmem S2816x1024 .bf16) (harg17 : arg17.IsWhole) (arg18 : Memref sig .tc .vmem S1024x4096 .bf16) (harg18 : arg18.IsWhole) (hc0 : cond0_0 i) (hc1 : ¬cond0_1 i) (x2 : Vec F S64x2816 .f32) (x3 : Vec F S64x2816 .f32) (x4 : Vec F S176x1024 .f32) (x6 : Vec F S64x4096 .f32) (s0 : Vec F S1024x2816 .bf16) (s1 : Vec F S1024x2816 .bf16) (s2 : Vec F S2816x1024 .bf16) (s3 : Vec F S1024x4096 .bf16) :
    (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x2 x3 x4 x6 s0 s1 s2 s3).2.2.1 = [slab17 i hc0 x4] := by
  have e := readAt_all harg5 x4 zero2
  unfold runA
  dsimp only
  rw [e]
  rfl

/-- The slab of rows a cast point stores into scratch buffer 3. -/
def slab18 (i : grid0.Coords) (h : k0_cond1 i = 1#1) (x6 : Vec F S64x4096 .f32) : View.Piece (Elt F) S1024x4096 .bf16 :=
  ⟨Rect.unit (s := S1024x4096) (k0_off3 i) S64x4096.size (k0_off3_inb i h), k0_pay4 x6⟩

/-- The store the run finds into scratch buffer 3. -/
theorem runA_18 (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S64x2816 .f32) (harg3 : arg3.IsWhole) (arg4 : Memref sig .tc .vmem S64x2816 .f32) (harg4 : arg4.IsWhole) (arg5 : Memref sig .tc .vmem S176x1024 .f32) (harg5 : arg5.IsWhole) (arg6 : Memref sig .tc .vmem S1x1024 .f32) (harg6 : arg6.IsWhole) (arg7 : Memref sig .tc .vmem S64x4096 .f32) (harg7 : arg7.IsWhole) (arg8 : Memref sig .tc .vmem S512x1024 .f32) (harg8 : arg8.IsWhole) (arg9 : Memref sig .tc .vmem S512x512 .bf16) (harg9 : arg9.IsWhole) (arg10 : Memref sig .tc .vmem S512x512 .bf16) (harg10 : arg10.IsWhole) (arg11 : Memref sig .tc .vmem S512x512 .bf16) (harg11 : arg11.IsWhole) (arg12 : Memref sig .tc .vmem S576x512 .bf16) (harg12 : arg12.IsWhole) (arg13 : Memref sig .tc .vmem S512x1024 .bf16) (harg13 : arg13.IsWhole) (arg14 : Memref sig .tc .vmem S512x1024 .bf16) (harg14 : arg14.IsWhole) (arg15 : Memref sig .tc .vmem S1024x2816 .bf16) (harg15 : arg15.IsWhole) (arg16 : Memref sig .tc .vmem S1024x2816 .bf16) (harg16 : arg16.IsWhole) (arg17 : Memref sig .tc .vmem S2816x1024 .bf16) (harg17 : arg17.IsWhole) (arg18 : Memref sig .tc .vmem S1024x4096 .bf16) (harg18 : arg18.IsWhole) (hc0 : cond0_0 i) (hc1 : ¬cond0_1 i) (x2 : Vec F S64x2816 .f32) (x3 : Vec F S64x2816 .f32) (x4 : Vec F S176x1024 .f32) (x6 : Vec F S64x4096 .f32) (s0 : Vec F S1024x2816 .bf16) (s1 : Vec F S1024x2816 .bf16) (s2 : Vec F S2816x1024 .bf16) (s3 : Vec F S1024x4096 .bf16) :
    (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x2 x3 x4 x6 s0 s1 s2 s3).2.2.2.1 = [slab18 i hc0 x6] := by
  have e := readAt_all harg7 x6 zero2
  unfold runA
  dsimp only
  rw [e]
  rfl

set_option maxHeartbeats 1000000 in
/-- A cast point's triple: each scratch buffer ends at what it held with this point's slab written over it. -/
theorem tripleA (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S64x2816 .f32) (harg3 : arg3.IsWhole) (arg4 : Memref sig .tc .vmem S64x2816 .f32) (harg4 : arg4.IsWhole) (arg5 : Memref sig .tc .vmem S176x1024 .f32) (harg5 : arg5.IsWhole) (arg6 : Memref sig .tc .vmem S1x1024 .f32) (harg6 : arg6.IsWhole) (arg7 : Memref sig .tc .vmem S64x4096 .f32) (harg7 : arg7.IsWhole) (arg8 : Memref sig .tc .vmem S512x1024 .f32) (harg8 : arg8.IsWhole) (arg9 : Memref sig .tc .vmem S512x512 .bf16) (harg9 : arg9.IsWhole) (arg10 : Memref sig .tc .vmem S512x512 .bf16) (harg10 : arg10.IsWhole) (arg11 : Memref sig .tc .vmem S512x512 .bf16) (harg11 : arg11.IsWhole) (arg12 : Memref sig .tc .vmem S576x512 .bf16) (harg12 : arg12.IsWhole) (arg13 : Memref sig .tc .vmem S512x1024 .bf16) (harg13 : arg13.IsWhole) (arg14 : Memref sig .tc .vmem S512x1024 .bf16) (harg14 : arg14.IsWhole) (arg15 : Memref sig .tc .vmem S1024x2816 .bf16) (harg15 : arg15.IsWhole) (arg16 : Memref sig .tc .vmem S1024x2816 .bf16) (harg16 : arg16.IsWhole) (arg17 : Memref sig .tc .vmem S2816x1024 .bf16) (harg17 : arg17.IsWhole) (arg18 : Memref sig .tc .vmem S1024x4096 .bf16) (harg18 : arg18.IsWhole) (hc0 : cond0_0 i) (hc1 : ¬cond0_1 i)
    (x2 : Vec F S64x2816 .f32) (x3 : Vec F S64x2816 .f32) (x4 : Vec F S176x1024 .f32) (x6 : Vec F S64x4096 .f32) (s0 : Vec F S1024x2816 .bf16) (s1 : Vec F S1024x2816 .bf16) (s2 : Vec F S2816x1024 .bf16) (s3 : Vec F S1024x4096 .bf16) (E : Set ℕ) (K : PUnit → sProp 𝕄) :
        iprop(owns (c : Thread nD τ) arg3 fullShare x2 ∗ owns (c : Thread nD τ) arg4 fullShare x3 ∗ owns (c : Thread nD τ) arg5 fullShare x4 ∗ owns (c : Thread nD τ) arg7 fullShare x6 ∗ owns (c : Thread nD τ) arg15 fullShare s0 ∗ owns (c : Thread nD τ) arg16 fullShare s1 ∗ owns (c : Thread nD τ) arg17 fullShare s2 ∗ owns (c : Thread nD τ) arg18 fullShare s3
            ∗ (iprop(owns (c : Thread nD τ) arg3 fullShare x2 ∗ owns (c : Thread nD τ) arg4 fullShare x3 ∗ owns (c : Thread nD τ) arg5 fullShare x4 ∗ owns (c : Thread nD τ) arg7 fullShare x6 ∗ owns (c : Thread nD τ) arg15 fullShare (arg15.view.read (Elt F) (arg15.view.writes (Elt F) (harg15.unread s0) [slab15 i hc0 x2])) ∗ owns (c : Thread nD τ) arg16 fullShare (arg16.view.read (Elt F) (arg16.view.writes (Elt F) (harg16.unread s1) [slab16 i hc0 x3])) ∗ owns (c : Thread nD τ) arg17 fullShare (arg17.view.read (Elt F) (arg17.view.writes (Elt F) (harg17.unread s2) [slab17 i hc0 x4])) ∗ owns (c : Thread nD τ) arg18 fullShare (arg18.view.read (Elt F) (arg18.view.writes (Elt F) (harg18.unread s3) [slab18 i hc0 x6]))) -∗ K ⟨⟩))
          ⊢ wp frame (wpE (defs₀ (F := F)) Variants.none c none) E (cc0_ffn_proj i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  have e15 := runA_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x2 x3 x4 x6 s0 s1 s2 s3
  have e16 := runA_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x2 x3 x4 x6 s0 s1 s2 s3
  have e17 := runA_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x2 x3 x4 x6 s0 s1 s2 s3
  have e18 := runA_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x2 x3 x4 x6 s0 s1 s2 s3
  generalize runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x2 x3 x4 x6 s0 s1 s2 s3 = R at e15 e16 e17 e18
  obtain ⟨L15, L16, L17, L18, h⟩ := R
  dsimp only at e15 e16 e17 e18
  subst e15 e16 e17 e18
  refine BIBase.Entails.trans ?_ (h E K)
  iintro ⟨H3, H4, H5, H7, H15, H16, H17, H18, Hk⟩
  isplitl [H3]; · iexact H3
  isplitl [H4]; · iexact H4
  isplitl [H5]; · iexact H5
  isplitl [H7]; · iexact H7
  isplitl [H15]; · iexact H15
  isplitl [H16]; · iexact H16
  isplitl [H17]; · iexact H17
  isplitl [H18]; · iexact H18
  iintro ⟨H3, H4, H5, H7, H15, H16, H17, H18⟩
  iapply Hk
  isplitl [H3]; · iexact H3
  isplitl [H4]; · iexact H4
  isplitl [H5]; · iexact H5
  isplitl [H7]; · iexact H7
  isplitl [H15]
  · unfold owns; iexists _; isplitr; swap; · iexact H15
    ipureintro; rfl
  isplitl [H16]
  · unfold owns; iexists _; isplitr; swap; · iexact H16
    ipureintro; rfl
  isplitl [H17]
  · unfold owns; iexists _; isplitr; swap; · iexact H17
    ipureintro; rfl
  unfold owns; iexists _; isplitr; swap; · iexact H18
  ipureintro; rfl

end Cert.Kernel2Ideal.Proj

end
-- ==== Proof.ProjData.lean ====
/- The region's invariant and proof data for the gated feed-forward and projection kernel: the sixteen cast points fill the four
   scratch buffers with the weights, slab by slab, and the thirty-two compute points use them. -/
module

public import proofs.«01_k».proof.Proof.ProjComputeOwns
public import proofs.«01_k».proof.Proof.ProjCast
public import Idealize.ShloMosaic.Lib.WritesUnit

@[expose] public section

set_option maxRecDepth 16384

noncomputable section

namespace Cert.Kernel2Ideal.Proj

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The first `n` rows of a buffer are those of `W`. -/
def Filled {d : Fin 2 → ℕ} {e : EltTy} (n : ℕ) (W X : (⟨2, d⟩ : Shape).Idx → Elt F e) : Prop :=
  ∀ y, (y 0).val < n → X y = W y

/-- Storing the next slab of rows of `W` over a buffer whose first `o` rows are `W`'s extends the filled part by the slab. -/
theorem Filled.store {R C k : ℕ} {e : EltTy} {A : Memref sig .tc .vmem ⟨2, ![R, C]⟩ e} {W X : (⟨2, ![R, C]⟩ : Shape).Idx → Elt F e} {o n : ℕ}
    (h : A.IsWhole) (hX : Filled o W X) {off : Fin 2 → ℕ} (inb : ∀ a : Fin 2, off a + (![k, C] : Fin 2 → ℕ) a ≤ (![R, C] : Fin 2 → ℕ) a)
    (w : (⟨2, ![k, C]⟩ : Shape).Idx → Elt F e) (hoff : off = ![o, 0]) (hn : n = o + k)
    (hw : ∀ (a : Fin k) (b : Fin C) (hr : o + a.val < R), w (ix2 a b) = W (ix2 ⟨o + a.val, hr⟩ b)) :
    Filled n W (A.view.read (Elt F) (A.view.writes (Elt F) (h.unread X) [⟨Rect.unit (s := ⟨2, ![R, C]⟩) off ![k, C] inb, w⟩])) := by
  subst hn
  intro y hy
  by_cases ho : o ≤ (y 0).val
  · have hr : o + ((y 0).val - o) < R := by have h : (y 0).val < R := (y 0).isLt; omega
    refine (View.read_writes_cons_rows_of_mem A.view (h.unread X) inb w [] y
      (ix2 (⟨(y 0).val - o, by omega⟩ : Fin k) (⟨(y 1).val, (y 1).isLt⟩ : Fin C)) hoff (by show (y 0).val = o + ((y 0).val - o); omega) rfl).trans ?_
    rw [hw _ _ hr]
    congr 1
    funext q
    fin_cases q
    · exact Fin.ext (by show o + ((y 0).val - o) = (y 0).val; omega)
    · rfl
  · rw [View.read_writes_cons_rows_of_not_mem A.view (h.unread X) inb w [] y hoff (W := k) rfl (by omega)]
    exact (congrFun (h.read_unread X) y).trans (hX y (by omega))

/-- What scratch buffer 0 holds after the cast points, the gate weights: row by row the slab's cast. -/
def wt0 (c : Dev nD) : Vec F S1024x2816 .bf16 := fun y =>
  k0_pay1 (iblk m c 2 ⟨(y 0).val / 64, by have h : (y 0).val < 1024 := (y 0).isLt; have hN : cfg0.N = 48 := N_0; omega⟩)
    (ix2 ⟨(y 0).val % 64, Nat.mod_lt _ (by norm_num)⟩ ⟨(y 1).val, (y 1).isLt⟩)

/-- A cast point's slab for scratch buffer 0 continues the filled rows. -/
theorem fill0 (c : Dev nD) (t : Fin cfg0.N) (ht : t.val < 16) (h1 : k0_cond1 (grid0.coords t) = 1#1) {A : Memref sig .tc .vmem S1024x2816 .bf16} (hA : A.IsWhole)
    {X : Vec F S1024x2816 .bf16} (hX : Filled (64 * t.val) (wt0 m c) X) :
    Filled (64 * (t.val + 1)) (wt0 m c) (A.view.read (Elt F) (A.view.writes (Elt F) (hA.unread X) [slab15 (grid0.coords t) h1 (iblk m c 2 t)])) := by
  refine Filled.store hA hX (k0_off1_inb (grid0.coords t) h1) (k0_pay1 (iblk m c 2 t))
    ((by decide +kernel : ∀ t : Fin grid0.N, t.val < 16 → k0_off1 (grid0.coords t) = ![64 * t.val, 0]) t ht) (by ring) ?_
  intro a b hr
  have ha : a.val < 64 := a.isLt
  have e : (⟨(64 * t.val + a.val) / 64, by have hr : 64 * t.val + a.val < 1024 := hr; have hN : cfg0.N = 48 := N_0; omega⟩ : Fin cfg0.N) = t := Fin.ext (by show (64 * t.val + a.val) / 64 = t.val; omega)
  unfold wt0
  show k0_pay1 (iblk m c 2 t) (ix2 a b) = k0_pay1 (iblk m c 2 (⟨(64 * t.val + a.val) / 64, _⟩ : Fin cfg0.N)) (ix2 (⟨(64 * t.val + a.val) % 64, _⟩ : Fin 64) b)
  rw [e]
  congr 2
  exact Fin.ext (by show a.val = (64 * t.val + a.val) % 64; omega)

/-- A buffer filled to its last row is the whole of the weights. -/
theorem full0 {c : Dev nD} {n : ℕ} (hn : 16 ≤ n) {X : Vec F S1024x2816 .bf16} (hX : Filled (64 * n) (wt0 m c) X) : X = wt0 m c :=
  funext fun y => hX y (by have h : (y 0).val < 1024 := (y 0).isLt; omega)

/-- The whole of the weights is filled to any row. -/
theorem filled0 (c : Dev nD) (n : ℕ) : Filled n (wt0 m c) (wt0 m c) := fun _ _ => rfl

/-- What scratch buffer 1 holds after the cast points, the up weights: row by row the slab's cast. -/
def wt1 (c : Dev nD) : Vec F S1024x2816 .bf16 := fun y =>
  k0_pay2 (iblk m c 3 ⟨(y 0).val / 64, by have h : (y 0).val < 1024 := (y 0).isLt; have hN : cfg0.N = 48 := N_0; omega⟩)
    (ix2 ⟨(y 0).val % 64, Nat.mod_lt _ (by norm_num)⟩ ⟨(y 1).val, (y 1).isLt⟩)

/-- A cast point's slab for scratch buffer 1 continues the filled rows. -/
theorem fill1 (c : Dev nD) (t : Fin cfg0.N) (ht : t.val < 16) (h1 : k0_cond1 (grid0.coords t) = 1#1) {A : Memref sig .tc .vmem S1024x2816 .bf16} (hA : A.IsWhole)
    {X : Vec F S1024x2816 .bf16} (hX : Filled (64 * t.val) (wt1 m c) X) :
    Filled (64 * (t.val + 1)) (wt1 m c) (A.view.read (Elt F) (A.view.writes (Elt F) (hA.unread X) [slab16 (grid0.coords t) h1 (iblk m c 3 t)])) := by
  refine Filled.store hA hX (k0_off1_inb (grid0.coords t) h1) (k0_pay2 (iblk m c 3 t))
    ((by decide +kernel : ∀ t : Fin grid0.N, t.val < 16 → k0_off1 (grid0.coords t) = ![64 * t.val, 0]) t ht) (by ring) ?_
  intro a b hr
  have ha : a.val < 64 := a.isLt
  have e : (⟨(64 * t.val + a.val) / 64, by have hr : 64 * t.val + a.val < 1024 := hr; have hN : cfg0.N = 48 := N_0; omega⟩ : Fin cfg0.N) = t := Fin.ext (by show (64 * t.val + a.val) / 64 = t.val; omega)
  unfold wt1
  show k0_pay2 (iblk m c 3 t) (ix2 a b) = k0_pay2 (iblk m c 3 (⟨(64 * t.val + a.val) / 64, _⟩ : Fin cfg0.N)) (ix2 (⟨(64 * t.val + a.val) % 64, _⟩ : Fin 64) b)
  rw [e]
  congr 2
  exact Fin.ext (by show a.val = (64 * t.val + a.val) % 64; omega)

/-- A buffer filled to its last row is the whole of the weights. -/
theorem full1 {c : Dev nD} {n : ℕ} (hn : 16 ≤ n) {X : Vec F S1024x2816 .bf16} (hX : Filled (64 * n) (wt1 m c) X) : X = wt1 m c :=
  funext fun y => hX y (by have h : (y 0).val < 1024 := (y 0).isLt; omega)

/-- The whole of the weights is filled to any row. -/
theorem filled1 (c : Dev nD) (n : ℕ) : Filled n (wt1 m c) (wt1 m c) := fun _ _ => rfl

/-- What scratch buffer 2 holds after the cast points, the down weights: row by row the slab's cast. -/
def wt2 (c : Dev nD) : Vec F S2816x1024 .bf16 := fun y =>
  k0_pay3 (iblk m c 4 ⟨(y 0).val / 176, by have h : (y 0).val < 2816 := (y 0).isLt; have hN : cfg0.N = 48 := N_0; omega⟩)
    (ix2 ⟨(y 0).val % 176, Nat.mod_lt _ (by norm_num)⟩ ⟨(y 1).val, (y 1).isLt⟩)

/-- A cast point's slab for scratch buffer 2 continues the filled rows. -/
theorem fill2 (c : Dev nD) (t : Fin cfg0.N) (ht : t.val < 16) (h1 : k0_cond1 (grid0.coords t) = 1#1) {A : Memref sig .tc .vmem S2816x1024 .bf16} (hA : A.IsWhole)
    {X : Vec F S2816x1024 .bf16} (hX : Filled (176 * t.val) (wt2 m c) X) :
    Filled (176 * (t.val + 1)) (wt2 m c) (A.view.read (Elt F) (A.view.writes (Elt F) (hA.unread X) [slab17 (grid0.coords t) h1 (iblk m c 4 t)])) := by
  refine Filled.store hA hX (k0_off2_inb (grid0.coords t) h1) (k0_pay3 (iblk m c 4 t))
    ((by decide +kernel : ∀ t : Fin grid0.N, t.val < 16 → k0_off2 (grid0.coords t) = ![176 * t.val, 0]) t ht) (by ring) ?_
  intro a b hr
  have ha : a.val < 176 := a.isLt
  have e : (⟨(176 * t.val + a.val) / 176, by have hr : 176 * t.val + a.val < 2816 := hr; have hN : cfg0.N = 48 := N_0; omega⟩ : Fin cfg0.N) = t := Fin.ext (by show (176 * t.val + a.val) / 176 = t.val; omega)
  unfold wt2
  show k0_pay3 (iblk m c 4 t) (ix2 a b) = k0_pay3 (iblk m c 4 (⟨(176 * t.val + a.val) / 176, _⟩ : Fin cfg0.N)) (ix2 (⟨(176 * t.val + a.val) % 176, _⟩ : Fin 176) b)
  rw [e]
  congr 2
  exact Fin.ext (by show a.val = (176 * t.val + a.val) % 176; omega)

/-- A buffer filled to its last row is the whole of the weights. -/
theorem full2 {c : Dev nD} {n : ℕ} (hn : 16 ≤ n) {X : Vec F S2816x1024 .bf16} (hX : Filled (176 * n) (wt2 m c) X) : X = wt2 m c :=
  funext fun y => hX y (by have h : (y 0).val < 2816 := (y 0).isLt; omega)

/-- The whole of the weights is filled to any row. -/
theorem filled2 (c : Dev nD) (n : ℕ) : Filled n (wt2 m c) (wt2 m c) := fun _ _ => rfl

/-- What scratch buffer 3 holds after the cast points, the projection weights: row by row the slab's cast. -/
def wt3 (c : Dev nD) : Vec F S1024x4096 .bf16 := fun y =>
  k0_pay4 (iblk m c 6 ⟨(y 0).val / 64, by have h : (y 0).val < 1024 := (y 0).isLt; have hN : cfg0.N = 48 := N_0; omega⟩)
    (ix2 ⟨(y 0).val % 64, Nat.mod_lt _ (by norm_num)⟩ ⟨(y 1).val, (y 1).isLt⟩)

/-- A cast point's slab for scratch buffer 3 continues the filled rows. -/
theorem fill3 (c : Dev nD) (t : Fin cfg0.N) (ht : t.val < 16) (h1 : k0_cond1 (grid0.coords t) = 1#1) {A : Memref sig .tc .vmem S1024x4096 .bf16} (hA : A.IsWhole)
    {X : Vec F S1024x4096 .bf16} (hX : Filled (64 * t.val) (wt3 m c) X) :
    Filled (64 * (t.val + 1)) (wt3 m c) (A.view.read (Elt F) (A.view.writes (Elt F) (hA.unread X) [slab18 (grid0.coords t) h1 (iblk m c 6 t)])) := by
  refine Filled.store hA hX (k0_off3_inb (grid0.coords t) h1) (k0_pay4 (iblk m c 6 t))
    ((by decide +kernel : ∀ t : Fin grid0.N, t.val < 16 → k0_off3 (grid0.coords t) = ![64 * t.val, 0]) t ht) (by ring) ?_
  intro a b hr
  have ha : a.val < 64 := a.isLt
  have e : (⟨(64 * t.val + a.val) / 64, by have hr : 64 * t.val + a.val < 1024 := hr; have hN : cfg0.N = 48 := N_0; omega⟩ : Fin cfg0.N) = t := Fin.ext (by show (64 * t.val + a.val) / 64 = t.val; omega)
  unfold wt3
  show k0_pay4 (iblk m c 6 t) (ix2 a b) = k0_pay4 (iblk m c 6 (⟨(64 * t.val + a.val) / 64, _⟩ : Fin cfg0.N)) (ix2 (⟨(64 * t.val + a.val) % 64, _⟩ : Fin 64) b)
  rw [e]
  congr 2
  exact Fin.ext (by show a.val = (64 * t.val + a.val) % 64; omega)

/-- A buffer filled to its last row is the whole of the weights. -/
theorem full3 {c : Dev nD} {n : ℕ} (hn : 16 ≤ n) {X : Vec F S1024x4096 .bf16} (hX : Filled (64 * n) (wt3 m c) X) : X = wt3 m c :=
  funext fun y => hX y (by have h : (y 0).val < 1024 := (y 0).isLt; omega)

/-- The whole of the weights is filled to any row. -/
theorem filled3 (c : Dev nD) (n : ℕ) : Filled n (wt3 m c) (wt3 m c) := fun _ _ => rfl

/-- The invariant before point `n`: each scratch buffer's first `n` slabs of rows are the weights', and the generator register
    is at some state. -/
def PhiS (c : Dev nD) (n : ℕ) : sProp 𝕄 :=
  iprop(iprop((∃ d, ⌜Filled (64 * n) (wt0 m c) d⌝ ∗ owns (c : Thread nD τ) scM0_0 fullShare d) ∗ (∃ d, ⌜Filled (64 * n) (wt1 m c) d⌝ ∗ owns (c : Thread nD τ) scM0_1 fullShare d) ∗ (∃ d, ⌜Filled (176 * n) (wt2 m c) d⌝ ∗ owns (c : Thread nD τ) scM0_2 fullShare d) ∗ (∃ d, ⌜Filled (64 * n) (wt3 m c) d⌝ ∗ owns (c : Thread nD τ) scM0_3 fullShare d)) ∗ (∃ r, prngReg c r))

/-- What a compute point leaves in output window 7: the fed-forward rows. -/
def left7 (c : Dev nD) (t : Fin cfg0.N) : Vec F S512x1024 .f32 := View.canon (out8 (iblk m c 0 t) (iblk m c 1 t) (wt0 m c) (wt1 m c) (wt2 m c))

/-- What a compute point leaves in output window 8: the Fourier branch's projection. -/
def left8 (c : Dev nD) (t : Fin cfg0.N) : Vec F S512x512 .bf16 := View.canon (out9 (iblk m c 0 t) (iblk m c 1 t) (iblk m c 5 t) (wt0 m c) (wt1 m c) (wt2 m c) (wt3 m c))

/-- What a compute point leaves in output window 9: the scaled queries. -/
def left9 (c : Dev nD) (t : Fin cfg0.N) : Vec F S512x512 .bf16 := View.canon (out10 (iblk m c 0 t) (iblk m c 1 t) (iblk m c 5 t) (wt0 m c) (wt1 m c) (wt2 m c) (wt3 m c))

/-- What a compute point leaves in output window 10: the keys. -/
def left10 (c : Dev nD) (t : Fin cfg0.N) : Vec F S512x512 .bf16 := View.canon (out11 (iblk m c 0 t) (iblk m c 1 t) (iblk m c 5 t) (wt0 m c) (wt1 m c) (wt2 m c) (wt3 m c))

/-- What a compute point leaves in output window 11: the transposed values, each head followed by sixteen rows of ones. -/
def left11 (c : Dev nD) (t : Fin cfg0.N) : Vec F S576x512 .bf16 := View.canon (out12 (iblk m c 0 t) (iblk m c 1 t) (iblk m c 5 t) (wt0 m c) (wt1 m c) (wt2 m c) (wt3 m c))

/-- What a compute point leaves in output window 12: the first gate. -/
def left12 (c : Dev nD) (t : Fin cfg0.N) : Vec F S512x1024 .bf16 := View.canon (out13 (iblk m c 0 t) (iblk m c 1 t) (iblk m c 5 t) (wt0 m c) (wt1 m c) (wt2 m c) (wt3 m c))

/-- What a compute point leaves in output window 13: the second gate. -/
def left13 (c : Dev nD) (t : Fin cfg0.N) : Vec F S512x1024 .bf16 := View.canon (out14 (iblk m c 0 t) (iblk m c 1 t) (iblk m c 5 t) (wt0 m c) (wt1 m c) (wt2 m c) (wt3 m c))

/-- The proof data of the one pipeline on a core: the arrays as the region finds them; after a point each input's buffer at its
    block and the outputs' at what a compute point leaves; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => left7 m c t
    | ⟨8, _⟩ => left8 m c t
    | ⟨9, _⟩ => left9 m c t
    | ⟨10, _⟩ => left10 m c t
    | ⟨11, _⟩ => left11 m c t
    | ⟨12, _⟩ => left12 m c t
    | ⟨13, _⟩ => left13 m c t
  Φ t := PhiS m c t.val
  q _ := fullShare
  owed _ := 0

/-- The proof data's arrays are the region-entry contents. -/
theorem A_eq (c : Dev nD) (w : Fin cfg0.W) : (dats m 0 c).A w = V m c (Pipeline.arrRef spec0 w) := by
  dsimp only [dats]

/-! What the body leaves, window by window. -/

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = left7 m c t := by dsimp only [dats]
theorem after0_8 (c : Dev nD) (t : Fin cfg0.N) : (dats m 0 c).after 8 t = left8 m c t := by dsimp only [dats]
theorem after0_9 (c : Dev nD) (t : Fin cfg0.N) : (dats m 0 c).after 9 t = left9 m c t := by dsimp only [dats]
theorem after0_10 (c : Dev nD) (t : Fin cfg0.N) : (dats m 0 c).after 10 t = left10 m c t := by dsimp only [dats]
theorem after0_11 (c : Dev nD) (t : Fin cfg0.N) : (dats m 0 c).after 11 t = left11 m c t := by dsimp only [dats]
theorem after0_12 (c : Dev nD) (t : Fin cfg0.N) : (dats m 0 c).after 12 t = left12 m c t := by dsimp only [dats]
theorem after0_13 (c : Dev nD) (t : Fin cfg0.N) : (dats m 0 c).after 13 t = left13 m c t := by dsimp only [dats]

/-! Each input's staging buffer holds its block at every point. -/

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! No output window is written back after a cast point, and none is idle at a compute point. -/

theorem noflush7 : ∀ t : Fin cfg0.N, t.val < 16 → (cfg0.win 7).flush t = false :=
  (by decide +kernel : ∀ t : Fin grid0.N, t.val < 16 → win0_7.flush t = false)
theorem idle7 : ∀ t : Fin cfg0.N, t.val < 16 → cfg0.idle 7 (cfg0.grid.coords t) = true :=
  (by decide +kernel : ∀ t : Fin grid0.N, t.val < 16 → (!(k0_cond2 (grid0.coords t) == 1#1)) = true)
theorem live7 : ∀ t : Fin cfg0.N, 16 ≤ t.val → cfg0.idle 7 (cfg0.grid.coords t) = false :=
  (by decide +kernel : ∀ t : Fin grid0.N, 16 ≤ t.val → (!(k0_cond2 (grid0.coords t) == 1#1)) = false)
theorem noflush8 : ∀ t : Fin cfg0.N, t.val < 16 → (cfg0.win 8).flush t = false :=
  (by decide +kernel : ∀ t : Fin grid0.N, t.val < 16 → win0_8.flush t = false)
theorem idle8 : ∀ t : Fin cfg0.N, t.val < 16 → cfg0.idle 8 (cfg0.grid.coords t) = true :=
  (by decide +kernel : ∀ t : Fin grid0.N, t.val < 16 → (!(k0_cond2 (grid0.coords t) == 1#1)) = true)
theorem live8 : ∀ t : Fin cfg0.N, 16 ≤ t.val → cfg0.idle 8 (cfg0.grid.coords t) = false :=
  (by decide +kernel : ∀ t : Fin grid0.N, 16 ≤ t.val → (!(k0_cond2 (grid0.coords t) == 1#1)) = false)
theorem noflush9 : ∀ t : Fin cfg0.N, t.val < 16 → (cfg0.win 9).flush t = false :=
  (by decide +kernel : ∀ t : Fin grid0.N, t.val < 16 → win0_9.flush t = false)
theorem idle9 : ∀ t : Fin cfg0.N, t.val < 16 → cfg0.idle 9 (cfg0.grid.coords t) = true :=
  (by decide +kernel : ∀ t : Fin grid0.N, t.val < 16 → (!(k0_cond2 (grid0.coords t) == 1#1)) = true)
theorem live9 : ∀ t : Fin cfg0.N, 16 ≤ t.val → cfg0.idle 9 (cfg0.grid.coords t) = false :=
  (by decide +kernel : ∀ t : Fin grid0.N, 16 ≤ t.val → (!(k0_cond2 (grid0.coords t) == 1#1)) = false)
theorem noflush10 : ∀ t : Fin cfg0.N, t.val < 16 → (cfg0.win 10).flush t = false :=
  (by decide +kernel : ∀ t : Fin grid0.N, t.val < 16 → win0_10.flush t = false)
theorem idle10 : ∀ t : Fin cfg0.N, t.val < 16 → cfg0.idle 10 (cfg0.grid.coords t) = true :=
  (by decide +kernel : ∀ t : Fin grid0.N, t.val < 16 → (!(k0_cond2 (grid0.coords t) == 1#1)) = true)
theorem live10 : ∀ t : Fin cfg0.N, 16 ≤ t.val → cfg0.idle 10 (cfg0.grid.coords t) = false :=
  (by decide +kernel : ∀ t : Fin grid0.N, 16 ≤ t.val → (!(k0_cond2 (grid0.coords t) == 1#1)) = false)
theorem noflush11 : ∀ t : Fin cfg0.N, t.val < 16 → (cfg0.win 11).flush t = false :=
  (by decide +kernel : ∀ t : Fin grid0.N, t.val < 16 → win0_11.flush t = false)
theorem idle11 : ∀ t : Fin cfg0.N, t.val < 16 → cfg0.idle 11 (cfg0.grid.coords t) = true :=
  (by decide +kernel : ∀ t : Fin grid0.N, t.val < 16 → (!(k0_cond2 (grid0.coords t) == 1#1)) = true)
theorem live11 : ∀ t : Fin cfg0.N, 16 ≤ t.val → cfg0.idle 11 (cfg0.grid.coords t) = false :=
  (by decide +kernel : ∀ t : Fin grid0.N, 16 ≤ t.val → (!(k0_cond2 (grid0.coords t) == 1#1)) = false)
theorem noflush12 : ∀ t : Fin cfg0.N, t.val < 16 → (cfg0.win 12).flush t = false :=
  (by decide +kernel : ∀ t : Fin grid0.N, t.val < 16 → win0_12.flush t = false)
theorem idle12 : ∀ t : Fin cfg0.N, t.val < 16 → cfg0.idle 12 (cfg0.grid.coords t) = true :=
  (by decide +kernel : ∀ t : Fin grid0.N, t.val < 16 → (!(k0_cond2 (grid0.coords t) == 1#1)) = true)
theorem live12 : ∀ t : Fin cfg0.N, 16 ≤ t.val → cfg0.idle 12 (cfg0.grid.coords t) = false :=
  (by decide +kernel : ∀ t : Fin grid0.N, 16 ≤ t.val → (!(k0_cond2 (grid0.coords t) == 1#1)) = false)
theorem noflush13 : ∀ t : Fin cfg0.N, t.val < 16 → (cfg0.win 13).flush t = false :=
  (by decide +kernel : ∀ t : Fin grid0.N, t.val < 16 → win0_13.flush t = false)
theorem idle13 : ∀ t : Fin cfg0.N, t.val < 16 → cfg0.idle 13 (cfg0.grid.coords t) = true :=
  (by decide +kernel : ∀ t : Fin grid0.N, t.val < 16 → (!(k0_cond2 (grid0.coords t) == 1#1)) = true)
theorem live13 : ∀ t : Fin cfg0.N, 16 ≤ t.val → cfg0.idle 13 (cfg0.grid.coords t) = false :=
  (by decide +kernel : ∀ t : Fin grid0.N, 16 ≤ t.val → (!(k0_cond2 (grid0.coords t) == 1#1)) = false)

end Cert.Kernel2Ideal.Proj

end
-- ==== Proof.ProjFrame.lean ====
/- The gated feed-forward and projection kernel's body at every point of the grid, and the run of the whole program. -/
module

public import proofs.«01_k».proof.Proof.ProjData

@[expose] public section

set_option maxRecDepth 16384

noncomputable section

namespace Cert.Kernel2Ideal.Proj

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t)

/-! What each window is left at: a live one at the proof data's contents, an idle one as it was found. -/

theorem leaves0 (c : Dev nD) (t : Fin cfg0.N) : (dats m 0 c).leavesExact 0 t = owns (c : Thread nD τ) (ms0_0 t) fullShare (iblk m c 0 t) := by
  unfold Dat.leavesExact; rw [liveAt0_0 t, after0_0]
theorem leaves1 (c : Dev nD) (t : Fin cfg0.N) : (dats m 0 c).leavesExact 1 t = owns (c : Thread nD τ) (ms0_1 t) fullShare (iblk m c 1 t) := by
  unfold Dat.leavesExact; rw [liveAt0_1 t, after0_1]
theorem leaves2 (c : Dev nD) (t : Fin cfg0.N) : (dats m 0 c).leavesExact 2 t = owns (c : Thread nD τ) (ms0_2 t) fullShare (iblk m c 2 t) := by
  unfold Dat.leavesExact; rw [liveAt0_2 t, after0_2]
theorem leaves3 (c : Dev nD) (t : Fin cfg0.N) : (dats m 0 c).leavesExact 3 t = owns (c : Thread nD τ) (ms0_3 t) fullShare (iblk m c 3 t) := by
  unfold Dat.leavesExact; rw [liveAt0_3 t, after0_3]
theorem leaves4 (c : Dev nD) (t : Fin cfg0.N) : (dats m 0 c).leavesExact 4 t = owns (c : Thread nD τ) (ms0_4 t) fullShare (iblk m c 4 t) := by
  unfold Dat.leavesExact; rw [liveAt0_4 t, after0_4]
theorem leaves5 (c : Dev nD) (t : Fin cfg0.N) : (dats m 0 c).leavesExact 5 t = owns (c : Thread nD τ) (ms0_5 t) fullShare (iblk m c 5 t) := by
  unfold Dat.leavesExact; rw [liveAt0_5 t, after0_5]
theorem leaves6 (c : Dev nD) (t : Fin cfg0.N) : (dats m 0 c).leavesExact 6 t = owns (c : Thread nD τ) (ms0_6 t) fullShare (iblk m c 6 t) := by
  unfold Dat.leavesExact; rw [liveAt0_6 t, after0_6]
theorem leaves7 (c : Dev nD) (t : Fin cfg0.N) (ht : 16 ≤ t.val) : (dats m 0 c).leavesExact 7 t = owns (c : Thread nD τ) (ms0_7 t) fullShare (left7 m c t) := by
  unfold Dat.leavesExact; rw [live7 t ht, after0_7]
theorem rests7 (c : Dev nD) (t : Fin cfg0.N) (ht : t.val < 16) : (dats m 0 c).leavesExact 7 t = iprop(∃ d, owns (c : Thread nD τ) (ms0_7 t) fullShare ((dats m 0 c).before 7 t d)) :=
  Dat.leavesExact_idle _ 7 t (idle7 t ht) (noflush7 t ht)
theorem leaves8 (c : Dev nD) (t : Fin cfg0.N) (ht : 16 ≤ t.val) : (dats m 0 c).leavesExact 8 t = owns (c : Thread nD τ) (ms0_8 t) fullShare (left8 m c t) := by
  unfold Dat.leavesExact; rw [live8 t ht, after0_8]
theorem rests8 (c : Dev nD) (t : Fin cfg0.N) (ht : t.val < 16) : (dats m 0 c).leavesExact 8 t = iprop(∃ d, owns (c : Thread nD τ) (ms0_8 t) fullShare ((dats m 0 c).before 8 t d)) :=
  Dat.leavesExact_idle _ 8 t (idle8 t ht) (noflush8 t ht)
theorem leaves9 (c : Dev nD) (t : Fin cfg0.N) (ht : 16 ≤ t.val) : (dats m 0 c).leavesExact 9 t = owns (c : Thread nD τ) (ms0_9 t) fullShare (left9 m c t) := by
  unfold Dat.leavesExact; rw [live9 t ht, after0_9]
theorem rests9 (c : Dev nD) (t : Fin cfg0.N) (ht : t.val < 16) : (dats m 0 c).leavesExact 9 t = iprop(∃ d, owns (c : Thread nD τ) (ms0_9 t) fullShare ((dats m 0 c).before 9 t d)) :=
  Dat.leavesExact_idle _ 9 t (idle9 t ht) (noflush9 t ht)
theorem leaves10 (c : Dev nD) (t : Fin cfg0.N) (ht : 16 ≤ t.val) : (dats m 0 c).leavesExact 10 t = owns (c : Thread nD τ) (ms0_10 t) fullShare (left10 m c t) := by
  unfold Dat.leavesExact; rw [live10 t ht, after0_10]
theorem rests10 (c : Dev nD) (t : Fin cfg0.N) (ht : t.val < 16) : (dats m 0 c).leavesExact 10 t = iprop(∃ d, owns (c : Thread nD τ) (ms0_10 t) fullShare ((dats m 0 c).before 10 t d)) :=
  Dat.leavesExact_idle _ 10 t (idle10 t ht) (noflush10 t ht)
theorem leaves11 (c : Dev nD) (t : Fin cfg0.N) (ht : 16 ≤ t.val) : (dats m 0 c).leavesExact 11 t = owns (c : Thread nD τ) (ms0_11 t) fullShare (left11 m c t) := by
  unfold Dat.leavesExact; rw [live11 t ht, after0_11]
theorem rests11 (c : Dev nD) (t : Fin cfg0.N) (ht : t.val < 16) : (dats m 0 c).leavesExact 11 t = iprop(∃ d, owns (c : Thread nD τ) (ms0_11 t) fullShare ((dats m 0 c).before 11 t d)) :=
  Dat.leavesExact_idle _ 11 t (idle11 t ht) (noflush11 t ht)
theorem leaves12 (c : Dev nD) (t : Fin cfg0.N) (ht : 16 ≤ t.val) : (dats m 0 c).leavesExact 12 t = owns (c : Thread nD τ) (ms0_12 t) fullShare (left12 m c t) := by
  unfold Dat.leavesExact; rw [live12 t ht, after0_12]
theorem rests12 (c : Dev nD) (t : Fin cfg0.N) (ht : t.val < 16) : (dats m 0 c).leavesExact 12 t = iprop(∃ d, owns (c : Thread nD τ) (ms0_12 t) fullShare ((dats m 0 c).before 12 t d)) :=
  Dat.leavesExact_idle _ 12 t (idle12 t ht) (noflush12 t ht)
theorem leaves13 (c : Dev nD) (t : Fin cfg0.N) (ht : 16 ≤ t.val) : (dats m 0 c).leavesExact 13 t = owns (c : Thread nD τ) (ms0_13 t) fullShare (left13 m c t) := by
  unfold Dat.leavesExact; rw [live13 t ht, after0_13]
theorem rests13 (c : Dev nD) (t : Fin cfg0.N) (ht : t.val < 16) : (dats m 0 c).leavesExact 13 t = iprop(∃ d, owns (c : Thread nD τ) (ms0_13 t) fullShare ((dats m 0 c).before 13 t d)) :=
  Dat.leavesExact_idle _ 13 t (idle13 t ht) (noflush13 t ht)

set_option maxHeartbeats 3200000 in
/-- The body at a cast point: one more slab of each weight is stored, the output windows stay as they were found. -/
theorem sound_cast (c : Dev nD) (t : Fin cfg0.N) (ht : t.val < 16) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl,
    show (dats m 0 c).Φ t.succ = PhiS m c (t.val + 1) from rfl,
    show (dats m 0 c).Φ t.castSucc = PhiS m c t.val from rfl]
  rw [leaves0, leaves1, leaves2, leaves3, leaves4, leaves5, leaves6]
  rw [rests7 m c t ht, rests8 m c t ht, rests9 m c t ht, rests10 m c t ht, rests11 m c t ht, rests12 m c t ht, rests13 m c t ht]
  unfold PhiS
  iintro ⟨⟨⟨⟨%s0, %hs0, HS0⟩, ⟨%s1, %hs1, HS1⟩, ⟨%s2, %hs2, HS2⟩, ⟨%s3, %hs3, HS3⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (tripleA c (grid0.coords t) _ _ _ _ _ _ _ _ _ _ _ _ _ _ _ _ _ _ _ _ _ _ _ _ _ _ _ _ _ _ _ _ _ _ _ _ ((hcond0_0 t).mpr ht) (fun h => absurd ((hcond0_1 t).mp h) (by omega))
    (iblk m c 2 t) (iblk m c 3 t) (iblk m c 4 t) (iblk m c 6 t) s0 s1 s2 s3 Set.univ _)
  isplitl [H2]; · iexact H2
  isplitl [H3]; · iexact H3
  isplitl [H4]; · iexact H4
  isplitl [H6]; · iexact H6
  isplitl [HS0]; · iexact HS0
  isplitl [HS1]; · iexact HS1
  isplitl [HS2]; · iexact HS2
  isplitl [HS3]; · iexact HS3
  iintro ⟨H2, H3, H4, H6, HS0, HS1, HS2, HS3⟩
  isplitl [HS0 HS1 HS2 HS3 Hg]
  · isplitl [HS0 HS1 HS2 HS3]
    · isplitl [HS0]
      · iexists _; isplitr; swap; · iexact HS0
        ipureintro; exact fill0 m c t ht _ _ hs0
      isplitl [HS1]
      · iexists _; isplitr; swap; · iexact HS1
        ipureintro; exact fill1 m c t ht _ _ hs1
      isplitl [HS2]
      · iexists _; isplitr; swap; · iexact HS2
        ipureintro; exact fill2 m c t ht _ _ hs2
      iexists _; isplitr; swap; · iexact HS3
      ipureintro; exact fill3 m c t ht _ _ hs3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists d7; iexact H7
  isplitl [H8]; · iexists d8; iexact H8
  isplitl [H9]; · iexists d9; iexact H9
  isplitl [H10]; · iexists d10; iexact H10
  isplitl [H11]; · iexists d11; iexact H11
  isplitl [H12]; · iexists d12; iexact H12
  iexists d13; iexact H13

set_option maxHeartbeats 3200000 in
/-- The body at a compute point: the scratch buffers hold the weights, and every output window is left at its values. -/
theorem sound_compute (c : Dev nD) (t : Fin cfg0.N) (ht : 16 ≤ t.val) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl,
    show (dats m 0 c).Φ t.succ = PhiS m c (t.val + 1) from rfl,
    show (dats m 0 c).Φ t.castSucc = PhiS m c t.val from rfl]
  rw [leaves0, leaves1, leaves2, leaves3, leaves4, leaves5, leaves6]
  rw [leaves7 m c t ht, leaves8 m c t ht, leaves9 m c t ht, leaves10 m c t ht, leaves11 m c t ht, leaves12 m c t ht, leaves13 m c t ht]
  unfold PhiS
  iintro ⟨⟨⟨⟨%s0, %hs0, HS0⟩, ⟨%s1, %hs1, HS1⟩, ⟨%s2, %hs2, HS2⟩, ⟨%s3, %hs3, HS3⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  obtain rfl := full0 m ht hs0; obtain rfl := full1 m ht hs1; obtain rfl := full2 m ht hs2; obtain rfl := full3 m ht hs3
  iapply (tripleB c (grid0.coords t) _ _ _ _ _ _ _ _ _ _ _ _ _ _ _ _ _ _ _ _ _ _ _ _ _ _ _ _ _ _ _ _ _ _ _ _ (fun h => absurd ((hcond0_0 t).mp h) (by omega)) ((hcond0_1 t).mpr ht)
    (iblk m c 0 t) (iblk m c 1 t) (iblk m c 5 t) (wt0 m c) (wt1 m c) (wt2 m c) (wt3 m c) Set.univ _)
  isplitl [H0]; · iexact H0
  isplitl [H1]; · iexact H1
  isplitl [H5]; · iexact H5
  isplitl [HS0]; · iexact HS0
  isplitl [HS1]; · iexact HS1
  isplitl [HS2]; · iexact HS2
  isplitl [HS3]; · iexact HS3
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  iintro ⟨H0, H1, H5, HS0, HS1, HS2, HS3, H7, H8, H9, H10, H11, H12, H13⟩
  isplitl [HS0 HS1 HS2 HS3 Hg]
  · isplitl [HS0 HS1 HS2 HS3]
    · isplitl [HS0]
      · iexists _; isplitr; swap; · iexact HS0
        ipureintro; exact filled0 m c _
      isplitl [HS1]
      · iexists _; isplitr; swap; · iexact HS1
        ipureintro; exact filled1 m c _
      isplitl [HS2]
      · iexists _; isplitr; swap; · iexact HS2
        ipureintro; exact filled2 m c _
      iexists _; isplitr; swap; · iexact HS3
      ipureintro; exact filled3 m c _
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- The body at any point. -/
theorem sound_body (c : Dev nD) (t : Fin cfg0.N) :
    bodyPre m c t ⊢ wp frame (wpE (defs₀ (F := F)) Variants.none c none) Set.univ (bodyAt0 t) (fun _ => bodyPost m c t) :=
  (Nat.lt_or_ge t.val 16).elim (sound_cast m c t) (sound_compute m c t)

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point: nothing is filled yet. -/
theorem hin (c : Dev nD) : Pipeline.ΦA spec0 c ⊢ (dats m 0 c).Φ 0 := by
  rw [show (dats m 0 c).Φ 0 = PhiS m c 0 from rfl, PhiA0_eq]
  unfold PhiS
  iintro ⟨⟨⟨%s0, HS0⟩, ⟨%s1, HS1⟩, ⟨%s2, HS2⟩, ⟨%s3, HS3⟩⟩, Hg⟩
  isplitl [HS0 HS1 HS2 HS3]
  · isplitl [HS0]
    · iexists s0; isplitr; swap; · iexact HS0
      ipureintro; exact fun y h => absurd h (by omega)
    isplitl [HS1]
    · iexists s1; isplitr; swap; · iexact HS1
      ipureintro; exact fun y h => absurd h (by omega)
    isplitl [HS2]
    · iexists s2; isplitr; swap; · iexact HS2
      ipureintro; exact fun y h => absurd h (by omega)
    iexists s3; isplitr; swap; · iexact HS3
    ipureintro; exact fun y h => absurd h (by omega)
  iexact Hg

/-- After the last point the invariant gives the scratch buffers back, their contents forgotten. -/
theorem hout (c : Dev nD) : (dats m 0 c).Φ (Fin.last cfg0.N) ⊢ Pipeline.ΦA spec0 c := by
  rw [show (dats m 0 c).Φ (Fin.last cfg0.N) = PhiS m c (Fin.last cfg0.N).val from rfl, PhiA0_eq]
  unfold PhiS
  iintro ⟨⟨⟨%s0, -, HS0⟩, ⟨%s1, -, HS1⟩, ⟨%s2, -, HS2⟩, ⟨%s3, -, HS3⟩⟩, Hg⟩
  isplitl [HS0 HS1 HS2 HS3]
  · isplitl [HS0]; · iexists _; iexact HS0
    isplitl [HS1]; · iexists _; iexact HS1
    isplitl [HS2]; · iexists _; iexact HS2
    iexists _; iexact HS3
  iexact Hg

variable (ρ : Dev nD → PrngReg)

set_option backward.isDefEq.respectTransparency.types false in
/-- The launch: the run terminates with every array of the pipeline at what the proof data says, and every semaphore at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The run without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The frame at any carrier: the argument arrays end as launched and every semaphore at zero. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0) ∧
      r.2.mem ((c.tc : Thread nD τ).loc main_arg1) = m ((c.tc : Thread nD τ).loc main_arg1) ∧
      r.2.mem ((c.tc : Thread nD τ).loc main_arg2) = m ((c.tc : Thread nD τ).loc main_arg2) ∧
      r.2.mem ((c.tc : Thread nD τ).loc main_arg3) = m ((c.tc : Thread nD τ).loc main_arg3) ∧
      r.2.mem ((c.tc : Thread nD τ).loc main_arg4) = m ((c.tc : Thread nD τ).loc main_arg4) ∧
      r.2.mem ((c.tc : Thread nD τ).loc main_arg5) = m ((c.tc : Thread nD τ).loc main_arg5) ∧
      r.2.mem ((c.tc : Thread nD τ).loc main_arg6) = m ((c.tc : Thread nD τ).loc main_arg6))
      ∧ r.2.sem = fun _ => 0) :=
  θ_run_and (frame_of m ρ (dats m) (A_eq m) (run_main m ρ)) ((θ_run defs _ _).mono (fun _ h => h.2) (run_main_quiescent m ρ))

end Cert.Kernel2Ideal.Proj

end
-- ==== Proof.ProjBoth.lean ====
/- The frame of the feed-forward and projection call over floats, taken from the run over any carrier: the two printed
   programs have the same text, so their body tables and their mains are equal. -/
module

public import proofs.«01_k».proof.Defs
public import proofs.«01_k».proof.Proof.ProjFrame

@[expose] public section

noncomputable section

namespace Cert.Kernel2.Proj

open Idealize.ShloMosaic Idealize.SL.Sem

variable {F : FTy → Type} [FloatOps F] [Cert.Kernel2.Facts] [Cert.Kernel2Ideal.Facts]

/-- The two programs have the same kernel body. -/
theorem body_eq : @Cert.Kernel2.cc0_ffn_proj F _ _ = @Cert.Kernel2Ideal.cc0_ffn_proj F _ _ := by
  unfold Cert.Kernel2.cc0_ffn_proj Cert.Kernel2Ideal.cc0_ffn_proj
  rfl

/-- They have the same staging buffers. -/
theorem stages_eq : Cert.Kernel2.stage0_0 = Cert.Kernel2Ideal.stage0_0 ∧
    Cert.Kernel2.stage0_1 = Cert.Kernel2Ideal.stage0_1 ∧
    Cert.Kernel2.stage0_2 = Cert.Kernel2Ideal.stage0_2 ∧
    Cert.Kernel2.stage0_3 = Cert.Kernel2Ideal.stage0_3 ∧
    Cert.Kernel2.stage0_4 = Cert.Kernel2Ideal.stage0_4 ∧
    Cert.Kernel2.stage0_5 = Cert.Kernel2Ideal.stage0_5 ∧
    Cert.Kernel2.stage0_6 = Cert.Kernel2Ideal.stage0_6 ∧
    Cert.Kernel2.stage0_7 = Cert.Kernel2Ideal.stage0_7 ∧
    Cert.Kernel2.stage0_8 = Cert.Kernel2Ideal.stage0_8 ∧
    Cert.Kernel2.stage0_9 = Cert.Kernel2Ideal.stage0_9 ∧
    Cert.Kernel2.stage0_10 = Cert.Kernel2Ideal.stage0_10 ∧
    Cert.Kernel2.stage0_11 = Cert.Kernel2Ideal.stage0_11 ∧
    Cert.Kernel2.stage0_12 = Cert.Kernel2Ideal.stage0_12 ∧
    Cert.Kernel2.stage0_13 = Cert.Kernel2Ideal.stage0_13 :=
  ⟨rfl, rfl, rfl, rfl, rfl, rfl, rfl, rfl, rfl, rfl, rfl, rfl, rfl, rfl⟩

set_option maxHeartbeats 1000000 in
/-- They run the same body at a grid point, given each window's current buffer. -/
theorem defs0_at (t : Fin Cert.Kernel2Ideal.grid0.N) (s : (w : Fin 14) → Fin (Cert.Kernel2Ideal.win0 w).nbuf) :
    Cert.Kernel2.defs₀ (F := F) .tc (0 : Fin 1) (t, s) = Cert.Kernel2Ideal.defs₀ (F := F) .tc (0 : Fin 1) (t, s) := by
  delta Cert.Kernel2.defs₀ Cert.Kernel2Ideal.defs₀ Defs.onTc
  dsimp only
  rw [body_eq]
  simp only [stages_eq]
  rfl

set_option maxHeartbeats 1000000 in
/-- They have the same body table of the kernel. -/
theorem defs0_eq : Cert.Kernel2.defs₀ (F := F) = Cert.Kernel2Ideal.defs₀ := by
  funext pr ℓ a
  cases pr with
  | tc =>
    obtain ⟨ℓ, hℓ⟩ := ℓ
    obtain rfl : ℓ = 0 := Nat.lt_one_iff.mp hℓ
    exact defs0_at a.1 a.2
  | scScalar i =>
    delta Cert.Kernel2.defs₀ Cert.Kernel2Ideal.defs₀
    simp only [Defs.onTc]
    rfl
  | scVector i j =>
    delta Cert.Kernel2.defs₀ Cert.Kernel2Ideal.defs₀
    simp only [Defs.onTc]
    rfl

/-- They have the same body table with the pipeline. -/
theorem defs_eq : Cert.Kernel2.defs (F := F) = Cert.Kernel2Ideal.defs (F := F) := by
  unfold Cert.Kernel2.defs Cert.Kernel2Ideal.defs
  rw [defs0_eq]
  rfl

/-- They have the same main. -/
theorem main_eq : Cert.Kernel2.main (F := F) = Cert.Kernel2Ideal.main (F := F) := rfl

/-- The frame over floats: the run of the one text, at this carrier. -/
theorem frame_proj_bits : Cert.quiescent_Kernel2 := fun m ρ _ => by
  rw [defs_eq, main_eq]
  exact (θ_run Cert.Kernel2Ideal.defs _ _).mono (fun _ h => h) (Cert.Kernel2Ideal.Proj.frame_any (F := Bits) m ρ)

end Cert.Kernel2.Proj

end
-- ==== Proof.ProjMath.lean ====
/- The half-step feed-forward and the projection, on one row of numbers. -/
module

public import proofs.«01_k».proof.Proof.FfnMath

@[expose] public section

noncomputable section

open Idealize.ShloMosaic
open scoped BigOperators

namespace Cert.Ffn

/-- A row with half the gated feed-forward of its norm added. -/
def fedRow (x g : Fin 1024 → EReal) (wg wu : Fin 1024 → Fin 2816 → EReal) (wd : Fin 2816 → Fin 1024 → EReal) : Fin 1024 → EReal :=
  feed x (norm x g) wg wu wd

/-- The projection of a row's norm. -/
def projRow (x g : Fin 1024 → EReal) (w : Fin 1024 → Fin 4096 → EReal) (n : Fin 4096) : EReal :=
  ∑ l, norm x g l * w l n

/-- The logistic function. -/
def gate (z : EReal) : EReal := Ideal.div 1 (1 + Ideal.exp (-z))

end Cert.Ffn

end
-- ==== Proof.ProjPays.lean ====
/- The values a compute point of the projection kernel computes, at an index. -/
module

public import proofs.«01_k».proof.Proof.ProjMath
public import proofs.«01_k».proof.Proof.ProjTerms
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.Kernel2Ideal.Proj

open Cert.Kernel2Ideal Cert.Kernel2Ideal.Gen

/-- The norm of a row, first half. -/
theorem pay11_at (v6 : FVec Ideal S256x1024 .f32) (v10 : FVec Ideal S1x1024 .f32) (a : Fin 256) (j : Fin 1024) :
    (k0_pay11 (F := Ideal) v6 v10 (ix2 a j) : EReal) = Cert.Ffn.norm (fun k => v6 (ix2 a k)) (fun k => v10 (ix2 0 k)) j := by
  unfold Cert.Ffn.norm
  pointwise [k0_pay11, k0_pay9]

/-- The norm of a row, second half. -/
theorem pay14_at (v6 : FVec Ideal S256x1024 .f32) (v10 : FVec Ideal S1x1024 .f32) (a : Fin 256) (j : Fin 1024) :
    (k0_pay14 (F := Ideal) v6 v10 (ix2 a j) : EReal) = Cert.Ffn.norm (fun k => v6 (ix2 a k)) (fun k => v10 (ix2 0 k)) j := by
  unfold Cert.Ffn.norm
  pointwise [k0_pay14, k0_pay10]

/-- The gate's rows of the first half. -/
theorem pay12_at (v6 : FVec Ideal S256x1024 .f32) (v10 : FVec Ideal S1x1024 .f32) (w : FVec Ideal S1024x2816 .bf16) (a : Fin 256) (k : Fin 2816) :
    (k0_pay12 (F := Ideal) v6 v10 w (ix2 a k) : EReal)
      = ∑ l, Cert.Ffn.norm (fun k => v6 (ix2 a k)) (fun k => v10 (ix2 0 k)) l * w (ix2 l k) := by
  unfold k0_pay12
  simp only [← pay11_at]
  generalize k0_pay11 (F := Ideal) v6 v10 = h
  pointwise []

/-- The other factor's rows of the first half. -/
theorem pay13_at (v6 : FVec Ideal S256x1024 .f32) (v10 : FVec Ideal S1x1024 .f32) (w : FVec Ideal S1024x2816 .bf16) (a : Fin 256) (k : Fin 2816) :
    (k0_pay13 (F := Ideal) v6 v10 w (ix2 a k) : EReal)
      = ∑ l, Cert.Ffn.norm (fun k => v6 (ix2 a k)) (fun k => v10 (ix2 0 k)) l * w (ix2 l k) := by
  unfold k0_pay13
  simp only [← pay11_at]
  generalize k0_pay11 (F := Ideal) v6 v10 = h
  pointwise []

/-- The fed-forward rows of the first half, from the two factors. -/
theorem pay15_at (v7 : FVec Ideal S256x1024 .f32) (v26 v28 : FVec Ideal S256x2816 .f32) (w : FVec Ideal S2816x1024 .bf16) (a : Fin 256) (j : Fin 1024) :
    (k0_pay15 (F := Ideal) v7 v26 v28 w (ix2 a j) : EReal)
      = Cert.Ffn.act (fun k => v7 (ix2 a k)) (fun k => v26 (ix2 a k)) (fun k => v28 (ix2 a k)) (fun k l => w (ix2 k l)) j := by
  unfold Cert.Ffn.act
  pointwise [k0_pay15]
  rfl

/-- The fed-forward rows of the second half, from the normed rows. -/
theorem pay16_at (v9 : FVec Ideal S256x1024 .f32) (h : FVec Ideal S256x1024 .bf16) (wg wu : FVec Ideal S1024x2816 .bf16)
    (wd : FVec Ideal S2816x1024 .bf16) (a : Fin 256) (j : Fin 1024) :
    (k0_pay16 (F := Ideal) v9 h wg wu wd (ix2 a j) : EReal)
      = Cert.Ffn.feed (fun k => v9 (ix2 a k)) (fun k => h (ix2 a k)) (fun l k => wg (ix2 l k)) (fun l k => wu (ix2 l k)) (fun k l => wd (ix2 k l)) j := by
  unfold Cert.Ffn.feed
  pointwise [k0_pay16]
  rfl

/-- The normed fed-forward rows of the first half. -/
theorem pay17_at (v7 : FVec Ideal S256x1024 .f32) (v26 v28 : FVec Ideal S256x2816 .f32) (w : FVec Ideal S2816x1024 .bf16)
    (g : FVec Ideal S1x1024 .f32) (a : Fin 256) (j : Fin 1024) :
    (k0_pay17 (F := Ideal) v7 v26 v28 w g (ix2 a j) : EReal)
      = Cert.Ffn.norm (fun k => k0_pay15 (F := Ideal) v7 v26 v28 w (ix2 a k)) (fun k => g (ix2 0 k)) j := by
  unfold k0_pay17 Cert.Ffn.norm
  generalize k0_pay15 (F := Ideal) v7 v26 v28 w = x
  pointwise []

/-- The projected rows of the first half. -/
theorem pay18_at (h : FVec Ideal S256x1024 .bf16) (w : FVec Ideal S1024x4096 .bf16) (a : Fin 256) (n : Fin 4096) :
    (k0_pay18 (F := Ideal) h w (ix2 a n) : EReal) = ∑ l, h (ix2 a l) * w (ix2 l n) := by
  pointwise [k0_pay18]

/-- The projected rows of the second half. -/
theorem pay32_at (x : FVec Ideal S256x1024 .f32) (g : FVec Ideal S1x1024 .f32) (w : FVec Ideal S1024x4096 .bf16) (a : Fin 256) (n : Fin 4096) :
    (k0_pay32 (F := Ideal) x g w (ix2 a n) : EReal)
      = Cert.Ffn.projRow (fun k => x (ix2 a k)) (fun k => g (ix2 0 k)) (fun l n => w (ix2 l n)) n := by
  unfold Cert.Ffn.projRow Cert.Ffn.norm
  pointwise [k0_pay32]

/-- A row of the upper half. -/
theorem rows0_at (x : FVec Ideal S512x1024 .f32) (a : Fin 256) (k : Fin 1024) :
    (rows0 (F := Ideal) x (ix2 a k) : EReal) = x (ix2 (⟨a.val, by omega⟩ : Fin 512) k) :=
  congrArg x (by funext i; fin_cases i <;> refine Fin.ext ?_ <;> show _ + 1 * _ = _ <;> simp)

/-- A row of the lower half. -/
theorem rows1_at (x : FVec Ideal S512x1024 .f32) (a : Fin 256) (k : Fin 1024) :
    (rows1 (F := Ideal) x (ix2 a k) : EReal) = x (ix2 (⟨256 + a.val, by omega⟩ : Fin 512) k) :=
  congrArg x (by funext i; fin_cases i <;> refine Fin.ext ?_ <;> show _ + 1 * _ = _ <;> simp)

/-- The identity casts of the rows. -/
theorem pay9_at (x : FVec Ideal S256x1024 .f32) (a : Fin 256) (k : Fin 1024) : (k0_pay9 (F := Ideal) x (ix2 a k) : EReal) = x (ix2 a k) := by
  pointwise [k0_pay9]
theorem pay10_at (x : FVec Ideal S256x1024 .f32) (a : Fin 256) (k : Fin 1024) : (k0_pay10 (F := Ideal) x (ix2 a k) : EReal) = x (ix2 a k) := by
  pointwise [k0_pay10]

/-- A row's fed-forward activations, from a point's blocks. -/
def FR (x0 : FVec Ideal S512x1024 .f32) (x1 : FVec Ideal S1x1024 .f32) (s0 s1 : FVec Ideal S1024x2816 .bf16) (s2 : FVec Ideal S2816x1024 .bf16) (r : Fin 512) : Fin 1024 → EReal :=
  Cert.Ffn.fedRow (fun k => x0 (ix2 r k)) (fun k => x1 (ix2 0 k)) (fun l k => s0 (ix2 l k)) (fun l k => s1 (ix2 l k)) (fun k l => s2 (ix2 k l))

/-- A row's projection, from a point's blocks. -/
def PR (x0 : FVec Ideal S512x1024 .f32) (x1 x5 : FVec Ideal S1x1024 .f32) (s0 s1 : FVec Ideal S1024x2816 .bf16) (s2 : FVec Ideal S2816x1024 .bf16) (s3 : FVec Ideal S1024x4096 .bf16) (r : Fin 512) : Fin 4096 → EReal :=
  Cert.Ffn.projRow (FR x0 x1 s0 s1 s2 r) (fun k => x5 (ix2 0 k)) (fun l n => s3 (ix2 l n))

/-- The fed-forward rows of the upper half. -/
theorem fed0_at (x0 : FVec Ideal S512x1024 .f32) (x1 : FVec Ideal S1x1024 .f32) (s0 s1 : FVec Ideal S1024x2816 .bf16) (s2 : FVec Ideal S2816x1024 .bf16) (a : Fin 256) (j : Fin 1024) :
    (fed0 (F := Ideal) x0 x1 s0 s1 s2 (ix2 a j) : EReal) = FR x0 x1 s0 s1 s2 (⟨a.val, by omega⟩ : Fin 512) j := by
  unfold fed0
  rw [pay15_at]
  simp only [pay12_at, pay13_at, pay9_at, rows0_at]
  rfl

/-- The fed-forward rows of the lower half. -/
theorem fed1_at (x0 : FVec Ideal S512x1024 .f32) (x1 : FVec Ideal S1x1024 .f32) (s0 s1 : FVec Ideal S1024x2816 .bf16) (s2 : FVec Ideal S2816x1024 .bf16) (a : Fin 256) (j : Fin 1024) :
    (fed1 (F := Ideal) x0 x1 s0 s1 s2 (ix2 a j) : EReal) = FR x0 x1 s0 s1 s2 (⟨256 + a.val, by omega⟩ : Fin 512) j := by
  unfold fed1
  rw [pay16_at]
  simp only [pay14_at, pay10_at, rows1_at]
  rfl

/-- The projection of the upper half. -/
theorem pr0_at (x0 : FVec Ideal S512x1024 .f32) (x1 x5 : FVec Ideal S1x1024 .f32) (s0 s1 : FVec Ideal S1024x2816 .bf16) (s2 : FVec Ideal S2816x1024 .bf16) (s3 : FVec Ideal S1024x4096 .bf16) (a : Fin 256) (n : Fin 4096) :
    (k0_pay18 (F := Ideal) (normed0 (F := Ideal) x0 x1 x5 s0 s1 s2) s3 (ix2 a n) : EReal)
      = PR x0 x1 x5 s0 s1 s2 s3 (⟨a.val, by omega⟩ : Fin 512) n := by
  rw [pay18_at]
  unfold normed0
  simp only [pay17_at]
  have e : (fun k => (k0_pay15 (F := Ideal) (k0_pay9 (F := Ideal) (rows0 (F := Ideal) x0)) (k0_pay12 (F := Ideal) (rows0 (F := Ideal) x0) x1 s0)
      (k0_pay13 (F := Ideal) (rows0 (F := Ideal) x0) x1 s1) s2 (ix2 a k) : EReal)) = FR x0 x1 s0 s1 s2 (⟨a.val, by omega⟩ : Fin 512) :=
    funext fun k => fed0_at x0 x1 s0 s1 s2 a k
  rw [e]
  rfl

/-- The projection of the lower half. -/
theorem pr1_at (x0 : FVec Ideal S512x1024 .f32) (x1 x5 : FVec Ideal S1x1024 .f32) (s0 s1 : FVec Ideal S1024x2816 .bf16) (s2 : FVec Ideal S2816x1024 .bf16) (s3 : FVec Ideal S1024x4096 .bf16) (a : Fin 256) (n : Fin 4096) :
    (k0_pay32 (F := Ideal) (fed1 (F := Ideal) x0 x1 s0 s1 s2) x5 s3 (ix2 a n) : EReal)
      = PR x0 x1 x5 s0 s1 s2 s3 (⟨256 + a.val, by omega⟩ : Fin 512) n := by
  rw [pay32_at]
  have e : (fun k => (fed1 (F := Ideal) x0 x1 s0 s1 s2 (ix2 a k) : EReal)) = FR x0 x1 s0 s1 s2 (⟨256 + a.val, by omega⟩ : Fin 512) :=
    funext fun k => fed1_at x0 x1 s0 s1 s2 a k
  rw [e]
  rfl

end Cert.Kernel2Ideal.Proj

end
-- ==== Proof.ProjCols.lean ====
/- The columns of the projection a compute point stores, at an index. -/
module

public import proofs.«01_k».proof.Proof.ProjPays

@[expose] public section

set_option maxRecDepth 16384

noncomputable section

open Idealize.ShloMosaic Idealize.ShloMosaic.TcCoe Idealize.SL.Sem
open Idealize.ShloMosaic.Pipeline (Dat)
open scoped BigOperators

namespace Cert.Kernel2Ideal.Proj

open Cert.Kernel2Ideal Cert.Kernel2Ideal.Gen

/-- The first columns, first half. -/
theorem pay19_at (h : FVec Ideal S256x1024 .bf16) (w : FVec Ideal S1024x4096 .bf16) (a : Fin 256) (j : Fin 512) :
    (k0_pay19 (F := Ideal) h w (ix2 a j) : EReal) = k0_pay18 (F := Ideal) h w (ix2 a (⟨0 + j.val, by omega⟩ : Fin 4096)) := by
  unfold k0_pay19
  generalize k0_pay18 (F := Ideal) h w = p
  pointwise []

/-- The scaled second columns, first half. -/
theorem pay20_at (h : FVec Ideal S256x1024 .bf16) (w : FVec Ideal S1024x4096 .bf16) (a : Fin 256) (j : Fin 512) :
    (k0_pay20 (F := Ideal) h w (ix2 a j) : EReal) = (k0_pay18 (F := Ideal) h w (ix2 a (⟨512 + j.val, by omega⟩ : Fin 4096)) : EReal) * Ideal.ofBits .f32 0x3E38AA3B#32 := by
  unfold k0_pay20
  generalize k0_pay18 (F := Ideal) h w = p
  pointwise []

/-- The third columns, first half. -/
theorem pay21_at (h : FVec Ideal S256x1024 .bf16) (w : FVec Ideal S1024x4096 .bf16) (a : Fin 256) (j : Fin 512) :
    (k0_pay21 (F := Ideal) h w (ix2 a j) : EReal) = k0_pay18 (F := Ideal) h w (ix2 a (⟨1024 + j.val, by omega⟩ : Fin 4096)) := by
  unfold k0_pay21
  generalize k0_pay18 (F := Ideal) h w = p
  pointwise []

/-- The values of head 0, transposed, first half. -/
theorem pay22_at (h : FVec Ideal S256x1024 .bf16) (w : FVec Ideal S1024x4096 .bf16) (d : Fin 128) (a : Fin 256) :
    (k0_pay22 (F := Ideal) h w (ix2 d a) : EReal) = k0_pay18 (F := Ideal) h w (ix2 a (⟨1536 + d.val, by omega⟩ : Fin 4096)) := by
  unfold k0_pay22
  generalize k0_pay18 (F := Ideal) h w = p
  pointwise []

/-- The values of head 1, transposed, first half. -/
theorem pay24_at (h : FVec Ideal S256x1024 .bf16) (w : FVec Ideal S1024x4096 .bf16) (d : Fin 128) (a : Fin 256) :
    (k0_pay24 (F := Ideal) h w (ix2 d a) : EReal) = k0_pay18 (F := Ideal) h w (ix2 a (⟨1664 + d.val, by omega⟩ : Fin 4096)) := by
  unfold k0_pay24
  generalize k0_pay18 (F := Ideal) h w = p
  pointwise []

/-- The values of head 2, transposed, first half. -/
theorem pay26_at (h : FVec Ideal S256x1024 .bf16) (w : FVec Ideal S1024x4096 .bf16) (d : Fin 128) (a : Fin 256) :
    (k0_pay26 (F := Ideal) h w (ix2 d a) : EReal) = k0_pay18 (F := Ideal) h w (ix2 a (⟨1792 + d.val, by omega⟩ : Fin 4096)) := by
  unfold k0_pay26
  generalize k0_pay18 (F := Ideal) h w = p
  pointwise []

/-- The values of head 3, transposed, first half. -/
theorem pay28_at (p : FVec Ideal S256x4096 .f32) (d : Fin 128) (a : Fin 256) :
    (k0_pay28 (F := Ideal) p (ix2 d a) : EReal) = p (ix2 a (⟨1920 + d.val, by omega⟩ : Fin 4096)) := by
  unfold k0_pay28
  pointwise []

/-- A gate's columns. -/
theorem pay30_at (p : FVec Ideal S256x4096 .f32) (a : Fin 256) (j : Fin 1024) :
    (k0_pay30 (F := Ideal) p (ix2 a j) : EReal) = Cert.Ffn.gate (p (ix2 a (⟨2048 + j.val, by omega⟩ : Fin 4096))) := by
  unfold k0_pay30 Cert.Ffn.gate
  pointwise []
  rfl

/-- A gate's columns. -/
theorem pay31_at (p : FVec Ideal S256x4096 .f32) (a : Fin 256) (j : Fin 1024) :
    (k0_pay31 (F := Ideal) p (ix2 a j) : EReal) = Cert.Ffn.gate (p (ix2 a (⟨3072 + j.val, by omega⟩ : Fin 4096))) := by
  unfold k0_pay31 Cert.Ffn.gate
  pointwise []
  rfl

/-- A gate's columns. -/
theorem pay7_at (p : FVec Ideal S256x4096 .f32) (a : Fin 256) (j : Fin 1024) :
    (k0_pay7 (F := Ideal) p (ix2 a j) : EReal) = Cert.Ffn.gate (p (ix2 a (⟨2048 + j.val, by omega⟩ : Fin 4096))) := by
  unfold k0_pay7 Cert.Ffn.gate
  pointwise []
  rfl

/-- A gate's columns. -/
theorem pay8_at (p : FVec Ideal S256x4096 .f32) (a : Fin 256) (j : Fin 1024) :
    (k0_pay8 (F := Ideal) p (ix2 a j) : EReal) = Cert.Ffn.gate (p (ix2 a (⟨3072 + j.val, by omega⟩ : Fin 4096))) := by
  unfold k0_pay8 Cert.Ffn.gate
  pointwise []
  rfl

/-- The first columns, second half. -/
theorem pay34_at (x : FVec Ideal S256x1024 .f32) (g : FVec Ideal S1x1024 .f32) (w : FVec Ideal S1024x4096 .bf16) (a : Fin 256) (j : Fin 512) :
    (k0_pay34 (F := Ideal) (k0_pay33 (F := Ideal) x g w) (ix2 a j) : EReal) = k0_pay32 (F := Ideal) x g w (ix2 a (⟨0 + j.val, by omega⟩ : Fin 4096)) := by
  unfold k0_pay34 k0_pay33
  generalize k0_pay32 (F := Ideal) x g w = p
  pointwise []

/-- The scaled second columns, second half. -/
theorem pay35_at (p : FVec Ideal S256x4096 .f32) (a : Fin 256) (j : Fin 512) :
    (k0_pay35 (F := Ideal) p (ix2 a j) : EReal) = (p (ix2 a (⟨512 + j.val, by omega⟩ : Fin 4096)) : EReal) * Ideal.ofBits .f32 0x3E38AA3B#32 := by
  unfold k0_pay35
  pointwise []

/-- The third columns, second half. -/
theorem pay36_at (p : FVec Ideal S256x4096 .f32) (a : Fin 256) (j : Fin 512) :
    (k0_pay36 (F := Ideal) p (ix2 a j) : EReal) = p (ix2 a (⟨1024 + j.val, by omega⟩ : Fin 4096)) := by
  unfold k0_pay36
  pointwise []

/-- The values of head 0, transposed, second half. -/
theorem pay37_at (p : FVec Ideal S256x4096 .f32) (d : Fin 128) (a : Fin 256) :
    (k0_pay37 (F := Ideal) p (ix2 d a) : EReal) = p (ix2 a (⟨1536 + d.val, by omega⟩ : Fin 4096)) := by
  unfold k0_pay37
  pointwise []

/-- The values of head 1, transposed, second half. -/
theorem pay39_at (p : FVec Ideal S256x4096 .f32) (d : Fin 128) (a : Fin 256) :
    (k0_pay39 (F := Ideal) p (ix2 d a) : EReal) = p (ix2 a (⟨1664 + d.val, by omega⟩ : Fin 4096)) := by
  unfold k0_pay39
  pointwise []

/-- The values of head 2, transposed, second half. -/
theorem pay41_at (p : FVec Ideal S256x4096 .f32) (d : Fin 128) (a : Fin 256) :
    (k0_pay41 (F := Ideal) p (ix2 d a) : EReal) = p (ix2 a (⟨1792 + d.val, by omega⟩ : Fin 4096)) := by
  unfold k0_pay41
  pointwise []

/-- The values of head 3, transposed, second half. -/
theorem pay43_at (p : FVec Ideal S256x4096 .f32) (d : Fin 128) (a : Fin 256) :
    (k0_pay5 (F := Ideal) (k0_pay43 (F := Ideal) p) (ix2 d a) : EReal) = p (ix2 a (⟨1920 + d.val, by omega⟩ : Fin 4096)) := by
  unfold k0_pay5 k0_pay43
  pointwise []

theorem pay23_at (d : Fin 16) (a : Fin 256) : (k0_pay23 (F := Ideal) (ix2 d a) : EReal) = Ideal.ofBits .bf16 0x3F80#16 := by
  pointwise [k0_pay23]

theorem pay25_at (d : Fin 16) (a : Fin 256) : (k0_pay25 (F := Ideal) (ix2 d a) : EReal) = Ideal.ofBits .bf16 0x3F80#16 := by
  pointwise [k0_pay25]

theorem pay27_at (d : Fin 16) (a : Fin 256) : (k0_pay27 (F := Ideal) (ix2 d a) : EReal) = Ideal.ofBits .bf16 0x3F80#16 := by
  pointwise [k0_pay27]

theorem pay29_at (d : Fin 16) (a : Fin 256) : (k0_pay29 (F := Ideal) (ix2 d a) : EReal) = Ideal.ofBits .bf16 0x3F80#16 := by
  pointwise [k0_pay29]

theorem pay38_at (d : Fin 16) (a : Fin 256) : (k0_pay38 (F := Ideal) (ix2 d a) : EReal) = Ideal.ofBits .bf16 0x3F80#16 := by
  pointwise [k0_pay38]

theorem pay40_at (d : Fin 16) (a : Fin 256) : (k0_pay40 (F := Ideal) (ix2 d a) : EReal) = Ideal.ofBits .bf16 0x3F80#16 := by
  pointwise [k0_pay40]

theorem pay42_at (d : Fin 16) (a : Fin 256) : (k0_pay42 (F := Ideal) (ix2 d a) : EReal) = Ideal.ofBits .bf16 0x3F80#16 := by
  pointwise [k0_pay42]

theorem pay6_at (d : Fin 16) (a : Fin 256) : (k0_pay6 (F := Ideal) (ix2 d a) : EReal) = Ideal.ofBits .bf16 0x3F80#16 := by
  pointwise [k0_pay6]

end Cert.Kernel2Ideal.Proj

end
-- ==== Proof.ProjOut.lean ====
/- What a compute point of the projection kernel leaves in its seven output blocks, at an index. -/
module

public import proofs.«01_k».proof.Proof.ProjCols
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.Kernel2Ideal.Proj

open Cert.Kernel2Ideal Cert.Kernel2Ideal.Gen

/-- The fed-forward rows. -/
theorem out8_at (x0 : FVec Ideal S512x1024 .f32) (x1 : FVec Ideal S1x1024 .f32) (s0 s1 : FVec Ideal S1024x2816 .bf16) (s2 : FVec Ideal S2816x1024 .bf16) (r : Fin 512) (j : Fin 1024) :
    (View.canon (out8 (F := Ideal) x0 x1 s0 s1 s2) (ix2 r j) : EReal) = FR x0 x1 s0 s1 s2 r j := by
  refine View.canon_eq_of_allAt _ _ _ (cover8 (F := Ideal) x0 x1 s0 s1 s2 _) ?_
  unfold out8
  refine View.allAt_cons_unit _ _ _ _ _ ?_ (View.allAt_cons_unit _ _ _ _ _ ?_ (View.allAt_nil _ _))
  · intro x hx
    obtain ⟨a, b, rfl⟩ : ∃ (a : Fin 256) (b : Fin 1024), x = ix2 a b := ⟨x 0, x 1, by funext i; fin_cases i <;> rfl⟩
    have hb : 256 + a.val < 512 := by have := a.isLt; omega
    have h0 : r.val = 256 + a.val := hx 0
    have h1 : j.val = 0 + b.val := hx 1
    obtain rfl : r = (⟨256 + a.val, hb⟩ : Fin 512) := Fin.ext (by rw [h0])
    obtain rfl : j = b := Fin.ext (h1.trans (Nat.zero_add _))
    exact fed1_at x0 x1 s0 s1 s2 a j
  · intro x hx
    obtain ⟨a, b, rfl⟩ : ∃ (a : Fin 256) (b : Fin 1024), x = ix2 a b := ⟨x 0, x 1, by funext i; fin_cases i <;> rfl⟩
    have hb : a.val < 512 := by have := a.isLt; omega
    have h0 : r.val = 0 + a.val := hx 0
    have h1 : j.val = 0 + b.val := hx 1
    obtain rfl : r = (⟨a.val, hb⟩ : Fin 512) := Fin.ext (by rw [h0]; exact Nat.zero_add _)
    obtain rfl : j = b := Fin.ext (h1.trans (Nat.zero_add _))
    exact fed0_at x0 x1 s0 s1 s2 a j

/-- The first columns. -/
theorem out9_at (x0 : FVec Ideal S512x1024 .f32) (x1 x5 : FVec Ideal S1x1024 .f32) (s0 s1 : FVec Ideal S1024x2816 .bf16) (s2 : FVec Ideal S2816x1024 .bf16) (s3 : FVec Ideal S1024x4096 .bf16) (r : Fin 512) (j : Fin 512) :
    (View.canon (out9 (F := Ideal) x0 x1 x5 s0 s1 s2 s3) (ix2 r j) : EReal) = (PR x0 x1 x5 s0 s1 s2 s3 r (⟨0 + j.val, by omega⟩ : Fin 4096)) := by
  refine View.canon_eq_of_allAt _ _ _ (cover9 (F := Ideal) x0 x1 x5 s0 s1 s2 s3 _) ?_
  unfold out9
  refine View.allAt_cons_unit _ _ _ _ _ ?_ (View.allAt_cons_unit _ _ _ _ _ ?_ (View.allAt_nil _ _))
  · intro x hx
    obtain ⟨a, b, rfl⟩ : ∃ (a : Fin 256) (b : Fin 512), x = ix2 a b := ⟨x 0, x 1, by funext i; fin_cases i <;> rfl⟩
    have hb : 256 + a.val < 512 := by have := a.isLt; omega
    have h0 : r.val = 256 + a.val := hx 0
    have h1 : j.val = 0 + b.val := hx 1
    obtain rfl : r = (⟨256 + a.val, hb⟩ : Fin 512) := Fin.ext (by rw [h0])
    obtain rfl : j = b := Fin.ext (h1.trans (Nat.zero_add _))
    exact (pay34_at _ _ _ a j).trans (pr1_at x0 x1 x5 s0 s1 s2 s3 a _)
  · intro x hx
    obtain ⟨a, b, rfl⟩ : ∃ (a : Fin 256) (b : Fin 512), x = ix2 a b := ⟨x 0, x 1, by funext i; fin_cases i <;> rfl⟩
    have hb : a.val < 512 := by have := a.isLt; omega
    have h0 : r.val = 0 + a.val := hx 0
    have h1 : j.val = 0 + b.val := hx 1
    obtain rfl : r = (⟨a.val, hb⟩ : Fin 512) := Fin.ext (by rw [h0]; exact Nat.zero_add _)
    obtain rfl : j = b := Fin.ext (h1.trans (Nat.zero_add _))
    exact (pay19_at _ _ a j).trans (pr0_at x0 x1 x5 s0 s1 s2 s3 a _)

/-- The scaled second columns. -/
theorem out10_at (x0 : FVec Ideal S512x1024 .f32) (x1 x5 : FVec Ideal S1x1024 .f32) (s0 s1 : FVec Ideal S1024x2816 .bf16) (s2 : FVec Ideal S2816x1024 .bf16) (s3 : FVec Ideal S1024x4096 .bf16) (r : Fin 512) (j : Fin 512) :
    (View.canon (out10 (F := Ideal) x0 x1 x5 s0 s1 s2 s3) (ix2 r j) : EReal) = (PR x0 x1 x5 s0 s1 s2 s3 r (⟨512 + j.val, by omega⟩ : Fin 4096)) * Ideal.ofBits .f32 0x3E38AA3B#32 := by
  refine View.canon_eq_of_allAt _ _ _ (cover10 (F := Ideal) x0 x1 x5 s0 s1 s2 s3 _) ?_
  unfold out10
  refine View.allAt_cons_unit _ _ _ _ _ ?_ (View.allAt_cons_unit _ _ _ _ _ ?_ (View.allAt_nil _ _))
  · intro x hx
    obtain ⟨a, b, rfl⟩ : ∃ (a : Fin 256) (b : Fin 512), x = ix2 a b := ⟨x 0, x 1, by funext i; fin_cases i <;> rfl⟩
    have hb : 256 + a.val < 512 := by have := a.isLt; omega
    have h0 : r.val = 256 + a.val := hx 0
    have h1 : j.val = 0 + b.val := hx 1
    obtain rfl : r = (⟨256 + a.val, hb⟩ : Fin 512) := Fin.ext (by rw [h0])
    obtain rfl : j = b := Fin.ext (h1.trans (Nat.zero_add _))
    exact (pay35_at _ a j).trans (congrArg (·  * Ideal.ofBits .f32 0x3E38AA3B#32) (pr1_at x0 x1 x5 s0 s1 s2 s3 a _))
  · intro x hx
    obtain ⟨a, b, rfl⟩ : ∃ (a : Fin 256) (b : Fin 512), x = ix2 a b := ⟨x 0, x 1, by funext i; fin_cases i <;> rfl⟩
    have hb : a.val < 512 := by have := a.isLt; omega
    have h0 : r.val = 0 + a.val := hx 0
    have h1 : j.val = 0 + b.val := hx 1
    obtain rfl : r = (⟨a.val, hb⟩ : Fin 512) := Fin.ext (by rw [h0]; exact Nat.zero_add _)
    obtain rfl : j = b := Fin.ext (h1.trans (Nat.zero_add _))
    exact (pay20_at _ _ a j).trans (congrArg (·  * Ideal.ofBits .f32 0x3E38AA3B#32) (pr0_at x0 x1 x5 s0 s1 s2 s3 a _))

/-- The third columns. -/
theorem out11_at (x0 : FVec Ideal S512x1024 .f32) (x1 x5 : FVec Ideal S1x1024 .f32) (s0 s1 : FVec Ideal S1024x2816 .bf16) (s2 : FVec Ideal S2816x1024 .bf16) (s3 : FVec Ideal S1024x4096 .bf16) (r : Fin 512) (j : Fin 512) :
    (View.canon (out11 (F := Ideal) x0 x1 x5 s0 s1 s2 s3) (ix2 r j) : EReal) = (PR x0 x1 x5 s0 s1 s2 s3 r (⟨1024 + j.val, by omega⟩ : Fin 4096)) := by
  refine View.canon_eq_of_allAt _ _ _ (cover11 (F := Ideal) x0 x1 x5 s0 s1 s2 s3 _) ?_
  unfold out11
  refine View.allAt_cons_unit _ _ _ _ _ ?_ (View.allAt_cons_unit _ _ _ _ _ ?_ (View.allAt_nil _ _))
  · intro x hx
    obtain ⟨a, b, rfl⟩ : ∃ (a : Fin 256) (b : Fin 512), x = ix2 a b := ⟨x 0, x 1, by funext i; fin_cases i <;> rfl⟩
    have hb : 256 + a.val < 512 := by have := a.isLt; omega
    have h0 : r.val = 256 + a.val := hx 0
    have h1 : j.val = 0 + b.val := hx 1
    obtain rfl : r = (⟨256 + a.val, hb⟩ : Fin 512) := Fin.ext (by rw [h0])
    obtain rfl : j = b := Fin.ext (h1.trans (Nat.zero_add _))
    exact (pay36_at _ a j).trans (pr1_at x0 x1 x5 s0 s1 s2 s3 a _)
  · intro x hx
    obtain ⟨a, b, rfl⟩ : ∃ (a : Fin 256) (b : Fin 512), x = ix2 a b := ⟨x 0, x 1, by funext i; fin_cases i <;> rfl⟩
    have hb : a.val < 512 := by have := a.isLt; omega
    have h0 : r.val = 0 + a.val := hx 0
    have h1 : j.val = 0 + b.val := hx 1
    obtain rfl : r = (⟨a.val, hb⟩ : Fin 512) := Fin.ext (by rw [h0]; exact Nat.zero_add _)
    obtain rfl : j = b := Fin.ext (h1.trans (Nat.zero_add _))
    exact (pay21_at _ _ a j).trans (pr0_at x0 x1 x5 s0 s1 s2 s3 a _)

/-- The first gate. -/
theorem out13_at (x0 : FVec Ideal S512x1024 .f32) (x1 x5 : FVec Ideal S1x1024 .f32) (s0 s1 : FVec Ideal S1024x2816 .bf16) (s2 : FVec Ideal S2816x1024 .bf16) (s3 : FVec Ideal S1024x4096 .bf16) (r : Fin 512) (j : Fin 1024) :
    (View.canon (out13 (F := Ideal) x0 x1 x5 s0 s1 s2 s3) (ix2 r j) : EReal) = Cert.Ffn.gate (PR x0 x1 x5 s0 s1 s2 s3 r (⟨2048 + j.val, by omega⟩ : Fin 4096)) := by
  refine View.canon_eq_of_allAt _ _ _ (cover13 (F := Ideal) x0 x1 x5 s0 s1 s2 s3 _) ?_
  unfold out13
  refine View.allAt_cons_unit _ _ _ _ _ ?_ (View.allAt_cons_unit _ _ _ _ _ ?_ (View.allAt_nil _ _))
  · intro x hx
    obtain ⟨a, b, rfl⟩ : ∃ (a : Fin 256) (b : Fin 1024), x = ix2 a b := ⟨x 0, x 1, by funext i; fin_cases i <;> rfl⟩
    have hb : 256 + a.val < 512 := by have := a.isLt; omega
    have h0 : r.val = 256 + a.val := hx 0
    have h1 : j.val = 0 + b.val := hx 1
    obtain rfl : r = (⟨256 + a.val, hb⟩ : Fin 512) := Fin.ext (by rw [h0])
    obtain rfl : j = b := Fin.ext (h1.trans (Nat.zero_add _))
    exact (pay7_at _ a j).trans (congrArg Cert.Ffn.gate (pr1_at x0 x1 x5 s0 s1 s2 s3 a _))
  · intro x hx
    obtain ⟨a, b, rfl⟩ : ∃ (a : Fin 256) (b : Fin 1024), x = ix2 a b := ⟨x 0, x 1, by funext i; fin_cases i <;> rfl⟩
    have hb : a.val < 512 := by have := a.isLt; omega
    have h0 : r.val = 0 + a.val := hx 0
    have h1 : j.val = 0 + b.val := hx 1
    obtain rfl : r = (⟨a.val, hb⟩ : Fin 512) := Fin.ext (by rw [h0]; exact Nat.zero_add _)
    obtain rfl : j = b := Fin.ext (h1.trans (Nat.zero_add _))
    exact (pay30_at _ a j).trans (congrArg Cert.Ffn.gate (pr0_at x0 x1 x5 s0 s1 s2 s3 a _))

/-- The second gate. -/
theorem out14_at (x0 : FVec Ideal S512x1024 .f32) (x1 x5 : FVec Ideal S1x1024 .f32) (s0 s1 : FVec Ideal S1024x2816 .bf16) (s2 : FVec Ideal S2816x1024 .bf16) (s3 : FVec Ideal S1024x4096 .bf16) (r : Fin 512) (j : Fin 1024) :
    (View.canon (out14 (F := Ideal) x0 x1 x5 s0 s1 s2 s3) (ix2 r j) : EReal) = Cert.Ffn.gate (PR x0 x1 x5 s0 s1 s2 s3 r (⟨3072 + j.val, by omega⟩ : Fin 4096)) := by
  refine View.canon_eq_of_allAt _ _ _ (cover14 (F := Ideal) x0 x1 x5 s0 s1 s2 s3 _) ?_
  unfold out14
  refine View.allAt_cons_unit _ _ _ _ _ ?_ (View.allAt_cons_unit _ _ _ _ _ ?_ (View.allAt_nil _ _))
  · intro x hx
    obtain ⟨a, b, rfl⟩ : ∃ (a : Fin 256) (b : Fin 1024), x = ix2 a b := ⟨x 0, x 1, by funext i; fin_cases i <;> rfl⟩
    have hb : 256 + a.val < 512 := by have := a.isLt; omega
    have h0 : r.val = 256 + a.val := hx 0
    have h1 : j.val = 0 + b.val := hx 1
    obtain rfl : r = (⟨256 + a.val, hb⟩ : Fin 512) := Fin.ext (by rw [h0])
    obtain rfl : j = b := Fin.ext (h1.trans (Nat.zero_add _))
    exact (pay8_at _ a j).trans (congrArg Cert.Ffn.gate (pr1_at x0 x1 x5 s0 s1 s2 s3 a _))
  · intro x hx
    obtain ⟨a, b, rfl⟩ : ∃ (a : Fin 256) (b : Fin 1024), x = ix2 a b := ⟨x 0, x 1, by funext i; fin_cases i <;> rfl⟩
    have hb : a.val < 512 := by have := a.isLt; omega
    have h0 : r.val = 0 + a.val := hx 0
    have h1 : j.val = 0 + b.val := hx 1
    obtain rfl : r = (⟨a.val, hb⟩ : Fin 512) := Fin.ext (by rw [h0]; exact Nat.zero_add _)
    obtain rfl : j = b := Fin.ext (h1.trans (Nat.zero_add _))
    exact (pay31_at _ a j).trans (congrArg Cert.Ffn.gate (pr0_at x0 x1 x5 s0 s1 s2 s3 a _))

/-- The transposed values with the rows of ones, from a point's blocks. -/
def VT (x0 : FVec Ideal S512x1024 .f32) (x1 x5 : FVec Ideal S1x1024 .f32) (s0 s1 : FVec Ideal S1024x2816 .bf16) (s2 : FVec Ideal S2816x1024 .bf16) (s3 : FVec Ideal S1024x4096 .bf16) (i : Fin 576) (r : Fin 512) : EReal :=
  if i.val % 144 < 128 then PR x0 x1 x5 s0 s1 s2 s3 r (⟨1536 + 128 * (i.val / 144) + i.val % 144, by omega⟩ : Fin 4096) else Ideal.ofBits .bf16 0x3F80#16

/-- A head's row of the transposed values. -/
theorem VT_head (x0 : FVec Ideal S512x1024 .f32) (x1 x5 : FVec Ideal S1x1024 .f32) (s0 s1 : FVec Ideal S1024x2816 .bf16) (s2 : FVec Ideal S2816x1024 .bf16) (s3 : FVec Ideal S1024x4096 .bf16) (h : ℕ) (hh : h < 4) (d : Fin 128) (r : Fin 512) (i : Fin 576) (hi : i.val = 144 * h + d.val) (n : Fin 4096) (hn : n.val = 1536 + 128 * h + d.val) :
    VT x0 x1 x5 s0 s1 s2 s3 i r = PR x0 x1 x5 s0 s1 s2 s3 r n := by
  unfold VT
  have hd := d.isLt
  rw [if_pos (by omega)]
  congr 1
  refine Fin.ext ?_
  show 1536 + 128 * (i.val / 144) + i.val % 144 = n.val
  omega

/-- A row of ones. -/
theorem VT_ones (x0 : FVec Ideal S512x1024 .f32) (x1 x5 : FVec Ideal S1x1024 .f32) (s0 s1 : FVec Ideal S1024x2816 .bf16) (s2 : FVec Ideal S2816x1024 .bf16) (s3 : FVec Ideal S1024x4096 .bf16) (h : ℕ) (hh : h < 4) (d : Fin 16) (r : Fin 512) (i : Fin 576) (hi : i.val = 144 * h + 128 + d.val) :
    VT x0 x1 x5 s0 s1 s2 s3 i r = Ideal.ofBits .bf16 0x3F80#16 := by
  unfold VT
  have hd := d.isLt
  rw [if_neg (by omega)]

/-- The transposed values and the rows of ones. -/
theorem out12_at (x0 : FVec Ideal S512x1024 .f32) (x1 x5 : FVec Ideal S1x1024 .f32) (s0 s1 : FVec Ideal S1024x2816 .bf16) (s2 : FVec Ideal S2816x1024 .bf16) (s3 : FVec Ideal S1024x4096 .bf16) (i : Fin 576) (r : Fin 512) :
    (View.canon (out12 (F := Ideal) x0 x1 x5 s0 s1 s2 s3) (ix2 i r) : EReal) = VT x0 x1 x5 s0 s1 s2 s3 i r := by
  refine View.canon_eq_of_allAt _ _ _ (cover12 (F := Ideal) x0 x1 x5 s0 s1 s2 s3 _) ?_
  unfold out12
  refine View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_nil _ _))))))))))))))))
  · intro x hx
    have h0 : i.val = 560 + (x 0).val := hx 0
    have h1 : r.val = 256 + (x 1).val := hx 1
    obtain ⟨d, a, rfl⟩ : ∃ (d : Fin 16) (a : Fin 256), x = ix2 d a := ⟨x 0, x 1, by funext i; fin_cases i <;> rfl⟩
    exact (pay6_at d a).trans (VT_ones x0 x1 x5 s0 s1 s2 s3 3 (by omega) d r i h0).symm
  · intro x hx
    have h0 : i.val = 432 + (x 0).val := hx 0
    obtain ⟨d, a, rfl⟩ : ∃ (d : Fin 128) (a : Fin 256), x = ix2 d a := ⟨x 0, x 1, by funext i; fin_cases i <;> rfl⟩
    have hb : 256 + a.val < 512 := by have := a.isLt; omega
    have h1 : r.val = 256 + a.val := hx 1
    obtain rfl : r = (⟨256 + a.val, hb⟩ : Fin 512) := Fin.ext (by rw [h1])
    exact (pay43_at _ d a).trans ((pr1_at x0 x1 x5 s0 s1 s2 s3 a _).trans (VT_head x0 x1 x5 s0 s1 s2 s3 3 (by omega) d _ i h0 _ rfl).symm)
  · intro x hx
    have h0 : i.val = 416 + (x 0).val := hx 0
    have h1 : r.val = 256 + (x 1).val := hx 1
    obtain ⟨d, a, rfl⟩ : ∃ (d : Fin 16) (a : Fin 256), x = ix2 d a := ⟨x 0, x 1, by funext i; fin_cases i <;> rfl⟩
    exact (pay42_at d a).trans (VT_ones x0 x1 x5 s0 s1 s2 s3 2 (by omega) d r i h0).symm
  · intro x hx
    have h0 : i.val = 288 + (x 0).val := hx 0
    obtain ⟨d, a, rfl⟩ : ∃ (d : Fin 128) (a : Fin 256), x = ix2 d a := ⟨x 0, x 1, by funext i; fin_cases i <;> rfl⟩
    have hb : 256 + a.val < 512 := by have := a.isLt; omega
    have h1 : r.val = 256 + a.val := hx 1
    obtain rfl : r = (⟨256 + a.val, hb⟩ : Fin 512) := Fin.ext (by rw [h1])
    exact (pay41_at _ d a).trans ((pr1_at x0 x1 x5 s0 s1 s2 s3 a _).trans (VT_head x0 x1 x5 s0 s1 s2 s3 2 (by omega) d _ i h0 _ rfl).symm)
  · intro x hx
    have h0 : i.val = 272 + (x 0).val := hx 0
    have h1 : r.val = 256 + (x 1).val := hx 1
    obtain ⟨d, a, rfl⟩ : ∃ (d : Fin 16) (a : Fin 256), x = ix2 d a := ⟨x 0, x 1, by funext i; fin_cases i <;> rfl⟩
    exact (pay40_at d a).trans (VT_ones x0 x1 x5 s0 s1 s2 s3 1 (by omega) d r i h0).symm
  · intro x hx
    have h0 : i.val = 144 + (x 0).val := hx 0
    obtain ⟨d, a, rfl⟩ : ∃ (d : Fin 128) (a : Fin 256), x = ix2 d a := ⟨x 0, x 1, by funext i; fin_cases i <;> rfl⟩
    have hb : 256 + a.val < 512 := by have := a.isLt; omega
    have h1 : r.val = 256 + a.val := hx 1
    obtain rfl : r = (⟨256 + a.val, hb⟩ : Fin 512) := Fin.ext (by rw [h1])
    exact (pay39_at _ d a).trans ((pr1_at x0 x1 x5 s0 s1 s2 s3 a _).trans (VT_head x0 x1 x5 s0 s1 s2 s3 1 (by omega) d _ i h0 _ rfl).symm)
  · intro x hx
    have h0 : i.val = 128 + (x 0).val := hx 0
    have h1 : r.val = 256 + (x 1).val := hx 1
    obtain ⟨d, a, rfl⟩ : ∃ (d : Fin 16) (a : Fin 256), x = ix2 d a := ⟨x 0, x 1, by funext i; fin_cases i <;> rfl⟩
    exact (pay38_at d a).trans (VT_ones x0 x1 x5 s0 s1 s2 s3 0 (by omega) d r i h0).symm
  · intro x hx
    have h0 : i.val = 0 + (x 0).val := hx 0
    obtain ⟨d, a, rfl⟩ : ∃ (d : Fin 128) (a : Fin 256), x = ix2 d a := ⟨x 0, x 1, by funext i; fin_cases i <;> rfl⟩
    have hb : 256 + a.val < 512 := by have := a.isLt; omega
    have h1 : r.val = 256 + a.val := hx 1
    obtain rfl : r = (⟨256 + a.val, hb⟩ : Fin 512) := Fin.ext (by rw [h1])
    exact (pay37_at _ d a).trans ((pr1_at x0 x1 x5 s0 s1 s2 s3 a _).trans (VT_head x0 x1 x5 s0 s1 s2 s3 0 (by omega) d _ i h0 _ rfl).symm)
  · intro x hx
    have h0 : i.val = 560 + (x 0).val := hx 0
    have h1 : r.val = 0 + (x 1).val := hx 1
    obtain ⟨d, a, rfl⟩ : ∃ (d : Fin 16) (a : Fin 256), x = ix2 d a := ⟨x 0, x 1, by funext i; fin_cases i <;> rfl⟩
    exact (pay29_at d a).trans (VT_ones x0 x1 x5 s0 s1 s2 s3 3 (by omega) d r i h0).symm
  · intro x hx
    have h0 : i.val = 432 + (x 0).val := hx 0
    obtain ⟨d, a, rfl⟩ : ∃ (d : Fin 128) (a : Fin 256), x = ix2 d a := ⟨x 0, x 1, by funext i; fin_cases i <;> rfl⟩
    have hb : a.val < 512 := by have := a.isLt; omega
    have h1 : r.val = 0 + a.val := hx 1
    obtain rfl : r = (⟨a.val, hb⟩ : Fin 512) := Fin.ext (by rw [h1]; exact Nat.zero_add _)
    exact (pay28_at _ d a).trans ((pr0_at x0 x1 x5 s0 s1 s2 s3 a _).trans (VT_head x0 x1 x5 s0 s1 s2 s3 3 (by omega) d _ i h0 _ rfl).symm)
  · intro x hx
    have h0 : i.val = 416 + (x 0).val := hx 0
    have h1 : r.val = 0 + (x 1).val := hx 1
    obtain ⟨d, a, rfl⟩ : ∃ (d : Fin 16) (a : Fin 256), x = ix2 d a := ⟨x 0, x 1, by funext i; fin_cases i <;> rfl⟩
    exact (pay27_at d a).trans (VT_ones x0 x1 x5 s0 s1 s2 s3 2 (by omega) d r i h0).symm
  · intro x hx
    have h0 : i.val = 288 + (x 0).val := hx 0
    obtain ⟨d, a, rfl⟩ : ∃ (d : Fin 128) (a : Fin 256), x = ix2 d a := ⟨x 0, x 1, by funext i; fin_cases i <;> rfl⟩
    have hb : a.val < 512 := by have := a.isLt; omega
    have h1 : r.val = 0 + a.val := hx 1
    obtain rfl : r = (⟨a.val, hb⟩ : Fin 512) := Fin.ext (by rw [h1]; exact Nat.zero_add _)
    exact (pay26_at _ _ d a).trans ((pr0_at x0 x1 x5 s0 s1 s2 s3 a _).trans (VT_head x0 x1 x5 s0 s1 s2 s3 2 (by omega) d _ i h0 _ rfl).symm)
  · intro x hx
    have h0 : i.val = 272 + (x 0).val := hx 0
    have h1 : r.val = 0 + (x 1).val := hx 1
    obtain ⟨d, a, rfl⟩ : ∃ (d : Fin 16) (a : Fin 256), x = ix2 d a := ⟨x 0, x 1, by funext i; fin_cases i <;> rfl⟩
    exact (pay25_at d a).trans (VT_ones x0 x1 x5 s0 s1 s2 s3 1 (by omega) d r i h0).symm
  · intro x hx
    have h0 : i.val = 144 + (x 0).val := hx 0
    obtain ⟨d, a, rfl⟩ : ∃ (d : Fin 128) (a : Fin 256), x = ix2 d a := ⟨x 0, x 1, by funext i; fin_cases i <;> rfl⟩
    have hb : a.val < 512 := by have := a.isLt; omega
    have h1 : r.val = 0 + a.val := hx 1
    obtain rfl : r = (⟨a.val, hb⟩ : Fin 512) := Fin.ext (by rw [h1]; exact Nat.zero_add _)
    exact (pay24_at _ _ d a).trans ((pr0_at x0 x1 x5 s0 s1 s2 s3 a _).trans (VT_head x0 x1 x5 s0 s1 s2 s3 1 (by omega) d _ i h0 _ rfl).symm)
  · intro x hx
    have h0 : i.val = 128 + (x 0).val := hx 0
    have h1 : r.val = 0 + (x 1).val := hx 1
    obtain ⟨d, a, rfl⟩ : ∃ (d : Fin 16) (a : Fin 256), x = ix2 d a := ⟨x 0, x 1, by funext i; fin_cases i <;> rfl⟩
    exact (pay23_at d a).trans (VT_ones x0 x1 x5 s0 s1 s2 s3 0 (by omega) d r i h0).symm
  · intro x hx
    have h0 : i.val = 0 + (x 0).val := hx 0
    obtain ⟨d, a, rfl⟩ : ∃ (d : Fin 128) (a : Fin 256), x = ix2 d a := ⟨x 0, x 1, by funext i; fin_cases i <;> rfl⟩
    have hb : a.val < 512 := by have := a.isLt; omega
    have h1 : r.val = 0 + a.val := hx 1
    obtain rfl : r = (⟨a.val, hb⟩ : Fin 512) := Fin.ext (by rw [h1]; exact Nat.zero_add _)
    exact (pay22_at _ _ d a).trans ((pr0_at x0 x1 x5 s0 s1 s2 s3 a _).trans (VT_head x0 x1 x5 s0 s1 s2 s3 0 (by omega) d _ i h0 _ rfl).symm)

end Cert.Kernel2Ideal.Proj

end
-- ==== Proof.ProjRef.lean ====
/- The reference of the half-step feed-forward and the projection, at an index. -/
module

public import proofs.«01_k».proof.Proof.Gen.Reference2Ideal
public import proofs.«01_k».proof.Proof.Gen.Reference2Ideal.Run
public import proofs.«01_k».proof.Proof.ProjMath
public import Idealize.ShloMosaic.Lib.StableHlo.Run

@[expose] public section

set_option maxRecDepth 16384

noncomputable section

open Idealize.ShloMosaic Idealize.ShloMosaic.TcCoe Idealize.SL.Sem
open Idealize.ShloMosaic.Pipeline (Dat)
open scoped BigOperators

namespace Cert.Reference2Ideal.Proj

open Cert.Reference2Ideal Cert.Reference2Ideal.Gen

/-- The norm of every row. -/
def norm (x : FVec Ideal S8x2048x1024 .f32) (g : FVec Ideal S1024 .f32) : FVec Ideal S8x2048x1024 .f32 :=
  mulf (mulf x (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf x x) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x358637BD#32)))))) (broadcastInDim S8x2048x1024 ![0, 1, 2] bcast_S1x1x1024_S8x2048x1024_0_1_2 (broadcastInDim S1x1x1024 ![2] bcast_S1024_S1x1x1024_2 g))

/-- The half-step feed-forward of normed rows `h`, added to `x`. -/
def feed (x h : FVec Ideal S8x2048x1024 .f32) (wg wu : FVec Ideal S1024x2816 .f32) (wd : FVec Ideal S2816x1024 .f32) :
    FVec Ideal S8x2048x1024 .f32 :=
  addf x (mulf (broadcastInDim S8x2048x1024 ![] bcast_S_S8x2048x1024 (constant S_ .f32 0x3F000000#32)) (Host.dotGeneral dot_S8x2048x2816_S2816x1024_S8x2048x1024_2_0_01_1_n_n none (mulf (mulf (Host.dotGeneral dot_S8x2048x1024_S1024x2816_S8x2048x2816_2_0_01_1_n_n none h wg) (Host.divf (broadcastInDim S8x2048x2816 ![] bcast_S_S8x2048x2816 (constant S_ .f32 0x3F800000#32)) (addf (broadcastInDim S8x2048x2816 ![] bcast_S_S8x2048x2816 (constant S_ .f32 0x3F800000#32)) (Host.exp (Host.negf (Host.dotGeneral dot_S8x2048x1024_S1024x2816_S8x2048x2816_2_0_01_1_n_n none h wg)))))) (Host.dotGeneral dot_S8x2048x1024_S1024x2816_S8x2048x2816_2_0_01_1_n_n none h wu)) wd))

/-- The fed-forward activations over the arguments. -/
def FED (a0 : FVec Ideal S8x2048x1024 .f32) (a1 : FVec Ideal S1x1024 .f32) (a2 a3 : FVec Ideal S1x1024x2816 .f32)
    (a4 : FVec Ideal S1x2816x1024 .f32) : FVec Ideal S8x2048x1024 .f32 :=
  feed a0 (norm a0 (shapeCast _ a1 shapeCasts_S1x1024_S1024)) (shapeCast _ a2 shapeCasts_S1x1024x2816_S1024x2816)
    (shapeCast _ a3 shapeCasts_S1x1024x2816_S1024x2816) (shapeCast _ a4 shapeCasts_S1x2816x1024_S2816x1024)

/-- The projection of normed activations. -/
def proj (x : FVec Ideal S8x2048x1024 .f32) (a5 : FVec Ideal S1x1024 .f32) (a6 : FVec Ideal S1x1024x4096 .f32) : FVec Ideal S8x2048x4096 .f32 :=
  Host.dotGeneral dot_S8x2048x1024_S1024x4096_S8x2048x4096_2_0_01_1_n_n none (norm x (shapeCast _ a5 shapeCasts_S1x1024_S1024)) (shapeCast _ a6 shapeCasts_S1x1024x4096_S1024x4096)

/-- The first result: the activations. -/
def out0 (x : FVec Ideal S8x2048x1024 .f32) : FVec Ideal S16384x1024 .f32 := shapeCast _ x shapeCasts_S8x2048x1024_S16384x1024
/-- The second result: the Fourier branch's columns of the projection. -/
def out1 (p : FVec Ideal S8x2048x4096 .f32) : FVec Ideal S16384x512 .bf16 :=
  truncf .bf16 (shapeCast _ (extractStridedSlice S8x2048x512 ![0, 0, 0] p slices_S8x2048x4096_S8x2048x512_0_0_0) shapeCasts_S8x2048x512_S16384x512) bitsLt_bf16_f32
/-- The third result: the scaled queries. -/
def out2 (p : FVec Ideal S8x2048x4096 .f32) : FVec Ideal S16384x512 .bf16 :=
  truncf .bf16 (shapeCast _ (mulf (extractStridedSlice S8x2048x512 ![0, 0, 512] p slices_S8x2048x4096_S8x2048x512_0_0_512) (broadcastInDim S8x2048x512 ![] bcast_S_S8x2048x512 (constant S_ .f32 0x3E38AA3B#32))) shapeCasts_S8x2048x512_S16384x512) bitsLt_bf16_f32
/-- The fourth result: the keys. -/
def out3 (p : FVec Ideal S8x2048x4096 .f32) : FVec Ideal S16384x512 .bf16 :=
  truncf .bf16 (shapeCast _ (extractStridedSlice S8x2048x512 ![0, 0, 1024] p slices_S8x2048x4096_S8x2048x512_0_0_1024) shapeCasts_S8x2048x512_S16384x512) bitsLt_bf16_f32
/-- The values of each head, channels first. -/
def heads (p : FVec Ideal S8x2048x4096 .f32) : FVec Ideal S4x128x16384 .f32 :=
  transpose S4x128x16384 [1, 2, 0] (shapeCast S16384x4x128 (extractStridedSlice S8x2048x512 ![0, 0, 1536] p slices_S8x2048x4096_S8x2048x512_0_0_1536) shapeCasts_S8x2048x512_S16384x4x128) transposes_S16384x4x128_S4x128x16384_1_2_0
/-- The rows of ones below each head. -/
def ones : FVec Ideal S4x16x16384 .f32 := broadcastInDim S4x16x16384 ![] bcast_S_S4x16x16384 (constant S_ .f32 0x3F800000#32)
/-- The fifth result: every head's values, one row for each channel, with sixteen rows of ones below. -/
def out4 (h : FVec Ideal S4x128x16384 .f32) (o : FVec Ideal S4x16x16384 .f32) : FVec Ideal S576x16384 .bf16 :=
  truncf .bf16 (shapeCast _ (concatenate S4x144x16384 1 [⟨S4x128x16384, h⟩, ⟨S4x16x16384, o⟩] concatenates_S4x128x16384_S4x16x16384_S4x144x16384_d1) shapeCasts_S4x144x16384_S576x16384) bitsLt_bf16_f32
/-- The sixth result: the first gate. -/
def out5 (p : FVec Ideal S8x2048x4096 .f32) : FVec Ideal S16384x1024 .bf16 :=
  truncf .bf16 (shapeCast _ (Host.divf (broadcastInDim S8x2048x1024 ![] bcast_S_S8x2048x1024 (constant S_ .f32 0x3F800000#32)) (addf (broadcastInDim S8x2048x1024 ![] bcast_S_S8x2048x1024 (constant S_ .f32 0x3F800000#32)) (Host.exp (Host.negf (extractStridedSlice S8x2048x1024 ![0, 0, 2048] p slices_S8x2048x4096_S8x2048x1024_0_0_2048))))) shapeCasts_S8x2048x1024_S16384x1024) bitsLt_bf16_f32
/-- The seventh result: the second gate. -/
def out6 (p : FVec Ideal S8x2048x4096 .f32) : FVec Ideal S16384x1024 .bf16 :=
  truncf .bf16 (shapeCast _ (Host.divf (broadcastInDim S8x2048x1024 ![] bcast_S_S8x2048x1024 (constant S_ .f32 0x3F800000#32)) (addf (broadcastInDim S8x2048x1024 ![] bcast_S_S8x2048x1024 (constant S_ .f32 0x3F800000#32)) (Host.exp (Host.negf (extractStridedSlice S8x2048x1024 ![0, 0, 3072] p slices_S8x2048x4096_S8x2048x1024_0_0_3072))))) shapeCasts_S8x2048x1024_S16384x1024) bitsLt_bf16_f32

variable (m : (ℓ : Loc nD τ sig) → Buf (Elt Ideal) ℓ) (c : Dev nD)

/-- The fed-forward activations of the launched arguments. -/
def fedOf : FVec Ideal S8x2048x1024 .f32 :=
  FED (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4))
/-- The projection of the launched arguments. -/
def projOf : FVec Ideal S8x2048x4096 .f32 :=
  proj (fedOf m c) (m ((c.tc : Thread nD τ).loc main_arg5)) (m ((c.tc : Thread nD τ).loc main_arg6))

/-! The composed terms the run states are those results. -/

theorem res1_eq : Cert.Reference2Ideal.Value.res_out1 m c = out1 (projOf m c) := rfl
theorem res2_eq : Cert.Reference2Ideal.Value.res_out2 m c = out2 (projOf m c) := rfl
theorem res3_eq : Cert.Reference2Ideal.Value.res_out3 m c = out3 (projOf m c) := rfl
theorem res4_eq : Cert.Reference2Ideal.Value.res_out4 m c = out4 (heads (projOf m c)) ones := rfl
theorem res5_eq : Cert.Reference2Ideal.Value.res_out5 m c = out5 (projOf m c) := rfl
theorem res6_eq : Cert.Reference2Ideal.Value.res_out6 m c = out6 (projOf m c) := rfl

/-- The norm at a row and a column. -/
theorem norm_at (x : FVec Ideal S8x2048x1024 .f32) (g : FVec Ideal S1024 .f32) (b : Fin 8) (s : Fin 2048) (j : Fin 1024) :
    (norm x g (ix3 b s j) : EReal) = Cert.Ffn.norm (fun k => x (ix3 b s k)) (fun k => g (ix1 k)) j := by
  unfold Cert.Ffn.norm
  pointwise [norm]

/-- The feed-forward at a row and a column. -/
theorem feed_at (x h : FVec Ideal S8x2048x1024 .f32) (wg wu : FVec Ideal S1024x2816 .f32) (wd : FVec Ideal S2816x1024 .f32)
    (b : Fin 8) (s : Fin 2048) (j : Fin 1024) :
    (feed x h wg wu wd (ix3 b s j) : EReal) = Cert.Ffn.feed (fun k => x (ix3 b s k)) (fun k => h (ix3 b s k))
      (fun l k => wg (ix2 l k)) (fun l k => wu (ix2 l k)) (fun k l => wd (ix2 k l)) j := by
  unfold Cert.Ffn.feed
  pointwise [feed]

/-- The fed-forward activations at a row and a column. -/
theorem FED_at (a0 : FVec Ideal S8x2048x1024 .f32) (a1 : FVec Ideal S1x1024 .f32) (a2 a3 : FVec Ideal S1x1024x2816 .f32)
    (a4 : FVec Ideal S1x2816x1024 .f32) (b : Fin 8) (s : Fin 2048) (j : Fin 1024) :
    (FED a0 a1 a2 a3 a4 (ix3 b s j) : EReal) = Cert.Ffn.fedRow (fun k => a0 (ix3 b s k)) (fun k => a1 (ix2 0 k))
      (fun l k => a2 (ix3 0 l k)) (fun l k => a3 (ix3 0 l k)) (fun k l => a4 (ix3 0 k l)) j := by
  have e1 : ∀ k : Fin 1024, (shapeCast S1024 a1 shapeCasts_S1x1024_S1024 (ix1 k) : EReal) = a1 (ix2 0 k) := fun k => by pointwise []
  have e2 : ∀ (l : Fin 1024) (k : Fin 2816),
      (shapeCast S1024x2816 a2 shapeCasts_S1x1024x2816_S1024x2816 (ix2 l k) : EReal) = a2 (ix3 0 l k) := fun l k => by pointwise []
  have e3 : ∀ (l : Fin 1024) (k : Fin 2816),
      (shapeCast S1024x2816 a3 shapeCasts_S1x1024x2816_S1024x2816 (ix2 l k) : EReal) = a3 (ix3 0 l k) := fun l k => by pointwise []
  have e4 : ∀ (l : Fin 2816) (k : Fin 1024),
      (shapeCast S2816x1024 a4 shapeCasts_S1x2816x1024_S2816x1024 (ix2 l k) : EReal) = a4 (ix3 0 l k) := fun l k => by pointwise []
  unfold FED Cert.Ffn.fedRow
  simp only [norm_at, feed_at, e1, e2, e3, e4]

/-- The projection at a row and a column. -/
theorem proj_at (x : FVec Ideal S8x2048x1024 .f32) (a5 : FVec Ideal S1x1024 .f32) (a6 : FVec Ideal S1x1024x4096 .f32)
    (b : Fin 8) (s : Fin 2048) (n : Fin 4096) :
    (proj x a5 a6 (ix3 b s n) : EReal) = Cert.Ffn.projRow (fun k => x (ix3 b s k)) (fun k => a5 (ix2 0 k)) (fun l k => a6 (ix3 0 l k)) n := by
  have e5 : ∀ k : Fin 1024, (shapeCast S1024 a5 shapeCasts_S1x1024_S1024 (ix1 k) : EReal) = a5 (ix2 0 k) := fun k => by pointwise []
  unfold proj Cert.Ffn.projRow
  simp only [← e5, ← norm_at]
  generalize norm x (shapeCast _ a5 shapeCasts_S1x1024_S1024) = h
  pointwise []

end Cert.Reference2Ideal.Proj

end
-- ==== Proof.ProjRefOut.lean ====
/- The seven results of the projection's reference, at an index. -/
module

public import proofs.«01_k».proof.Proof.ProjRef

@[expose] public section

set_option maxRecDepth 16384

noncomputable section

open Idealize.ShloMosaic Idealize.ShloMosaic.TcCoe Idealize.SL.Sem
open Idealize.ShloMosaic.Pipeline (Dat)
open scoped BigOperators

namespace Cert.Reference2Ideal.Proj

open Cert.Reference2Ideal Cert.Reference2Ideal.Gen

/-- The batch of a flat row. -/
def bat (i : Fin 16384) : Fin 8 := ⟨i.val / 2048, by omega⟩
/-- The position of a flat row in its batch. -/
def pos (i : Fin 16384) : Fin 2048 := ⟨i.val % 2048, by omega⟩

theorem out0_at (x : FVec Ideal S8x2048x1024 .f32) (i : Fin 16384) (j : Fin 1024) : (out0 x (ix2 i j) : EReal) = x (ix3 (bat i) (pos i) j) := by
  unfold bat pos
  pointwise [out0]
theorem out1_at (p : FVec Ideal S8x2048x4096 .f32) (i : Fin 16384) (j : Fin 512) :
    (out1 p (ix2 i j) : EReal) = p (ix3 (bat i) (pos i) (⟨0 + j.val, by omega⟩ : Fin 4096)) := by
  unfold bat pos
  pointwise [out1]
theorem out2_at (p : FVec Ideal S8x2048x4096 .f32) (i : Fin 16384) (j : Fin 512) :
    (out2 p (ix2 i j) : EReal) = (p (ix3 (bat i) (pos i) (⟨512 + j.val, by omega⟩ : Fin 4096)) : EReal) * Ideal.ofBits .f32 0x3E38AA3B#32 := by
  unfold bat pos
  pointwise [out2]
theorem out3_at (p : FVec Ideal S8x2048x4096 .f32) (i : Fin 16384) (j : Fin 512) :
    (out3 p (ix2 i j) : EReal) = p (ix3 (bat i) (pos i) (⟨1024 + j.val, by omega⟩ : Fin 4096)) := by
  unfold bat pos
  pointwise [out3]
theorem out5_at (p : FVec Ideal S8x2048x4096 .f32) (i : Fin 16384) (j : Fin 1024) :
    (out5 p (ix2 i j) : EReal) = Cert.Ffn.gate (p (ix3 (bat i) (pos i) (⟨2048 + j.val, by omega⟩ : Fin 4096))) := by
  unfold bat pos Cert.Ffn.gate
  pointwise [out5]
theorem out6_at (p : FVec Ideal S8x2048x4096 .f32) (i : Fin 16384) (j : Fin 1024) :
    (out6 p (ix2 i j) : EReal) = Cert.Ffn.gate (p (ix3 (bat i) (pos i) (⟨3072 + j.val, by omega⟩ : Fin 4096))) := by
  unfold bat pos Cert.Ffn.gate
  pointwise [out6]
theorem heads_at (p : FVec Ideal S8x2048x4096 .f32) (h : Fin 4) (d : Fin 128) (i : Fin 16384) :
    (heads p (ix3 h d i) : EReal) = p (ix3 (bat i) (pos i) (⟨1536 + (h.val * 128 + d.val), by omega⟩ : Fin 4096)) := by
  unfold bat pos
  pointwise [heads]

/-- A head's row of the fifth result. -/
theorem out4_low (h : FVec Ideal S4x128x16384 .f32) (o : FVec Ideal S4x16x16384 .f32) (r : Fin 576) (i : Fin 16384) (hr : r.val % 144 < 128) :
    (out4 h o (ix2 r i) : EReal) = h (ix3 ⟨r.val / 144, by omega⟩ ⟨r.val % 144, hr⟩ i) := by
  pointwise [out4]
  exact dif_pos hr

/-- A row of the fifth result below a head. -/
theorem out4_high (h : FVec Ideal S4x128x16384 .f32) (o : FVec Ideal S4x16x16384 .f32) (r : Fin 576) (i : Fin 16384) (hr : ¬ r.val % 144 < 128) :
    (out4 h o (ix2 r i) : EReal) = o (ix3 ⟨r.val / 144, by omega⟩ ⟨r.val % 144 - 128, by omega⟩ i) := by
  pointwise [out4]
  exact dif_neg hr

/-- The rows of ones. -/
theorem ones_at (h : Fin 4) (d : Fin 16) (i : Fin 16384) : (ones (ix3 h d i) : EReal) = 1 := by
  pointwise [ones]

/-- The fifth result at a row and a column. -/
theorem out4_at (p : FVec Ideal S8x2048x4096 .f32) (r : Fin 576) (i : Fin 16384) :
    (out4 (heads p) ones (ix2 r i) : EReal)
      = if r.val % 144 < 128 then p (ix3 (bat i) (pos i) (⟨1536 + 128 * (r.val / 144) + r.val % 144, by omega⟩ : Fin 4096)) else (1 : EReal) := by
  by_cases hr : r.val % 144 < 128
  · rw [if_pos hr, out4_low _ _ _ _ hr, heads_at]
    congr 2
    refine Fin.ext ?_
    show 1536 + (r.val / 144 * 128 + r.val % 144) = 1536 + 128 * (r.val / 144) + r.val % 144
    omega
  · rw [if_neg hr, out4_high _ _ _ _ hr, ones_at]

end Cert.Reference2Ideal.Proj

end
-- ==== Proof.ProjEntry.lean ====
/- The blocks and the cast weights the projection kernel's compute points read, in the launched arguments. -/
module

public import proofs.«01_k».proof.Proof.ProjOut
public import proofs.«01_k».proof.Proof.ProjData
public import proofs.«01_k».proof.Proof.ProjRefOut
public import Idealize.ShloMosaic.Lib.Pipeline.ValueKit
public import Idealize.ShloMosaic.Lib.Pipeline.Value
public import Idealize.ShloMosaic.Lib.StableHlo.Run

@[expose] public section

set_option maxRecDepth 16384

noncomputable section

open Idealize.ShloMosaic Idealize.ShloMosaic.TcCoe Idealize.SL.Sem
open Idealize.ShloMosaic.Pipeline (Dat)
open scoped BigOperators

namespace Cert.Kernel2Ideal.Proj

open Cert.Kernel2Ideal Cert.Kernel2Ideal.Gen

variable (m : (ℓ : Loc nD τ sig) → Buf (Elt Ideal) ℓ)

/-- The grid has forty-eight points. -/
theorem point_lt (t : Fin cfg0.N) : t.val < 48 := lt_of_lt_of_eq t.isLt N_0

/-- The gains' windows stay at their one block. -/
theorem idxG : ∀ t : Fin cfg0.N, win0_1.index t = ![0, 0] ∧ win0_5.index t = ![0, 0] :=
  (by decide +kernel : ∀ t : Fin grid0.N, _)

/-- The weights' windows step through their slabs at the cast points. -/
theorem idxW : ∀ t : Fin cfg0.N, t.val < 16 → win0_2.index t = ![t.val, 0] ∧ win0_3.index t = ![t.val, 0]
    ∧ win0_4.index t = ![t.val, 0] ∧ win0_6.index t = ![t.val, 0] :=
  (by decide +kernel : ∀ t : Fin grid0.N, _)

/-- The activations' window and the results' windows step through their blocks at the compute points. -/
theorem idxC : ∀ t : Fin cfg0.N, 16 ≤ t.val → win0_0.index t = ![t.val - 16, 0] ∧ win0_7.index t = ![t.val - 16, 0]
    ∧ win0_8.index t = ![t.val - 16, 0] ∧ win0_9.index t = ![t.val - 16, 0] ∧ win0_10.index t = ![t.val - 16, 0]
    ∧ win0_11.index t = ![0, t.val - 16] ∧ win0_12.index t = ![t.val - 16, 0] ∧ win0_13.index t = ![t.val - 16, 0] :=
  (by decide +kernel : ∀ t : Fin grid0.N, _)

/-- The flat row of a compute point's block row. -/
def row (t : Fin cfg0.N) (a : Fin 512) : Fin 16384 := ⟨512 * (t.val - 16) + a.val, by have := point_lt t; omega⟩

theorem blk1_at (c : Dev nD) (t : Fin cfg0.N) (k : Fin 1024) :
    ((iblk m c 1 t : S1x1024.Idx → EReal) (ix2 0 k)) = m (c, Proc.tc.devRef main_arg1) (ix2 0 k) := by
  have e : (iblk m c 1 t : S1x1024.Idx → EReal) = V m c main_v2 := by blk_ext! [iblk, idxG t]
  rw [e]
  entry_read; pointwise []
theorem blk5_at (c : Dev nD) (t : Fin cfg0.N) (k : Fin 1024) :
    ((iblk m c 5 t : S1x1024.Idx → EReal) (ix2 0 k)) = m (c, Proc.tc.devRef main_arg5) (ix2 0 k) := by
  have e : (iblk m c 5 t : S1x1024.Idx → EReal) = V m c main_v7 := by blk_ext! [iblk, idxG t]
  rw [e]
  entry_read; pointwise []

/-- The rows of the activations a compute point reads. -/
theorem blk0_at (c : Dev nD) (t : Fin cfg0.N) (ht : 16 ≤ t.val) (a : Fin 512) (k : Fin 1024) :
    ((iblk m c 0 t : S512x1024.Idx → EReal) (ix2 a k))
      = m (c, Proc.tc.devRef main_arg0) (ix3 (Cert.Reference2Ideal.Proj.bat (row t a)) (Cert.Reference2Ideal.Proj.pos (row t a)) k) := by
  have e : ((iblk m c 0 t : S512x1024.Idx → EReal) (ix2 a k)) = (V m c main_v0 : S16384x1024.Idx → EReal) (ix2 (row t a) k) := by
    unfold row
    blk_ext [iblk, idxC t ht]
  rw [e]
  unfold Cert.Reference2Ideal.Proj.bat Cert.Reference2Ideal.Proj.pos
  entry_read; pointwise []

/-- A slab of a weight at a cast point. -/
theorem blk2_at (c : Dev nD) (t : Fin cfg0.N) (ht : t.val < 16) (l : Fin 64) (k : Fin 2816) :
    ((iblk m c 2 t : S64x2816.Idx → EReal) (ix2 l k)) = m (c, Proc.tc.devRef main_arg2) (ix3 0 (⟨64 * t.val + l.val, by omega⟩ : Fin 1024) k) := by
  have e : ((iblk m c 2 t : S64x2816.Idx → EReal) (ix2 l k)) = (V m c main_v3 : S1024x2816.Idx → EReal) (ix2 (⟨64 * t.val + l.val, by omega⟩ : Fin 1024) k) := by
    blk_ext [iblk, idxW t ht]
  rw [e]
  entry_read; pointwise []

theorem pay1_at (x : FVec Ideal S64x2816 .f32) (l : Fin 64) (k : Fin 2816) : (k0_pay1 (F := Ideal) x (ix2 l k) : EReal) = x (ix2 l k) := by
  pointwise [k0_pay1]

/-- The cast weight is the launched one. -/
theorem wt0_at (c : Dev nD) (l : Fin 1024) (k : Fin 2816) :
    (wt0 (F := Ideal) m c (ix2 l k) : EReal) = m (c, Proc.tc.devRef main_arg2) (ix3 0 l k) := by
  have hl : l.val < 1024 := l.isLt
  have hlt : l.val / 64 < cfg0.N := by have hN : cfg0.N = 48 := N_0; omega
  have hd : l.val / 64 < 16 := by omega
  have hm : l.val % 64 < 64 := Nat.mod_lt _ (by norm_num)
  refine Eq.trans (b := (k0_pay1 (F := Ideal) (iblk m c 2 ⟨l.val / 64, hlt⟩) (ix2 (⟨l.val % 64, hm⟩ : Fin 64) k) : EReal)) rfl ?_
  rw [pay1_at]
  refine (blk2_at m c ⟨l.val / 64, hlt⟩ hd ⟨l.val % 64, hm⟩ k).trans ?_
  congr 2
  exact Fin.ext (Nat.div_add_mod l.val 64)

/-- A slab of a weight at a cast point. -/
theorem blk3_at (c : Dev nD) (t : Fin cfg0.N) (ht : t.val < 16) (l : Fin 64) (k : Fin 2816) :
    ((iblk m c 3 t : S64x2816.Idx → EReal) (ix2 l k)) = m (c, Proc.tc.devRef main_arg3) (ix3 0 (⟨64 * t.val + l.val, by omega⟩ : Fin 1024) k) := by
  have e : ((iblk m c 3 t : S64x2816.Idx → EReal) (ix2 l k)) = (V m c main_v4 : S1024x2816.Idx → EReal) (ix2 (⟨64 * t.val + l.val, by omega⟩ : Fin 1024) k) := by
    blk_ext [iblk, idxW t ht]
  rw [e]
  entry_read; pointwise []

theorem pay2_at (x : FVec Ideal S64x2816 .f32) (l : Fin 64) (k : Fin 2816) : (k0_pay2 (F := Ideal) x (ix2 l k) : EReal) = x (ix2 l k) := by
  pointwise [k0_pay2]

/-- The cast weight is the launched one. -/
theorem wt1_at (c : Dev nD) (l : Fin 1024) (k : Fin 2816) :
    (wt1 (F := Ideal) m c (ix2 l k) : EReal) = m (c, Proc.tc.devRef main_arg3) (ix3 0 l k) := by
  have hl : l.val < 1024 := l.isLt
  have hlt : l.val / 64 < cfg0.N := by have hN : cfg0.N = 48 := N_0; omega
  have hd : l.val / 64 < 16 := by omega
  have hm : l.val % 64 < 64 := Nat.mod_lt _ (by norm_num)
  refine Eq.trans (b := (k0_pay2 (F := Ideal) (iblk m c 3 ⟨l.val / 64, hlt⟩) (ix2 (⟨l.val % 64, hm⟩ : Fin 64) k) : EReal)) rfl ?_
  rw [pay2_at]
  refine (blk3_at m c ⟨l.val / 64, hlt⟩ hd ⟨l.val % 64, hm⟩ k).trans ?_
  congr 2
  exact Fin.ext (Nat.div_add_mod l.val 64)

/-- A slab of a weight at a cast point. -/
theorem blk4_at (c : Dev nD) (t : Fin cfg0.N) (ht : t.val < 16) (l : Fin 176) (k : Fin 1024) :
    ((iblk m c 4 t : S176x1024.Idx → EReal) (ix2 l k)) = m (c, Proc.tc.devRef main_arg4) (ix3 0 (⟨176 * t.val + l.val, by omega⟩ : Fin 2816) k) := by
  have e : ((iblk m c 4 t : S176x1024.Idx → EReal) (ix2 l k)) = (V m c main_v5 : S2816x1024.Idx → EReal) (ix2 (⟨176 * t.val + l.val, by omega⟩ : Fin 2816) k) := by
    blk_ext [iblk, idxW t ht]
  rw [e]
  entry_read; pointwise []

theorem pay3_at (x : FVec Ideal S176x1024 .f32) (l : Fin 176) (k : Fin 1024) : (k0_pay3 (F := Ideal) x (ix2 l k) : EReal) = x (ix2 l k) := by
  pointwise [k0_pay3]

/-- The cast weight is the launched one. -/
theorem wt2_at (c : Dev nD) (l : Fin 2816) (k : Fin 1024) :
    (wt2 (F := Ideal) m c (ix2 l k) : EReal) = m (c, Proc.tc.devRef main_arg4) (ix3 0 l k) := by
  have hl : l.val < 2816 := l.isLt
  have hlt : l.val / 176 < cfg0.N := by have hN : cfg0.N = 48 := N_0; omega
  have hd : l.val / 176 < 16 := by omega
  have hm : l.val % 176 < 176 := Nat.mod_lt _ (by norm_num)
  refine Eq.trans (b := (k0_pay3 (F := Ideal) (iblk m c 4 ⟨l.val / 176, hlt⟩) (ix2 (⟨l.val % 176, hm⟩ : Fin 176) k) : EReal)) rfl ?_
  rw [pay3_at]
  refine (blk4_at m c ⟨l.val / 176, hlt⟩ hd ⟨l.val % 176, hm⟩ k).trans ?_
  congr 2
  exact Fin.ext (Nat.div_add_mod l.val 176)

/-- A slab of a weight at a cast point. -/
theorem blk6_at (c : Dev nD) (t : Fin cfg0.N) (ht : t.val < 16) (l : Fin 64) (k : Fin 4096) :
    ((iblk m c 6 t : S64x4096.Idx → EReal) (ix2 l k)) = m (c, Proc.tc.devRef main_arg6) (ix3 0 (⟨64 * t.val + l.val, by omega⟩ : Fin 1024) k) := by
  have e : ((iblk m c 6 t : S64x4096.Idx → EReal) (ix2 l k)) = (V m c main_v8 : S1024x4096.Idx → EReal) (ix2 (⟨64 * t.val + l.val, by omega⟩ : Fin 1024) k) := by
    blk_ext [iblk, idxW t ht]
  rw [e]
  entry_read; pointwise []

theorem pay4_at (x : FVec Ideal S64x4096 .f32) (l : Fin 64) (k : Fin 4096) : (k0_pay4 (F := Ideal) x (ix2 l k) : EReal) = x (ix2 l k) := by
  pointwise [k0_pay4]

/-- The cast weight is the launched one. -/
theorem wt3_at (c : Dev nD) (l : Fin 1024) (k : Fin 4096) :
    (wt3 (F := Ideal) m c (ix2 l k) : EReal) = m (c, Proc.tc.devRef main_arg6) (ix3 0 l k) := by
  have hl : l.val < 1024 := l.isLt
  have hlt : l.val / 64 < cfg0.N := by have hN : cfg0.N = 48 := N_0; omega
  have hd : l.val / 64 < 16 := by omega
  have hm : l.val % 64 < 64 := Nat.mod_lt _ (by norm_num)
  refine Eq.trans (b := (k0_pay4 (F := Ideal) (iblk m c 6 ⟨l.val / 64, hlt⟩) (ix2 (⟨l.val % 64, hm⟩ : Fin 64) k) : EReal)) rfl ?_
  rw [pay4_at]
  refine (blk6_at m c ⟨l.val / 64, hlt⟩ hd ⟨l.val % 64, hm⟩ k).trans ?_
  congr 2
  exact Fin.ext (Nat.div_add_mod l.val 64)

end Cert.Kernel2Ideal.Proj

end
-- ==== Proof.ProjValue.lean ====
/- What the projection kernel leaves in its seven result arrays: the reference's results. -/
module

public import proofs.«01_k».proof.Proof.ProjEntry

@[expose] public section

set_option maxRecDepth 16384

noncomputable section

open Idealize.ShloMosaic Idealize.ShloMosaic.TcCoe Idealize.SL.Sem
open Idealize.ShloMosaic.Pipeline (Dat)
open scoped BigOperators

namespace Cert.Kernel2Ideal.Proj

open Cert.Kernel2Ideal Cert.Kernel2Ideal.Gen

variable (m : (ℓ : Loc nD τ sig) → Buf (Elt Ideal) ℓ)

/-- A compute point's fed-forward row is the reference's. -/
theorem FR_eq (c : Dev nD) (t : Fin cfg0.N) (ht : 16 ≤ t.val) (a : Fin 512) (j : Fin 1024) :
    FR (iblk m c 0 t) (iblk m c 1 t) (wt0 (F := Ideal) m c) (wt1 (F := Ideal) m c) (wt2 (F := Ideal) m c) a j = (Cert.Reference2Ideal.Proj.FED (m (c, Proc.tc.devRef main_arg0)) (m (c, Proc.tc.devRef main_arg1)) (m (c, Proc.tc.devRef main_arg2)) (m (c, Proc.tc.devRef main_arg3)) (m (c, Proc.tc.devRef main_arg4))) (ix3 (Cert.Reference2Ideal.Proj.bat (row t a)) (Cert.Reference2Ideal.Proj.pos (row t a)) j) := by
  refine Eq.trans ?_ (Cert.Reference2Ideal.Proj.FED_at _ _ _ _ _ _ _ _).symm
  show Cert.Ffn.fedRow (fun k => (iblk m c 0 t : S512x1024.Idx → EReal) (ix2 a k)) (fun k => (iblk m c 1 t : S1x1024.Idx → EReal) (ix2 0 k))
    (fun l k => (wt0 (F := Ideal) m c (ix2 l k) : EReal)) (fun l k => (wt1 (F := Ideal) m c (ix2 l k) : EReal)) (fun k l => (wt2 (F := Ideal) m c (ix2 k l) : EReal)) j = _
  simp only [blk0_at m c t ht, blk1_at, wt0_at, wt1_at, wt2_at]

/-- A compute point's projected row is the reference's. -/
theorem PR_eq (c : Dev nD) (t : Fin cfg0.N) (ht : 16 ≤ t.val) (a : Fin 512) (n : Fin 4096) :
    PR (iblk m c 0 t) (iblk m c 1 t) (iblk m c 5 t) (wt0 (F := Ideal) m c) (wt1 (F := Ideal) m c) (wt2 (F := Ideal) m c) (wt3 (F := Ideal) m c) a n = (Cert.Reference2Ideal.Proj.proj (Cert.Reference2Ideal.Proj.FED (m (c, Proc.tc.devRef main_arg0)) (m (c, Proc.tc.devRef main_arg1)) (m (c, Proc.tc.devRef main_arg2)) (m (c, Proc.tc.devRef main_arg3)) (m (c, Proc.tc.devRef main_arg4))) (m (c, Proc.tc.devRef main_arg5)) (m (c, Proc.tc.devRef main_arg6))) (ix3 (Cert.Reference2Ideal.Proj.bat (row t a)) (Cert.Reference2Ideal.Proj.pos (row t a)) n) := by
  refine Eq.trans ?_ (Cert.Reference2Ideal.Proj.proj_at _ _ _ _ _ _).symm
  show Cert.Ffn.projRow (fun k => FR (iblk m c 0 t) (iblk m c 1 t) (wt0 (F := Ideal) m c) (wt1 (F := Ideal) m c) (wt2 (F := Ideal) m c) a k) (fun k => (iblk m c 5 t : S1x1024.Idx → EReal) (ix2 0 k)) (fun l n => (wt3 (F := Ideal) m c (ix2 l n) : EReal)) n = _
  simp only [FR_eq m c t ht, blk5_at, wt3_at]

/-- The constant in the kernel's rows of ones. -/
theorem one_bits : Ideal.ofBits .bf16 0x3F80#16 = 1 := by
  pointwise []

/-- A compute point's transposed values are the reference's. -/
theorem VT_eq (c : Dev nD) (t : Fin cfg0.N) (ht : 16 ≤ t.val) (i : Fin 576) (a : Fin 512) :
    VT (iblk m c 0 t) (iblk m c 1 t) (iblk m c 5 t) (wt0 (F := Ideal) m c) (wt1 (F := Ideal) m c) (wt2 (F := Ideal) m c) (wt3 (F := Ideal) m c) i a = Cert.Reference2Ideal.Proj.out4 (Cert.Reference2Ideal.Proj.heads (Cert.Reference2Ideal.Proj.proj (Cert.Reference2Ideal.Proj.FED (m (c, Proc.tc.devRef main_arg0)) (m (c, Proc.tc.devRef main_arg1)) (m (c, Proc.tc.devRef main_arg2)) (m (c, Proc.tc.devRef main_arg3)) (m (c, Proc.tc.devRef main_arg4))) (m (c, Proc.tc.devRef main_arg5)) (m (c, Proc.tc.devRef main_arg6)))) Cert.Reference2Ideal.Proj.ones (ix2 i (row t a)) := by
  refine Eq.trans ?_ (Cert.Reference2Ideal.Proj.out4_at _ _ _).symm
  unfold VT
  rw [one_bits]
  split
  · exact PR_eq m c t ht a _
  · rfl

/-- A flushing point is a compute point. -/
theorem late7 (t : Fin cfg0.N) (hf : (cfg0.win 7).flush t = true) : 16 ≤ t.val := by
  by_contra h
  rw [noflush7 t (by omega)] at hf
  exact Bool.false_ne_true hf
theorem late8 (t : Fin cfg0.N) (hf : (cfg0.win 8).flush t = true) : 16 ≤ t.val := by
  by_contra h
  rw [noflush8 t (by omega)] at hf
  exact Bool.false_ne_true hf
theorem late9 (t : Fin cfg0.N) (hf : (cfg0.win 9).flush t = true) : 16 ≤ t.val := by
  by_contra h
  rw [noflush9 t (by omega)] at hf
  exact Bool.false_ne_true hf
theorem late10 (t : Fin cfg0.N) (hf : (cfg0.win 10).flush t = true) : 16 ≤ t.val := by
  by_contra h
  rw [noflush10 t (by omega)] at hf
  exact Bool.false_ne_true hf
theorem late11 (t : Fin cfg0.N) (hf : (cfg0.win 11).flush t = true) : 16 ≤ t.val := by
  by_contra h
  rw [noflush11 t (by omega)] at hf
  exact Bool.false_ne_true hf
theorem late12 (t : Fin cfg0.N) (hf : (cfg0.win 12).flush t = true) : 16 ≤ t.val := by
  by_contra h
  rw [noflush12 t (by omega)] at hf
  exact Bool.false_ne_true hf
theorem late13 (t : Fin cfg0.N) (hf : (cfg0.win 13).flush t = true) : 16 ≤ t.val := by
  by_contra h
  rw [noflush13 t (by omega)] at hf
  exact Bool.false_ne_true hf

/-- A row and a column of a compute point's block of the activations, in the whole result. -/
theorem emb7 (t : Fin cfg0.N) (ht : 16 ≤ t.val) (a : Fin 512) (b : Fin 1024) :
    ((cfg0.win 7).blk t).view.emb (ix2 a b) = (ix2 (row t a) b : S16384x1024.Idx) := by
  unfold row
  blk_ext [idxC t ht]

/-- The activations, from the values the compute points leave. -/
theorem final7 (c : Dev nD) :
    (dats m 0 c).arrAt 7 (cfgs 0).N = Cert.Reference2Ideal.Proj.out0 (Cert.Reference2Ideal.Proj.FED (m (c, Proc.tc.devRef main_arg0)) (m (c, Proc.tc.devRef main_arg1)) (m (c, Proc.tc.devRef main_arg2)) (m (c, Proc.tc.devRef main_arg3)) (m (c, Proc.tc.devRef main_arg4))) := by
  refine (dats m 0 c).arrAt_eq_of_covers 7 _ (by decide +kernel) fun t hf y => ?_
  have ht := late7 t hf
  obtain ⟨a, b, rfl⟩ : ∃ (a : Fin 512) (b : Fin 1024), y = ix2 a b := ⟨y 0, y 1, by funext i; fin_cases i <;> rfl⟩
  rw [emb7 t ht]
  blk_simp
  rw [after0_7]
  refine (out8_at (iblk m c 0 t) (iblk m c 1 t) (wt0 (F := Ideal) m c) (wt1 (F := Ideal) m c) (wt2 (F := Ideal) m c) a b).trans ?_
  refine Eq.trans ?_ (Cert.Reference2Ideal.Proj.out0_at _ _ _).symm
  exact FR_eq m c t ht a b

/-- A row and a column of a compute point's block of the Fourier branch's columns, in the whole result. -/
theorem emb8 (t : Fin cfg0.N) (ht : 16 ≤ t.val) (a : Fin 512) (b : Fin 512) :
    ((cfg0.win 8).blk t).view.emb (ix2 a b) = (ix2 (row t a) b : S16384x512.Idx) := by
  unfold row
  blk_ext [idxC t ht]

/-- The Fourier branch's columns, from the values the compute points leave. -/
theorem final8 (c : Dev nD) :
    (dats m 0 c).arrAt 8 (cfgs 0).N = Cert.Reference2Ideal.Proj.out1 (Cert.Reference2Ideal.Proj.proj (Cert.Reference2Ideal.Proj.FED (m (c, Proc.tc.devRef main_arg0)) (m (c, Proc.tc.devRef main_arg1)) (m (c, Proc.tc.devRef main_arg2)) (m (c, Proc.tc.devRef main_arg3)) (m (c, Proc.tc.devRef main_arg4))) (m (c, Proc.tc.devRef main_arg5)) (m (c, Proc.tc.devRef main_arg6))) := by
  refine (dats m 0 c).arrAt_eq_of_covers 8 _ (by decide +kernel) fun t hf y => ?_
  have ht := late8 t hf
  obtain ⟨a, b, rfl⟩ : ∃ (a : Fin 512) (b : Fin 512), y = ix2 a b := ⟨y 0, y 1, by funext i; fin_cases i <;> rfl⟩
  rw [emb8 t ht]
  blk_simp
  rw [after0_8]
  refine (out9_at (iblk m c 0 t) (iblk m c 1 t) (iblk m c 5 t) (wt0 (F := Ideal) m c) (wt1 (F := Ideal) m c) (wt2 (F := Ideal) m c) (wt3 (F := Ideal) m c) a b).trans ?_
  refine Eq.trans ?_ (Cert.Reference2Ideal.Proj.out1_at _ _ _).symm
  exact PR_eq m c t ht a _

/-- A row and a column of a compute point's block of the scaled queries, in the whole result. -/
theorem emb9 (t : Fin cfg0.N) (ht : 16 ≤ t.val) (a : Fin 512) (b : Fin 512) :
    ((cfg0.win 9).blk t).view.emb (ix2 a b) = (ix2 (row t a) b : S16384x512.Idx) := by
  unfold row
  blk_ext [idxC t ht]

/-- The scaled queries, from the values the compute points leave. -/
theorem final9 (c : Dev nD) :
    (dats m 0 c).arrAt 9 (cfgs 0).N = Cert.Reference2Ideal.Proj.out2 (Cert.Reference2Ideal.Proj.proj (Cert.Reference2Ideal.Proj.FED (m (c, Proc.tc.devRef main_arg0)) (m (c, Proc.tc.devRef main_arg1)) (m (c, Proc.tc.devRef main_arg2)) (m (c, Proc.tc.devRef main_arg3)) (m (c, Proc.tc.devRef main_arg4))) (m (c, Proc.tc.devRef main_arg5)) (m (c, Proc.tc.devRef main_arg6))) := by
  refine (dats m 0 c).arrAt_eq_of_covers 9 _ (by decide +kernel) fun t hf y => ?_
  have ht := late9 t hf
  obtain ⟨a, b, rfl⟩ : ∃ (a : Fin 512) (b : Fin 512), y = ix2 a b := ⟨y 0, y 1, by funext i; fin_cases i <;> rfl⟩
  rw [emb9 t ht]
  blk_simp
  rw [after0_9]
  refine (out10_at (iblk m c 0 t) (iblk m c 1 t) (iblk m c 5 t) (wt0 (F := Ideal) m c) (wt1 (F := Ideal) m c) (wt2 (F := Ideal) m c) (wt3 (F := Ideal) m c) a b).trans ?_
  refine Eq.trans ?_ (Cert.Reference2Ideal.Proj.out2_at _ _ _).symm
  exact congrArg (· * Ideal.ofBits .f32 0x3E38AA3B#32) (PR_eq m c t ht a _)

/-- A row and a column of a compute point's block of the keys, in the whole result. -/
theorem emb10 (t : Fin cfg0.N) (ht : 16 ≤ t.val) (a : Fin 512) (b : Fin 512) :
    ((cfg0.win 10).blk t).view.emb (ix2 a b) = (ix2 (row t a) b : S16384x512.Idx) := by
  unfold row
  blk_ext [idxC t ht]

/-- The keys, from the values the compute points leave. -/
theorem final10 (c : Dev nD) :
    (dats m 0 c).arrAt 10 (cfgs 0).N = Cert.Reference2Ideal.Proj.out3 (Cert.Reference2Ideal.Proj.proj (Cert.Reference2Ideal.Proj.FED (m (c, Proc.tc.devRef main_arg0)) (m (c, Proc.tc.devRef main_arg1)) (m (c, Proc.tc.devRef main_arg2)) (m (c, Proc.tc.devRef main_arg3)) (m (c, Proc.tc.devRef main_arg4))) (m (c, Proc.tc.devRef main_arg5)) (m (c, Proc.tc.devRef main_arg6))) := by
  refine (dats m 0 c).arrAt_eq_of_covers 10 _ (by decide +kernel) fun t hf y => ?_
  have ht := late10 t hf
  obtain ⟨a, b, rfl⟩ : ∃ (a : Fin 512) (b : Fin 512), y = ix2 a b := ⟨y 0, y 1, by funext i; fin_cases i <;> rfl⟩
  rw [emb10 t ht]
  blk_simp
  rw [after0_10]
  refine (out11_at (iblk m c 0 t) (iblk m c 1 t) (iblk m c 5 t) (wt0 (F := Ideal) m c) (wt1 (F := Ideal) m c) (wt2 (F := Ideal) m c) (wt3 (F := Ideal) m c) a b).trans ?_
  refine Eq.trans ?_ (Cert.Reference2Ideal.Proj.out3_at _ _ _).symm
  exact PR_eq m c t ht a _

/-- A row and a column of a compute point's block of the transposed values, in the whole result. -/
theorem emb11 (t : Fin cfg0.N) (ht : 16 ≤ t.val) (a : Fin 576) (b : Fin 512) :
    ((cfg0.win 11).blk t).view.emb (ix2 a b) = (ix2 a (row t b) : S576x16384.Idx) := by
  unfold row
  blk_ext [idxC t ht]

/-- The transposed values, from the values the compute points leave. -/
theorem final11 (c : Dev nD) :
    (dats m 0 c).arrAt 11 (cfgs 0).N = Cert.Reference2Ideal.Proj.out4 (Cert.Reference2Ideal.Proj.heads (Cert.Reference2Ideal.Proj.proj (Cert.Reference2Ideal.Proj.FED (m (c, Proc.tc.devRef main_arg0)) (m (c, Proc.tc.devRef main_arg1)) (m (c, Proc.tc.devRef main_arg2)) (m (c, Proc.tc.devRef main_arg3)) (m (c, Proc.tc.devRef main_arg4))) (m (c, Proc.tc.devRef main_arg5)) (m (c, Proc.tc.devRef main_arg6)))) Cert.Reference2Ideal.Proj.ones := by
  refine (dats m 0 c).arrAt_eq_of_covers 11 _ (by decide +kernel) fun t hf y => ?_
  have ht := late11 t hf
  obtain ⟨a, b, rfl⟩ : ∃ (a : Fin 576) (b : Fin 512), y = ix2 a b := ⟨y 0, y 1, by funext i; fin_cases i <;> rfl⟩
  rw [emb11 t ht]
  blk_simp
  rw [after0_11]
  refine (out12_at (iblk m c 0 t) (iblk m c 1 t) (iblk m c 5 t) (wt0 (F := Ideal) m c) (wt1 (F := Ideal) m c) (wt2 (F := Ideal) m c) (wt3 (F := Ideal) m c) a b).trans ?_
  exact VT_eq m c t ht a b

/-- A row and a column of a compute point's block of the first gate, in the whole result. -/
theorem emb12 (t : Fin cfg0.N) (ht : 16 ≤ t.val) (a : Fin 512) (b : Fin 1024) :
    ((cfg0.win 12).blk t).view.emb (ix2 a b) = (ix2 (row t a) b : S16384x1024.Idx) := by
  unfold row
  blk_ext [idxC t ht]

/-- The first gate, from the values the compute points leave. -/
theorem final12 (c : Dev nD) :
    (dats m 0 c).arrAt 12 (cfgs 0).N = Cert.Reference2Ideal.Proj.out5 (Cert.Reference2Ideal.Proj.proj (Cert.Reference2Ideal.Proj.FED (m (c, Proc.tc.devRef main_arg0)) (m (c, Proc.tc.devRef main_arg1)) (m (c, Proc.tc.devRef main_arg2)) (m (c, Proc.tc.devRef main_arg3)) (m (c, Proc.tc.devRef main_arg4))) (m (c, Proc.tc.devRef main_arg5)) (m (c, Proc.tc.devRef main_arg6))) := by
  refine (dats m 0 c).arrAt_eq_of_covers 12 _ (by decide +kernel) fun t hf y => ?_
  have ht := late12 t hf
  obtain ⟨a, b, rfl⟩ : ∃ (a : Fin 512) (b : Fin 1024), y = ix2 a b := ⟨y 0, y 1, by funext i; fin_cases i <;> rfl⟩
  rw [emb12 t ht]
  blk_simp
  rw [after0_12]
  refine (out13_at (iblk m c 0 t) (iblk m c 1 t) (iblk m c 5 t) (wt0 (F := Ideal) m c) (wt1 (F := Ideal) m c) (wt2 (F := Ideal) m c) (wt3 (F := Ideal) m c) a b).trans ?_
  refine Eq.trans ?_ (Cert.Reference2Ideal.Proj.out5_at _ _ _).symm
  exact congrArg Cert.Ffn.gate (PR_eq m c t ht a _)

/-- A row and a column of a compute point's block of the second gate, in the whole result. -/
theorem emb13 (t : Fin cfg0.N) (ht : 16 ≤ t.val) (a : Fin 512) (b : Fin 1024) :
    ((cfg0.win 13).blk t).view.emb (ix2 a b) = (ix2 (row t a) b : S16384x1024.Idx) := by
  unfold row
  blk_ext [idxC t ht]

/-- The second gate, from the values the compute points leave. -/
theorem final13 (c : Dev nD) :
    (dats m 0 c).arrAt 13 (cfgs 0).N = Cert.Reference2Ideal.Proj.out6 (Cert.Reference2Ideal.Proj.proj (Cert.Reference2Ideal.Proj.FED (m (c, Proc.tc.devRef main_arg0)) (m (c, Proc.tc.devRef main_arg1)) (m (c, Proc.tc.devRef main_arg2)) (m (c, Proc.tc.devRef main_arg3)) (m (c, Proc.tc.devRef main_arg4))) (m (c, Proc.tc.devRef main_arg5)) (m (c, Proc.tc.devRef main_arg6))) := by
  refine (dats m 0 c).arrAt_eq_of_covers 13 _ (by decide +kernel) fun t hf y => ?_
  have ht := late13 t hf
  obtain ⟨a, b, rfl⟩ : ∃ (a : Fin 512) (b : Fin 1024), y = ix2 a b := ⟨y 0, y 1, by funext i; fin_cases i <;> rfl⟩
  rw [emb13 t ht]
  blk_simp
  rw [after0_13]
  refine (out14_at (iblk m c 0 t) (iblk m c 1 t) (iblk m c 5 t) (wt0 (F := Ideal) m c) (wt1 (F := Ideal) m c) (wt2 (F := Ideal) m c) (wt3 (F := Ideal) m c) a b).trans ?_
  refine Eq.trans ?_ (Cert.Reference2Ideal.Proj.out6_at _ _ _).symm
  exact congrArg Cert.Ffn.gate (PR_eq m c t ht a _)

end Cert.Kernel2Ideal.Proj

end
-- ==== Proof.ClaimProj.lean ====
/- The half-step feed-forward with the projection: kernel and reference compute the same seven arrays over the extended reals. -/
module

public import proofs.«01_k».proof.Defs
public import proofs.«01_k».proof.Proof.ProjFrame
public import proofs.«01_k».proof.Proof.ProjValue
public import proofs.«01_k».proof.Proof.Gen.Reference2Ideal.Run
public import Idealize.ShloMosaic.Lib.Claim

@[expose] public section

set_option maxRecDepth 16384

noncomputable section

namespace Cert.Proof

open Idealize.ShloMosaic Idealize.ShloMosaic.TcCoe Idealize.SL.Sem

/-- The projection's kernel over the extended reals ends with its arguments unchanged and every counter at zero. -/
theorem frame_proj : Cert.quiescent_Kernel2Ideal :=
  fun m g _ => Cert.Kernel2Ideal.Proj.frame_any (F := Ideal) m g

/-- The reference of the projection ends with its arguments unchanged and every counter at zero. -/
theorem frame_ref_proj : Cert.quiescent_Reference2Ideal := by
  intro m g _
  exact (θ_run _ _ _).mono (fun r h => ⟨fun c => (h c).2.2.2.2.2.2.2, sem_eq_zero_of_no_sems (by decide) r.2⟩) (Cert.Reference2Ideal.Value.run m g)

/-- Kernel and reference of the projection end with equal results. -/
theorem algebraic_proj : Cert.algebraic_Kernel2Ideal_Reference2Ideal := by
  intro m g m' g' hpre hagree
  refine ⟨fun c => Cert.Reference2Ideal.Proj.out0 (Cert.Reference2Ideal.Proj.FED (m (c, Proc.tc.devRef Cert.Kernel2Ideal.main_arg0)) (m (c, Proc.tc.devRef Cert.Kernel2Ideal.main_arg1)) (m (c, Proc.tc.devRef Cert.Kernel2Ideal.main_arg2)) (m (c, Proc.tc.devRef Cert.Kernel2Ideal.main_arg3)) (m (c, Proc.tc.devRef Cert.Kernel2Ideal.main_arg4))),
    fun c => Cert.Reference2Ideal.Proj.out1 (Cert.Reference2Ideal.Proj.proj (Cert.Reference2Ideal.Proj.FED (m (c, Proc.tc.devRef Cert.Kernel2Ideal.main_arg0)) (m (c, Proc.tc.devRef Cert.Kernel2Ideal.main_arg1)) (m (c, Proc.tc.devRef Cert.Kernel2Ideal.main_arg2)) (m (c, Proc.tc.devRef Cert.Kernel2Ideal.main_arg3)) (m (c, Proc.tc.devRef Cert.Kernel2Ideal.main_arg4))) (m (c, Proc.tc.devRef Cert.Kernel2Ideal.main_arg5)) (m (c, Proc.tc.devRef Cert.Kernel2Ideal.main_arg6))),
    fun c => Cert.Reference2Ideal.Proj.out2 (Cert.Reference2Ideal.Proj.proj (Cert.Reference2Ideal.Proj.FED (m (c, Proc.tc.devRef Cert.Kernel2Ideal.main_arg0)) (m (c, Proc.tc.devRef Cert.Kernel2Ideal.main_arg1)) (m (c, Proc.tc.devRef Cert.Kernel2Ideal.main_arg2)) (m (c, Proc.tc.devRef Cert.Kernel2Ideal.main_arg3)) (m (c, Proc.tc.devRef Cert.Kernel2Ideal.main_arg4))) (m (c, Proc.tc.devRef Cert.Kernel2Ideal.main_arg5)) (m (c, Proc.tc.devRef Cert.Kernel2Ideal.main_arg6))),
    fun c => Cert.Reference2Ideal.Proj.out3 (Cert.Reference2Ideal.Proj.proj (Cert.Reference2Ideal.Proj.FED (m (c, Proc.tc.devRef Cert.Kernel2Ideal.main_arg0)) (m (c, Proc.tc.devRef Cert.Kernel2Ideal.main_arg1)) (m (c, Proc.tc.devRef Cert.Kernel2Ideal.main_arg2)) (m (c, Proc.tc.devRef Cert.Kernel2Ideal.main_arg3)) (m (c, Proc.tc.devRef Cert.Kernel2Ideal.main_arg4))) (m (c, Proc.tc.devRef Cert.Kernel2Ideal.main_arg5)) (m (c, Proc.tc.devRef Cert.Kernel2Ideal.main_arg6))),
    fun c => Cert.Reference2Ideal.Proj.out4 (Cert.Reference2Ideal.Proj.heads (Cert.Reference2Ideal.Proj.proj (Cert.Reference2Ideal.Proj.FED (m (c, Proc.tc.devRef Cert.Kernel2Ideal.main_arg0)) (m (c, Proc.tc.devRef Cert.Kernel2Ideal.main_arg1)) (m (c, Proc.tc.devRef Cert.Kernel2Ideal.main_arg2)) (m (c, Proc.tc.devRef Cert.Kernel2Ideal.main_arg3)) (m (c, Proc.tc.devRef Cert.Kernel2Ideal.main_arg4))) (m (c, Proc.tc.devRef Cert.Kernel2Ideal.main_arg5)) (m (c, Proc.tc.devRef Cert.Kernel2Ideal.main_arg6)))) Cert.Reference2Ideal.Proj.ones,
    fun c => Cert.Reference2Ideal.Proj.out5 (Cert.Reference2Ideal.Proj.proj (Cert.Reference2Ideal.Proj.FED (m (c, Proc.tc.devRef Cert.Kernel2Ideal.main_arg0)) (m (c, Proc.tc.devRef Cert.Kernel2Ideal.main_arg1)) (m (c, Proc.tc.devRef Cert.Kernel2Ideal.main_arg2)) (m (c, Proc.tc.devRef Cert.Kernel2Ideal.main_arg3)) (m (c, Proc.tc.devRef Cert.Kernel2Ideal.main_arg4))) (m (c, Proc.tc.devRef Cert.Kernel2Ideal.main_arg5)) (m (c, Proc.tc.devRef Cert.Kernel2Ideal.main_arg6))),
    fun c => Cert.Reference2Ideal.Proj.out6 (Cert.Reference2Ideal.Proj.proj (Cert.Reference2Ideal.Proj.FED (m (c, Proc.tc.devRef Cert.Kernel2Ideal.main_arg0)) (m (c, Proc.tc.devRef Cert.Kernel2Ideal.main_arg1)) (m (c, Proc.tc.devRef Cert.Kernel2Ideal.main_arg2)) (m (c, Proc.tc.devRef Cert.Kernel2Ideal.main_arg3)) (m (c, Proc.tc.devRef Cert.Kernel2Ideal.main_arg4))) (m (c, Proc.tc.devRef Cert.Kernel2Ideal.main_arg5)) (m (c, Proc.tc.devRef Cert.Kernel2Ideal.main_arg6))),
    (θ_run Cert.Kernel2Ideal.defs _ _).mono (fun r h c => ⟨((h c).1 7).trans (Cert.Kernel2Ideal.Proj.final7 m c),
      ((h c).1 8).trans (Cert.Kernel2Ideal.Proj.final8 m c),
      ((h c).1 9).trans (Cert.Kernel2Ideal.Proj.final9 m c),
      ((h c).1 10).trans (Cert.Kernel2Ideal.Proj.final10 m c),
      ((h c).1 11).trans (Cert.Kernel2Ideal.Proj.final11 m c),
      ((h c).1 12).trans (Cert.Kernel2Ideal.Proj.final12 m c),
      ((h c).1 13).trans (Cert.Kernel2Ideal.Proj.final13 m c),
      ((h c).2 Cert.Kernel2Ideal.main_arg0 (Pipeline.mem_restRefs_of Cert.Kernel2Ideal.main_arg0 (by decide) (by decide))).trans (Cert.Kernel2Ideal.Gen.V_main_arg0 m c),
      ((h c).2 Cert.Kernel2Ideal.main_arg1 (Pipeline.mem_restRefs_of Cert.Kernel2Ideal.main_arg1 (by decide) (by decide))).trans (Cert.Kernel2Ideal.Gen.V_main_arg1 m c),
      ((h c).2 Cert.Kernel2Ideal.main_arg2 (Pipeline.mem_restRefs_of Cert.Kernel2Ideal.main_arg2 (by decide) (by decide))).trans (Cert.Kernel2Ideal.Gen.V_main_arg2 m c),
      ((h c).2 Cert.Kernel2Ideal.main_arg3 (Pipeline.mem_restRefs_of Cert.Kernel2Ideal.main_arg3 (by decide) (by decide))).trans (Cert.Kernel2Ideal.Gen.V_main_arg3 m c),
      ((h c).2 Cert.Kernel2Ideal.main_arg4 (Pipeline.mem_restRefs_of Cert.Kernel2Ideal.main_arg4 (by decide) (by decide))).trans (Cert.Kernel2Ideal.Gen.V_main_arg4 m c),
      ((h c).2 Cert.Kernel2Ideal.main_arg5 (Pipeline.mem_restRefs_of Cert.Kernel2Ideal.main_arg5 (by decide) (by decide))).trans (Cert.Kernel2Ideal.Gen.V_main_arg5 m c),
      ((h c).2 Cert.Kernel2Ideal.main_arg6 (Pipeline.mem_restRefs_of Cert.Kernel2Ideal.main_arg6 (by decide) (by decide))).trans (Cert.Kernel2Ideal.Gen.V_main_arg6 m c)⟩) (Cert.Kernel2Ideal.Proj.run_main (F := Ideal) m g), ?_⟩
  refine (θ_run _ _ _).mono (fun r h c => ?_) (Cert.Reference2Ideal.Value.run m' g')
  obtain ⟨e0, e1, e2, e3, e4, e5, e6, ea⟩ := h c
  obtain ⟨h0, h1, h2, h3, h4, h5, h6⟩ := hagree c
  have hf : Cert.Reference2Ideal.Proj.fedOf m' c = (Cert.Reference2Ideal.Proj.FED (m (c, Proc.tc.devRef Cert.Kernel2Ideal.main_arg0)) (m (c, Proc.tc.devRef Cert.Kernel2Ideal.main_arg1)) (m (c, Proc.tc.devRef Cert.Kernel2Ideal.main_arg2)) (m (c, Proc.tc.devRef Cert.Kernel2Ideal.main_arg3)) (m (c, Proc.tc.devRef Cert.Kernel2Ideal.main_arg4))) := by
    unfold Cert.Reference2Ideal.Proj.fedOf
    rw [h0, h1, h2, h3, h4]
  have hp : Cert.Reference2Ideal.Proj.projOf m' c = (Cert.Reference2Ideal.Proj.proj (Cert.Reference2Ideal.Proj.FED (m (c, Proc.tc.devRef Cert.Kernel2Ideal.main_arg0)) (m (c, Proc.tc.devRef Cert.Kernel2Ideal.main_arg1)) (m (c, Proc.tc.devRef Cert.Kernel2Ideal.main_arg2)) (m (c, Proc.tc.devRef Cert.Kernel2Ideal.main_arg3)) (m (c, Proc.tc.devRef Cert.Kernel2Ideal.main_arg4))) (m (c, Proc.tc.devRef Cert.Kernel2Ideal.main_arg5)) (m (c, Proc.tc.devRef Cert.Kernel2Ideal.main_arg6))) := by
    unfold Cert.Reference2Ideal.Proj.projOf
    rw [hf, h5, h6]
  exact ⟨e0.trans (congrArg Cert.Reference2Ideal.Proj.out0 hf), e1.trans (congrArg Cert.Reference2Ideal.Proj.out1 hp), e2.trans (congrArg Cert.Reference2Ideal.Proj.out2 hp),
    e3.trans (congrArg Cert.Reference2Ideal.Proj.out3 hp), e4.trans (congrArg (fun p => Cert.Reference2Ideal.Proj.out4 (Cert.Reference2Ideal.Proj.heads p) Cert.Reference2Ideal.Proj.ones) hp),
    e5.trans (congrArg Cert.Reference2Ideal.Proj.out5 hp), e6.trans (congrArg Cert.Reference2Ideal.Proj.out6 hp), ea⟩

end Cert.Proof

end
-- ==== Proof.lean ====
module

public import proofs.«01_k».proof.Defs
public import proofs.«01_k».proof.Proof.Gen.Kernel.Frame
public import proofs.«01_k».proof.Proof.Gen.KernelIdeal.Frame
public import proofs.«01_k».proof.Proof.Gen.Kernel3.Frame
public import proofs.«01_k».proof.Proof.Gen.Kernel3Ideal.Frame
public import proofs.«01_k».proof.Proof.Gen.Pre_finite
public import proofs.«01_k».proof.Proof.ClaimFourier
public import proofs.«01_k».proof.Proof.ClaimMix
public import proofs.«01_k».proof.Proof.Gen.Kernel2
public import proofs.«01_k».proof.Proof.ProjBoth
public import proofs.«01_k».proof.Proof.ClaimProj

@[expose] public section

noncomputable section

namespace Cert.Proof

open Idealize.ShloMosaic Idealize.SL.Sem

/-- Every claim of the certificate. -/
theorem claim : Cert.Claim :=
  ⟨Cert.Kernel.Gen.facts, Cert.KernelIdeal.Gen.facts, Cert.ReferenceIdeal.Gen.facts,
   Cert.Kernel2.Gen.facts, Cert.Kernel2Ideal.Gen.facts, Cert.Reference2Ideal.Gen.facts,
   Cert.Kernel3.Gen.facts, Cert.Kernel3Ideal.Gen.facts, Cert.Reference3Ideal.Gen.facts, Cert.Pre_finite.Gen.facts,
   fun m ρ _ => Cert.Kernel.Gen.frame m ρ,
   fun m ρ _ => Cert.KernelIdeal.Gen.frame m ρ,
   fun m ρ _ => Cert.KernelIdeal.Gen.frame m ρ,
   frame_ref_fourier, frame_ref_fourier_pre,
   @Cert.Kernel2.Proj.frame_proj_bits Cert.Kernel2.Gen.facts Cert.Kernel2Ideal.Gen.facts,
   frame_proj, frame_ref_proj,
   fun m ρ _ => Cert.Kernel3.Gen.frame m ρ,
   fun m ρ _ => Cert.Kernel3Ideal.Gen.frame m ρ,
   frame_ref_mix,
   trivial, algebraic_fourier,
   trivial, algebraic_proj,
   trivial, algebraic_mix⟩

end Cert.Proof

end
